-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v46_7)) (v1 : (c : Dev Cert.Kernel3Ideal.nD) → Buf (Elt Ideal) ((c.tc : Thread Cert.Kernel3Ideal.nD Cert.Kernel3Ideal.τ).loc Cert.Kernel3Ideal.main_v46_8)) (v2 : (c : Dev Cert.Kernel3Ideal.nD) → Buf (Elt Ideal) ((c.tc : Thread Cert.Kernel3Ideal.nD Cert.Kernel3Ideal.τ).loc Cert.Kernel3Ideal.main_v46_9)) (v3 : (c : Dev Cert.Kernel3Ideal.nD) → Buf (Elt Ideal) ((c.tc : Thread Cert.Kernel3Ideal.nD Cert.Kernel3Ideal.τ).loc Cert.Kernel3Ideal.main_v46_11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v46_7) = v0 c
          ∧ r.2.mem ((c.tc : Thread Cert.Kernel3Ideal.nD Cert.Kernel3Ideal.τ).loc Cert.Kernel3Ideal.main_v46_8) = v1 c
          ∧ r.2.mem ((c.tc : Thread Cert.Kernel3Ideal.nD Cert.Kernel3Ideal.τ).loc Cert.Kernel3Ideal.main_v46_9) = v2 c
          ∧ r.2.mem ((c.tc : Thread Cert.Kernel3Ideal.nD Cert.Kernel3Ideal.τ).loc Cert.Kernel3Ideal.main_v46_11) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v82) = v0 c
          ∧ r.2.mem ((c.tc : Thread Cert.Reference3Ideal.nD Cert.Reference3Ideal.τ).loc Cert.Reference3Ideal.main_v81) = v1 c
          ∧ r.2.mem ((c.tc : Thread Cert.Reference3Ideal.nD Cert.Reference3Ideal.τ).loc Cert.Reference3Ideal.main_v56) = v2 c
          ∧ r.2.mem ((c.tc : Thread Cert.Reference3Ideal.nD Cert.Reference3Ideal.τ).loc Cert.Reference3Ideal.main_v30) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S16x2112x1024 : Shape := ⟨3, ![16, 2112, 1024]⟩
abbrev S16x2112x512 : Shape := ⟨3, ![16, 2112, 512]⟩
abbrev S4x1024x1024 : Shape := ⟨3, ![4, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1024 : Shape := ⟨1, ![1024]⟩
abbrev S1x1024 : Shape := ⟨2, ![1, 1024]⟩
abbrev S16x2048x1024 : Shape := ⟨3, ![16, 2048, 1024]⟩
abbrev S1x512x1024 : Shape := ⟨3, ![1, 512, 1024]⟩
abbrev S1x512x512 : Shape := ⟨3, ![1, 512, 512]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩
abbrev S1x768x1024 : Shape := ⟨3, ![1, 768, 1024]⟩
abbrev S768x1024 : Shape := ⟨2, ![768, 1024]⟩
abbrev S1x1024x512 : Shape := ⟨3, ![1, 1024, 512]⟩
abbrev S1024x512 : Shape := ⟨2, ![1024, 512]⟩

abbrev nBuf : Space → Nat
  | .hbm => 16
  | .vmem => 14
  | .smem => 0
  | _ => 0

abbrev bufTy : (tb : Table) → Fin (tcTables nBuf tb) → BufTy
  | .hbm, ⟨0, _⟩ => ⟨S16x2112x1024, .f32⟩
  | .hbm, ⟨1, _⟩ => ⟨S16x2112x512, .f32⟩
  | .hbm, ⟨2, _⟩ => ⟨S16x2112x512, .f32⟩
  | .hbm, ⟨3, _⟩ => ⟨S4x1024x1024, .f32⟩
  | .hbm, ⟨4, _⟩ => ⟨S4x1024, .f32⟩
  | .hbm, ⟨5, _⟩ => ⟨S4x1024x5632, .f32⟩
  | .hbm, ⟨6, _⟩ => ⟨S4x2816x1024, .f32⟩
  | .hbm, ⟨7, _⟩ => ⟨S1024, .f32⟩
  | .hbm, ⟨8, _⟩ => ⟨S4x1024x1024, .bf16⟩
  | .hbm, ⟨9, _⟩ => ⟨S4x1024x5632, .bf16⟩
  | .hbm, ⟨10, _⟩ => ⟨S4x2816x1024, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x1024x1024, .bf16⟩
  | .local _ .vmem, ⟨7, _⟩ => ⟨S1x1024, .f32⟩
  | .local _ .vmem, ⟨8, _⟩ => ⟨S1x1024x2816, .bf16⟩
  | .local _ .vmem, ⟨9, _⟩ => ⟨S1x1024x2816, .bf16⟩
  | .local _ .vmem, ⟨10, _⟩ => ⟨S1x2816x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | _, _ => ⟨S16x2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let c16_i32 : BitVec 32 := 16#32
  let arg1 : BitVec 32 := BitVec.ofNat 32 (i 1).val
  let c512_i32 : BitVec 32 := 512#32
  let v0 : BitVec 32 := Scalar.muli arg1 c512_i32
  let v1 : BitVec 32 := Scalar.addi c16_i32 v0
  v1
def k0_mult2 (i : grid0.Coords) : BitVec 32 :=
  let c16_i32 : BitVec 32 := 16#32
  let arg1 : BitVec 32 := BitVec.ofNat 32 (i 1).val
  let c512_i32 : BitVec 32 := 512#32
  let v0 : BitVec 32 := Scalar.muli arg1 c512_i32
  let v1 : BitVec 32 := Scalar.addi c16_i32 v0
  v1
def k0_mult3 (i : grid0.Coords) : BitVec 32 :=
  let c16_i32 : BitVec 32 := 16#32
  let arg1 : BitVec 32 := BitVec.ofNat 32 (i 1).val
  let c512_i32 : BitVec 32 := 512#32
  let v0 : BitVec 32 := Scalar.muli arg1 c512_i32
  let v1 : BitVec 32 := Scalar.addi c16_i32 v0
  v1
def cc0_transform_0 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c16_i32 : BitVec 32 := 16#32
  let v1 : BitVec 32 := Scalar.addi c16_i32 v0
  let v2 : BitVec 32 := v1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c16_i32 : BitVec 32 := 16#32
  let v1 : BitVec 32 := Scalar.addi c16_i32 v0
  let v2 : BitVec 32 := v1
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c16_i32 : BitVec 32 := 16#32
  let v1 : BitVec 32 := Scalar.addi c16_i32 v0
  let v2 : BitVec 32 := v1
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c1_i32 : BitVec 32 := 1#32
  let c0_i32_0 : BitVec 32 := 0#32
  ![c3_i32.toNat, c0_i32.toNat, c1_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S16x2112x1024 : Shape := ⟨3, ![16, 2112, 1024]⟩
abbrev S16x2112x512 : Shape := ⟨3, ![16, 2112, 512]⟩
abbrev S4x1024x1024 : Shape := ⟨3, ![4, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S16x2112 : Shape := ⟨2, ![16, 2112]⟩
abbrev S16x2112x1 : Shape := ⟨3, ![16, 2112, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S16x2112x5632 : Shape := ⟨3, ![16, 2112, 5632]⟩
abbrev S16x2112x2816 : Shape := ⟨3, ![16, 2112, 2816]⟩
abbrev S1x2816x1024 : Shape := ⟨3, ![1, 2816, 1024]⟩
abbrev S2816x1024 : Shape := ⟨2, ![2816, 1024]⟩
abbrev S16x2048x1024 : Shape := ⟨3, ![16, 2048, 1024]⟩

abbrev nBuf : Space → Nat
  | .hbm => 67
  | .vmem => 0
  | .smem => 0
  | _ => 0

abbrev bufTy : (tb : Table) → Fin (tcTables nBuf tb) → BufTy
  | .hbm, ⟨0, _⟩ => ⟨S16x2112x1024, .f32⟩
  | .hbm, ⟨1, _⟩ => ⟨S16x2112x512, .f32⟩
  | .hbm, ⟨2, _⟩ => ⟨S16x2112x512, .f32⟩
  | .hbm, ⟨3, _⟩ => ⟨S4x1024x1024, .f32⟩
  | .hbm, ⟨4, _⟩ => ⟨S4x1024, .f32⟩
  | .hbm, ⟨5, _⟩ => ⟨S4x1024x5632, .f32⟩
  | .hbm, ⟨6, _⟩ => ⟨S4x2816x1024, .f32⟩
  | .hbm, ⟨7, _⟩ => ⟨S1024, .f32⟩
  | .hbm, ⟨8, _⟩ => ⟨S16x2112x1024, .f32⟩
  | .hbm, ⟨9, _⟩ => ⟨S1x1024x1024, .f32⟩
  | .hbm, ⟨10, _⟩ => ⟨S1024x1024, .f32⟩
  | .hbm, ⟨11, _⟩ => ⟨S16x2112x1024, .f32⟩
  | .hbm, ⟨12, _⟩ => ⟨S16x2112x1024, .f32⟩
  | .hbm, ⟨13, _⟩ => ⟨S1x1024, .f32⟩
  | .hbm, ⟨14, _⟩ => ⟨S1024, .f32⟩
  | .hbm, ⟨15, _⟩ => ⟨S16x2112x1024, .f32⟩
  | .hbm, ⟨16, _⟩ => ⟨S_, .f32⟩
  | .hbm, ⟨17, _⟩ => ⟨S16x2112, .f32⟩
  | .hbm, ⟨18, _⟩ => ⟨S16x2112x1, .f32⟩
  | .hbm, ⟨19, _⟩ => ⟨S_, .f32⟩
  | .hbm, ⟨20, _⟩ => ⟨S16x2112x1, .f32⟩
  | .hbm, ⟨21, _⟩ => ⟨S16x2112x1, .f32⟩
  | .hbm, ⟨22, _⟩ => ⟨S_, .f32⟩
  | .hbm, ⟨23, _⟩ => ⟨S16x2112x1, .f32⟩
  | .hbm, ⟨24, _⟩ => ⟨S16x2112x1, .f32⟩
  | .hbm, ⟨25, _⟩ => ⟨S16x2112x1, .f32⟩
  | .hbm, ⟨26, _⟩ => ⟨S16x2112x1024, .f32⟩
  | .hbm, ⟨27, _⟩ => ⟨S16x2112x1024, .f32⟩
  | .hbm, ⟨28, _⟩ => ⟨S1x1x1024, .f32⟩
  | .hbm, ⟨29, _⟩ => ⟨S16x2112x1024, .f32⟩
  | .hbm, ⟨30, _⟩ => ⟨S16x2112x1024, .f32⟩
  | .hbm, ⟨31, _⟩ => ⟨S1x1024x5632, .f32⟩
  | .hbm, ⟨32, _⟩ => ⟨S1024x5632, .f32⟩
  | .hbm, ⟨33, _⟩ => ⟨S16x2112x5632, .f32⟩
  | .hbm, ⟨34, _⟩ => ⟨S16x2112x2816, .f32⟩
  | .hbm, ⟨35, _⟩ => ⟨S16x2112x2816, .f32⟩
  | .hbm, ⟨36, _⟩ => ⟨S16x2112x2816, .f32⟩
  | .hbm, ⟨37, _⟩ => ⟨S16x2112x2816, .f32⟩
  | .hbm, ⟨38, _⟩ => ⟨S_, .f32⟩
  | .hbm, ⟨39, _⟩ => ⟨S16x2112x2816, .f32⟩
  | .hbm, ⟨40, _⟩ => ⟨S16x2112x2816, .f32⟩
  | .hbm, ⟨41, _⟩ => ⟨S_, .f32⟩
  | .hbm, ⟨42, _⟩ => ⟨S16x2112x2816, .f32⟩
  | .hbm, ⟨43, _⟩ => ⟨S16x2112x2816, .f32⟩
  | .hbm, ⟨44, _⟩ => ⟨S16x2112x2816, .f32⟩
  | .hbm, ⟨45, _⟩ => ⟨S16x2112x2816, .f32⟩
  | .hbm, ⟨46, _⟩ => ⟨S1x2816x1024, .f32⟩
  | .hbm, ⟨47, _⟩ => ⟨S2816x1024, .f32⟩
  | .hbm, ⟨48, _⟩ => ⟨S16x2112x1024, .f32⟩
  | .hbm, ⟨49, _⟩ => ⟨S16x2112x1024, .f32⟩
  | .hbm, ⟨50, _⟩ => ⟨S16x2112x1024, .f32⟩
  | .hbm, ⟨51, _⟩ => ⟨S_, .f32⟩
  | .hbm, ⟨52, _⟩ => ⟨S16x2112, .f32⟩
  | .hbm, ⟨53, _⟩ => ⟨S16x2112x1, .f32⟩
  | .hbm, ⟨54, _⟩ => ⟨S_, .f32⟩
  | .hbm, ⟨55, _⟩ => ⟨S16x2112x1, .f32⟩
  | .hbm, ⟨56, _⟩ => ⟨S16x2112x1, .f32⟩
  | .hbm, ⟨57, _⟩ => ⟨S_, .f32⟩
  | .hbm, ⟨58, _⟩ => ⟨S16x2112x1, .f32⟩
  | .hbm, ⟨59, _⟩ => ⟨S16x2112x1, .f32⟩
  | .hbm, ⟨60, _⟩ => ⟨S16x2112x1, .f32⟩
  | .hbm, ⟨61, _⟩ => ⟨S16x2112x1024, .f32⟩
  | .hbm, ⟨62, _⟩ => ⟨S16x2112x1024, .f32⟩
  | .hbm, ⟨63, _⟩ => ⟨S1x1x1024, .f32⟩
  | .hbm, ⟨64, _⟩ => ⟨S16x2112x1024, .f32⟩
  | .hbm, ⟨65, _⟩ => ⟨S16x2112x1024, .f32⟩
  | .hbm, ⟨66, _⟩ => ⟨S16x2048x1024, .f32⟩
  | _, _ => ⟨S16x2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_2 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]
-- ==== Kernel2.lean ====
abbrev S16x2112x1024 : Shape := ⟨3, ![16, 2112, 1024]⟩
abbrev S16x2112x512 : Shape := ⟨3, ![16, 2112, 512]⟩
abbrev S4x1024x1024 : Shape := ⟨3, ![4, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1024 : Shape := ⟨1, ![1024]⟩
abbrev S1x1024 : Shape := ⟨2, ![1, 1024]⟩
abbrev S33792x1024 : Shape := ⟨2, ![33792, 1024]⟩
abbrev S33792x512 : Shape := ⟨2, ![33792, 512]⟩
abbrev S512x1024 : Shape := ⟨2, ![512, 1024]⟩
abbrev S512x512 : Shape := ⟨2, ![512, 512]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1x512x1024 : Shape := ⟨3, ![1, 512, 1024]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩
abbrev S1x768x1024 : Shape := ⟨3, ![1, 768, 1024]⟩
abbrev S768x1024 : Shape := ⟨2, ![768, 1024]⟩
abbrev S1x1024x512 : Shape := ⟨3, ![1, 1024, 512]⟩
abbrev S1024x512 : Shape := ⟨2, ![1024, 512]⟩

abbrev nBuf : Space → Nat
  | .hbm => 19
  | .vmem => 14
  | .smem => 0
  | _ => 0

abbrev bufTy : (tb : Table) → Fin (tcTables nBuf tb) → BufTy
  | .hbm, ⟨0, _⟩ => ⟨S16x2112x1024, .f32⟩
  | .hbm, ⟨1, _⟩ => ⟨S16x2112x512, .f32⟩
  | .hbm, ⟨2, _⟩ => ⟨S16x2112x512, .f32⟩
  | .hbm, ⟨3, _⟩ => ⟨S4x1024x1024, .f32⟩
  | .hbm, ⟨4, _⟩ => ⟨S4x1024, .f32⟩
  | .hbm, ⟨5, _⟩ => ⟨S4x1024x5632, .f32⟩
  | .hbm, ⟨6, _⟩ => ⟨S4x2816x1024, .f32⟩
  | .hbm, ⟨7, _⟩ => ⟨S1024, .f32⟩
  | .hbm, ⟨8, _⟩ => ⟨S4x1024x1024, .bf16⟩
  | .hbm, ⟨9, _⟩ => ⟨S4x1024x5632, .bf16⟩
  | .hbm, ⟨10, _⟩ => ⟨S4x2816x1024, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S33792x1024, .f32⟩
  | .hbm, ⟨16, _⟩ => ⟨S33792x512, .f32⟩
  | .hbm, ⟨17, _⟩ => ⟨S33792x512, .f32⟩
  | .hbm, ⟨18, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x1024x1024, .bf16⟩
  | .local _ .vmem, ⟨7, _⟩ => ⟨S1x1024, .f32⟩
  | .local _ .vmem, ⟨8, _⟩ => ⟨S1x1024x2816, .bf16⟩
  | .local _ .vmem, ⟨9, _⟩ => ⟨S1x1024x2816, .bf16⟩
  | .local _ .vmem, ⟨10, _⟩ => ⟨S1x2816x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S16x2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16x2112x1024 : Shape := ⟨3, ![16, 2112, 1024]⟩
abbrev S16x2112x512 : Shape := ⟨3, ![16, 2112, 512]⟩
abbrev S4x1024x1024 : Shape := ⟨3, ![4, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S16x2112 : Shape := ⟨2, ![16, 2112]⟩
abbrev S16x2112x1 : Shape := ⟨3, ![16, 2112, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S16x2112x5632 : Shape := ⟨3, ![16, 2112, 5632]⟩
abbrev S16x2112x2816 : Shape := ⟨3, ![16, 2112, 2816]⟩
abbrev S1x2816x1024 : Shape := ⟨3, ![1, 2816, 1024]⟩
abbrev S2816x1024 : Shape := ⟨2, ![2816, 1024]⟩
abbrev S33792x1024 : Shape := ⟨2, ![33792, 1024]⟩

abbrev nBuf : Space → Nat
  | .hbm => 51
  | .vmem => 0
  | .smem => 0
  | _ => 0

abbrev bufTy : (tb : Table) → Fin (tcTables nBuf tb) → BufTy
  | .hbm, ⟨0, _⟩ => ⟨S16x2112x1024, .f32⟩
  | .hbm, ⟨1, _⟩ => ⟨S16x2112x512, .f32⟩
  | .hbm, ⟨2, _⟩ => ⟨S16x2112x512, .f32⟩
  | .hbm, ⟨3, _⟩ => ⟨S4x1024x1024, .f32⟩
  | .hbm, ⟨4, _⟩ => ⟨S4x1024, .f32⟩
  | .hbm, ⟨5, _⟩ => ⟨S4x1024x5632, .f32⟩
  | .hbm, ⟨6, _⟩ => ⟨S4x2816x1024, .f32⟩
  | .hbm, ⟨7, _⟩ => ⟨S1024, .f32⟩
  | .hbm, ⟨8, _⟩ => ⟨S16x2112x1024, .f32⟩
  | .hbm, ⟨9, _⟩ => ⟨S1x1024x1024, .f32⟩
  | .hbm, ⟨10, _⟩ => ⟨S1024x1024, .f32⟩
  | .hbm, ⟨11, _⟩ => ⟨S16x2112x1024, .f32⟩
  | .hbm, ⟨12, _⟩ => ⟨S16x2112x1024, .f32⟩
  | .hbm, ⟨13, _⟩ => ⟨S1x1024, .f32⟩
  | .hbm, ⟨14, _⟩ => ⟨S1024, .f32⟩
  | .hbm, ⟨15, _⟩ => ⟨S16x2112x1024, .f32⟩
  | .hbm, ⟨16, _⟩ => ⟨S_, .f32⟩
  | .hbm, ⟨17, _⟩ => ⟨S16x2112, .f32⟩
  | .hbm, ⟨18, _⟩ => ⟨S16x2112x1, .f32⟩
  | .hbm, ⟨19, _⟩ => ⟨S_, .f32⟩
  | .hbm, ⟨20, _⟩ => ⟨S16x2112x1, .f32⟩
  | .hbm, ⟨21, _⟩ => ⟨S16x2112x1, .f32⟩
  | .hbm, ⟨22, _⟩ => ⟨S_, .f32⟩
  | .hbm, ⟨23, _⟩ => ⟨S16x2112x1, .f32⟩
  | .hbm, ⟨24, _⟩ => ⟨S16x2112x1, .f32⟩
  | .hbm, ⟨25, _⟩ => ⟨S16x2112x1, .f32⟩
  | .hbm, ⟨26, _⟩ => ⟨S16x2112x1024, .f32⟩
  | .hbm, ⟨27, _⟩ => ⟨S16x2112x1024, .f32⟩
  | .hbm, ⟨28, _⟩ => ⟨S1x1x1024, .f32⟩
  | .hbm, ⟨29, _⟩ => ⟨S16x2112x1024, .f32⟩
  | .hbm, ⟨30, _⟩ => ⟨S16x2112x1024, .f32⟩
  | .hbm, ⟨31, _⟩ => ⟨S1x1024x5632, .f32⟩
  | .hbm, ⟨32, _⟩ => ⟨S1024x5632, .f32⟩
  | .hbm, ⟨33, _⟩ => ⟨S16x2112x5632, .f32⟩
  | .hbm, ⟨34, _⟩ => ⟨S16x2112x2816, .f32⟩
  | .hbm, ⟨35, _⟩ => ⟨S16x2112x2816, .f32⟩
  | .hbm, ⟨36, _⟩ => ⟨S16x2112x2816, .f32⟩
  | .hbm, ⟨37, _⟩ => ⟨S16x2112x2816, .f32⟩
  | .hbm, ⟨38, _⟩ => ⟨S_, .f32⟩
  | .hbm, ⟨39, _⟩ => ⟨S16x2112x2816, .f32⟩
  | .hbm, ⟨40, _⟩ => ⟨S16x2112x2816, .f32⟩
  | .hbm, ⟨41, _⟩ => ⟨S_, .f32⟩
  | .hbm, ⟨42, _⟩ => ⟨S16x2112x2816, .f32⟩
  | .hbm, ⟨43, _⟩ => ⟨S16x2112x2816, .f32⟩
  | .hbm, ⟨44, _⟩ => ⟨S16x2112x2816, .f32⟩
  | .hbm, ⟨45, _⟩ => ⟨S16x2112x2816, .f32⟩
  | .hbm, ⟨46, _⟩ => ⟨S1x2816x1024, .f32⟩
  | .hbm, ⟨47, _⟩ => ⟨S2816x1024, .f32⟩
  | .hbm, ⟨48, _⟩ => ⟨S16x2112x1024, .f32⟩
  | .hbm, ⟨49, _⟩ => ⟨S16x2112x1024, .f32⟩
  | .hbm, ⟨50, _⟩ => ⟨S33792x1024, .f32⟩
  | _, _ => ⟨S16x2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== Kernel3.lean ====
abbrev S16x2112x1024 : Shape := ⟨3, ![16, 2112, 1024]⟩
abbrev S4x1024 : Shape := ⟨2, ![4, 1024]⟩
abbrev S4x1024x2336 : Shape := ⟨3, ![4, 1024, 2336]⟩
abbrev S4x1824 : Shape := ⟨2, ![4, 1824]⟩
abbrev S4x4x128x128 : Shape := ⟨4, ![4, 4, 128, 128]⟩
abbrev S4x512 : Shape := ⟨2, ![4, 512]⟩
abbrev S4x64x512 : Shape := ⟨3, ![4, 64, 512]⟩
abbrev S4x160x512 : Shape := ⟨3, ![4, 160, 512]⟩
abbrev S1x1024x2336 : Shape := ⟨3, ![1, 1024, 2336]⟩
abbrev S1024x2336 : Shape := ⟨2, ![1024, 2336]⟩
abbrev S_ : Shape := ⟨0, ![]⟩
abbrev S512 : Shape := ⟨1, ![512]⟩
abbrev S1x1824 : Shape := ⟨2, ![1, 1824]⟩
abbrev S1824 : Shape := ⟨1, ![1824]⟩
abbrev S1024x2432 : Shape := ⟨2, ![1024, 2432]⟩
abbrev S2336 : Shape := ⟨1, ![2336]⟩
abbrev S2432 : Shape := ⟨1, ![2432]⟩
abbrev S1x2432 : Shape := ⟨2, ![1, 2432]⟩
abbrev S1x64x512 : Shape := ⟨3, ![1, 64, 512]⟩
abbrev S64x512 : Shape := ⟨2, ![64, 512]⟩
abbrev S128x512 : Shape := ⟨2, ![128, 512]⟩
abbrev S1x160x512 : Shape := ⟨3, ![1, 160, 512]⟩
abbrev S160x512 : Shape := ⟨2, ![160, 512]⟩
abbrev S256x512 : Shape := ⟨2, ![256, 512]⟩
abbrev S1x1024 : Shape := ⟨2, ![1, 1024]⟩
abbrev S1024 : Shape := ⟨1, ![1024]⟩
abbrev S1x4x128x128 : Shape := ⟨4, ![1, 4, 128, 128]⟩
abbrev S4x128x128 : Shape := ⟨3, ![4, 128, 128]⟩
abbrev S1x512 : Shape := ⟨2, ![1, 512]⟩
abbrev S16x2112x512 : Shape := ⟨3, ![16, 2112, 512]⟩
abbrev S16x264x512 : Shape := ⟨3, ![16, 264, 512]⟩
abbrev S1x192x1024 : Shape := ⟨3, ![1, 192, 1024]⟩
abbrev S1x192x512 : Shape := ⟨3, ![1, 192, 512]⟩
abbrev S1x24x512 : Shape := ⟨3, ![1, 24, 512]⟩
abbrev S208x2432 : Shape := ⟨2, ![208, 2432]⟩
abbrev S2x5x192x512 : Shape := ⟨4, ![2, 5, 192, 512]⟩
abbrev S16x2432 : Shape := ⟨2, ![16, 2432]⟩
abbrev S1x5x192x512 : Shape := ⟨4, ![1, 5, 192, 512]⟩
abbrev S5x192x512 : Shape := ⟨3, ![5, 192, 512]⟩
abbrev S192x512 : Shape := ⟨2, ![192, 512]⟩
abbrev S64x64 : Shape := ⟨2, ![64, 64]⟩
abbrev S8x512 : Shape := ⟨2, ![8, 512]⟩
abbrev S1x8x512 : Shape := ⟨3, ![1, 8, 512]⟩
abbrev S192x128 : Shape := ⟨2, ![192, 128]⟩
abbrev S192x64 : Shape := ⟨2, ![192, 64]⟩
abbrev S192 : Shape := ⟨1, ![192]⟩
abbrev S192x1 : Shape := ⟨2, ![192, 1]⟩
abbrev S192x1024 : Shape := ⟨2, ![192, 1024]⟩
abbrev S192x2432 : Shape := ⟨2, ![192, 2432]⟩
abbrev S208x128 : Shape := ⟨2, ![208, 128]⟩
abbrev S1x128x128 : Shape := ⟨3, ![1, 128, 128]⟩
abbrev S128x128 : Shape := ⟨2, ![128, 128]⟩
abbrev S1x128 : Shape := ⟨2, ![1, 128]⟩
abbrev S1x192x128 : Shape := ⟨3, ![1, 192, 128]⟩
abbrev S192x256 : Shape := ⟨2, ![192, 256]⟩
abbrev S1x256 : Shape := ⟨2, ![1, 256]⟩

abbrev nBuf : Space → Nat
  | .hbm => 83
  | .vmem => 41
  | .smem => 0
  | _ => 0

abbrev bufTy : (tb : Table) → Fin (tcTables nBuf tb) → BufTy
  | .hbm, ⟨0, _⟩ => ⟨S16x2112x1024, .f32⟩
  | .hbm, ⟨1, _⟩ => ⟨S4x1024, .f32⟩
  | .hbm, ⟨2, _⟩ => ⟨S4x1024x2336, .f32⟩
  | .hbm, ⟨3, _⟩ => ⟨S4x1824, .f32⟩
  | .hbm, ⟨4, _⟩ => ⟨S4x4x128x128, .f32⟩
  | .hbm, ⟨5, _⟩ => ⟨S4x512, .f32⟩
  | .hbm, ⟨6, _⟩ => ⟨S4x512, .f32⟩
  | .hbm, ⟨7, _⟩ => ⟨S4x64x512, .f32⟩
  | .hbm, ⟨8, _⟩ => ⟨S4x512, .f32⟩
  | .hbm, ⟨9, _⟩ => ⟨S4x64x512, .f32⟩
  | .hbm, ⟨10, _⟩ => ⟨S4x160x512, .f32⟩
  | .hbm, ⟨11, _⟩ => ⟨S4x512, .f32⟩
  | .hbm, ⟨12, _⟩ => ⟨S4x512, .f32⟩
  | .hbm, ⟨13, _⟩ => ⟨S4x512, .f32⟩
  | .hbm, ⟨14, _⟩ => ⟨S1x1024x2336, .f32⟩
  | .hbm, ⟨15, _⟩ => ⟨S1024x2336, .f32⟩
  | .hbm, ⟨16, _⟩ => ⟨S_, .f32⟩
  | .hbm, ⟨17, _⟩ => ⟨S512, .f32⟩
  | .hbm, ⟨18, _⟩ => ⟨S1x1824, .f32⟩
  | .hbm, ⟨19, _⟩ => ⟨S1824, .f32⟩
  | .hbm, ⟨20, _⟩ => ⟨S_, .i32⟩
  | .hbm, ⟨21, _⟩ => ⟨S_, .f32⟩
  | .hbm, ⟨22, _⟩ => ⟨S1024x2432, .f32⟩
  | .hbm, ⟨23, _⟩ => ⟨S1024x2432, .bf16⟩
  | .hbm, ⟨24, _⟩ => ⟨S2336, .f32⟩
  | .hbm, ⟨25, _⟩ => ⟨S_, .i32⟩
  | .hbm, ⟨26, _⟩ => ⟨S_, .f32⟩
  | .hbm, ⟨27, _⟩ => ⟨S2432, .f32⟩
  | .hbm, ⟨28, _⟩ => ⟨S1x2432, .f32⟩
  | .hbm, ⟨29, _⟩ => ⟨S1x64x512, .f32⟩
  | .hbm, ⟨30, _⟩ => ⟨S64x512, .f32⟩
  | .hbm, ⟨31, _⟩ => ⟨S_, .i32⟩
  | .hbm, ⟨32, _⟩ => ⟨S_, .f32⟩
  | .hbm, ⟨33, _⟩ => ⟨S128x512, .f32⟩
  | .hbm, ⟨34, _⟩ => ⟨S128x512, .bf16⟩
  | .hbm, ⟨35, _⟩ => ⟨S1x64x512, .f32⟩
  | .hbm, ⟨36, _⟩ => ⟨S64x512, .f32⟩
  | .hbm, ⟨37, _⟩ => ⟨S_, .i32⟩
  | .hbm, ⟨38, _⟩ => ⟨S_, .f32⟩
  | .hbm, ⟨39, _⟩ => ⟨S128x512, .f32⟩
  | .hbm, ⟨40, _⟩ => ⟨S128x512, .bf16⟩
  | .hbm, ⟨41, _⟩ => ⟨S1x160x512, .f32⟩
  | .hbm, ⟨42, _⟩ => ⟨S160x512, .f32⟩
  | .hbm, ⟨43, _⟩ => ⟨S_, .i32⟩
  | .hbm, ⟨44, _⟩ => ⟨S_, .f32⟩
  | .hbm, ⟨45, _⟩ => ⟨S256x512, .f32⟩
  | .hbm, ⟨46, _⟩ => ⟨S256x512, .bf16⟩
  | .hbm, ⟨47, _⟩ => ⟨S1x1024, .f32⟩
  | .hbm, ⟨48, _⟩ => ⟨S1024, .f32⟩
  | .hbm, ⟨49, _⟩ => ⟨S1x1024, .f32⟩
  | .hbm, ⟨50, _⟩ => ⟨S1x4x128x128, .f32⟩
  | .hbm, ⟨51, _⟩ => ⟨S4x128x128, .f32⟩
  | .hbm, ⟨52, _⟩ => ⟨S4x128x128, .bf16⟩
  | .hbm, ⟨53, _⟩ => ⟨S1x512, .f32⟩
  | .hbm, ⟨54, _⟩ => ⟨S512, .f32⟩
  | .hbm, ⟨55, _⟩ => ⟨S1x512, .f32⟩
  | .hbm, ⟨56, _⟩ => ⟨S1x512, .f32⟩
  | .hbm, ⟨57, _⟩ => ⟨S512, .f32⟩
  | .hbm, ⟨58, _⟩ => ⟨S1x512, .f32⟩
  | .hbm, ⟨59, _⟩ => ⟨S1x512, .f32⟩
  | .hbm, ⟨60, _⟩ => ⟨S512, .f32⟩
  | .hbm, ⟨61, _⟩ => ⟨S1x512, .f32⟩
  | .hbm, ⟨62, _⟩ => ⟨S1x512, .f32⟩
  | .hbm, ⟨63, _⟩ => ⟨S512, .f32⟩
  | .hbm, ⟨64, _⟩ => ⟨S1x512, .f32⟩
  | .hbm, ⟨65, _⟩ => ⟨S1x512, .f32⟩
  | .hbm, ⟨66, _⟩ => ⟨S512, .f32⟩
  | .hbm, ⟨67, _⟩ => ⟨S1x512, .f32⟩
  | .hbm, ⟨68, _⟩ => ⟨S1x512, .f32⟩
  | .hbm, ⟨69, _⟩ => ⟨S512, .f32⟩
  | .hbm, ⟨70, _⟩ => ⟨S1x512, .f32⟩
  | .hbm, ⟨71, _⟩ => ⟨S16x2112x512, .f32⟩
  | .hbm, ⟨72, _⟩ => ⟨S16x2112x512, .bf16⟩
  | .hbm, ⟨73, _⟩ => ⟨S16x2112x512, .bf16⟩
  | .hbm, ⟨74, _⟩ => ⟨S16x2112x512, .bf16⟩
  | .hbm, ⟨75, _⟩ => ⟨S16x2112x512, .bf16⟩
  | .hbm, ⟨76, _⟩ => ⟨S16x2112x512, .bf16⟩
  | .hbm, ⟨77, _⟩ => ⟨S16x2112x512, .bf16⟩
  | .hbm, ⟨78, _⟩ => ⟨S16x2112x512, .bf16⟩
  | .hbm, ⟨79, _⟩ => ⟨S16x2112x512, .f32⟩
  | .hbm, ⟨80, _⟩ => ⟨S16x2112x512, .f32⟩
  | .hbm, ⟨81, _⟩ => ⟨S16x264x512, .f32⟩
  | .hbm, ⟨82, _⟩ => ⟨S16x2112x512, .f32⟩
  | .local _ .vmem, ⟨0, _⟩ => ⟨S1x192x1024, .f32⟩
  | .local _ .vmem, ⟨1, _⟩ => ⟨S1x192x1024, .f32⟩
  | .local _ .vmem, ⟨2, _⟩ => ⟨S1x1024, .f32⟩
  | .local _ .vmem, ⟨3, _⟩ => ⟨S1024x2432, .bf16⟩
  | .local _ .vmem, ⟨4, _⟩ => ⟨S1x2432, .f32⟩
  | .local _ .vmem, ⟨5, _⟩ => ⟨S4x128x128, .bf16⟩
  | .local _ .vmem, ⟨6, _⟩ => ⟨S1x512, .f32⟩
  | .local _ .vmem, ⟨7, _⟩ => ⟨S1x512, .f32⟩
  | .local _ .vmem, ⟨8, _⟩ => ⟨S128x512, .bf16⟩
  | .local _ .vmem, ⟨9, _⟩ => ⟨S1x512, .f32⟩
  | .local _ .vmem, ⟨10, _⟩ => ⟨S128x512, .bf16⟩
  | .local _ .vmem, ⟨11, _⟩ => ⟨S256x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x192x512, .f32⟩
  | .local _ .vmem, ⟨16, _⟩ => ⟨S1x192x512, .f32⟩
  | .local _ .vmem, ⟨17, _⟩ => ⟨S1x192x512, .bf16⟩
  | .local _ .vmem, ⟨18, _⟩ => ⟨S1x192x512, .bf16⟩
  | .local _ .vmem, ⟨19, _⟩ => ⟨S1x192x512, .bf16⟩
  | .local _ .vmem, ⟨20, _⟩ => ⟨S1x192x512, .bf16⟩
  | .local _ .vmem, ⟨21, _⟩ => ⟨S1x192x512, .bf16⟩
  | .local _ .vmem, ⟨22, _⟩ => ⟨S1x192x512, .bf16⟩
  | .local _ .vmem, ⟨23, _⟩ => ⟨S1x192x512, .bf16⟩
  | .local _ .vmem, ⟨24, _⟩ => ⟨S1x192x512, .bf16⟩
  | .local _ .vmem, ⟨25, _⟩ => ⟨S1x192x512, .bf16⟩
  | .local _ .vmem, ⟨26, _⟩ => ⟨S1x192x512, .bf16⟩
  | .local _ .vmem, ⟨27, _⟩ => ⟨S1x192x512, .bf16⟩
  | .local _ .vmem, ⟨28, _⟩ => ⟨S1x192x512, .bf16⟩
  | .local _ .vmem, ⟨29, _⟩ => ⟨S1x192x512, .bf16⟩
  | .local _ .vmem, ⟨30, _⟩ => ⟨S1x192x512, .bf16⟩
  | .local _ .vmem, ⟨31, _⟩ => ⟨S1x192x512, .f32⟩
  | .local _ .vmem, ⟨32, _⟩ => ⟨S1x192x512, .f32⟩
  | .local _ .vmem, ⟨33, _⟩ => ⟨S1x192x512, .f32⟩
  | .local _ .vmem, ⟨34, _⟩ => ⟨S1x192x512, .f32⟩
  | .local _ .vmem, ⟨35, _⟩ => ⟨S1x24x512, .f32⟩
  | .local _ .vmem, ⟨36, _⟩ => ⟨S1x24x512, .f32⟩
  | .local _ .vmem, ⟨37, _⟩ => ⟨S1x192x512, .f32⟩
  | .local _ .vmem, ⟨38, _⟩ => ⟨S1x192x512, .f32⟩
  | .local _ .vmem, ⟨39, _⟩ => ⟨S208x2432, .f32⟩
  | .local _ .vmem, ⟨40, _⟩ => ⟨S2x5x192x512, .f32⟩
  | _, _ => ⟨S16x2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_0 : Ref sig .tc := ⟨.hbm, 25, rfl⟩
abbrev main_call1_v0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_1 : Ref sig .tc := ⟨.hbm, 31, rfl⟩
abbrev main_call2_v0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_2 : Ref sig .tc := ⟨.hbm, 37, rfl⟩
abbrev main_call3_v0 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_call4_v0 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46_0 : Ref sig .tc := ⟨.hbm, 71, rfl⟩
abbrev main_v46_1 : Ref sig .tc := ⟨.hbm, 72, rfl⟩
abbrev main_v46_2 : Ref sig .tc := ⟨.hbm, 73, rfl⟩
abbrev main_v46_3 : Ref sig .tc := ⟨.hbm, 74, rfl⟩
abbrev main_v46_4 : Ref sig .tc := ⟨.hbm, 75, rfl⟩
abbrev main_v46_5 : Ref sig .tc := ⟨.hbm, 76, rfl⟩
abbrev main_v46_6 : Ref sig .tc := ⟨.hbm, 77, rfl⟩
abbrev main_v46_7 : Ref sig .tc := ⟨.hbm, 78, rfl⟩
abbrev main_v46_8 : Ref sig .tc := ⟨.hbm, 79, rfl⟩
abbrev main_v46_9 : Ref sig .tc := ⟨.hbm, 80, rfl⟩
abbrev main_v46_10 : Ref sig .tc := ⟨.hbm, 81, rfl⟩
abbrev main_v46_11 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_stg25_0 : Ref sig .tc := ⟨.vmem, 37, rfl⟩
abbrev cc0_stg25_1 : Ref sig .tc := ⟨.vmem, 38, rfl⟩
abbrev cc0_scratch0 : Ref sig .tc := ⟨.vmem, 39, rfl⟩
abbrev cc0_scratch1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36
abbrev cc0_sem25_0 : DmaSem sig := 37
abbrev cc0_sem25_1 : DmaSem sig := 38

abbrev nD : Nat := 1
abbrev τ : Topo := Topo.v7x

variable {F : FTy → Type} [FloatOps F]

abbrev grid0 : Pipeline.Grid := ⟨1, ![177], ![false]⟩

def k0_off1 (i : grid0.Coords) : Fin 4 → Nat :=
  let arg0 : BitVec 32 := BitVec.ofNat 32 (i 0).val
  let c1_i32_7 : BitVec 32 := 1#32
  let v17 : BitVec 32 := Scalar.addi arg0 c1_i32_7
  let c2_i32 : BitVec 32 := 2#32
  let c0_i32_8 : BitVec 32 := 0#32
  let v18 : BitVec 1 := Scalar.cmpi .eq c2_i32 c0_i32_8
  let c1_i32_9 : BitVec 32 := 1#32
  let v19 : BitVec 32 := Scalar.select v18 c1_i32_9 c2_i32
  let v20 : BitVec 32 := Scalar.remsi v17 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_13 : BitVec 32 := 0#32
  let c0_i32_14 : BitVec 32 := 0#32
  let c0_i32_15 : BitVec 32 := 0#32
  ![v27.toNat, 0, 0, 0]
def k0_off2 (i : grid0.Coords) : Fin 4 → Nat :=
  let arg0 : BitVec 32 := BitVec.ofNat 32 (i 0).val
  let c2_i32_177 : BitVec 32 := 2#32
  let c0_i32_178 : BitVec 32 := 0#32
  let v421 : BitVec 1 := Scalar.cmpi .eq c2_i32_177 c0_i32_178
  let c1_i32_179 : BitVec 32 := 1#32
  let v422 : BitVec 32 := Scalar.select v421 c1_i32_179 c2_i32_177
  let v423 : BitVec 32 := Scalar.remsi arg0 v422
  let c0_i32_181 : BitVec 32 := 0#32
  let v425 : BitVec 1 := Scalar.cmpi .slt v423 c0_i32_181
  let c0_i32_182 : BitVec 32 := 0#32
  let v426 : BitVec 1 := Scalar.cmpi .slt v422 c0_i32_182
  let v427 : BitVec 1 := Scalar.xori v425 v426
  let c0_i32_180 : BitVec 32 := 0#32
  let v424 : BitVec 1 := Scalar.cmpi .ne v423 c0_i32_180
  let v428 : BitVec 1 := Scalar.andi v427 v424
  let v429 : BitVec 32 := Scalar.addi v423 v422
  let v430 : BitVec 32 := Scalar.select v428 v429 v423
  let c0_i32_187 : BitVec 32 := 0#32
  let c0_i32_188 : BitVec 32 := 0#32
  let c0_i32_189 : BitVec 32 := 0#32
  ![v430.toNat, 0, 0, 0]
def cc0_transform_0 (i : grid0.Coords) : Fin 3 → Nat :=
  let arg0 : BitVec 32 := BitVec.ofNat 32 (i 0).val
  let c175_i32 : BitVec 32 := 175#32
  let v0 : BitVec 32 := Scalar.minsi arg0 c175_i32
  let c11_i32 : BitVec 32 := 11#32
  let v1 : BitVec 32 := Scalar.divsi v0 c11_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c11_i32 c0_i32_1
  let v8 : BitVec 32 := Scalar.extui v7
  let c0_i32_2 : BitVec 32 := 0#32
  let v9 : BitVec 1 := Scalar.cmpi .slt c11_i32 c0_i32_2
  let v10 : BitVec 32 := Scalar.extui v9
  let v11 : BitVec 32 := Scalar.subi v8 v10
  let v12 : BitVec 1 := Scalar.cmpi .ne v6 v11
  let v13 : BitVec 32 := Scalar.remsi v0 c11_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c11_i32_4 : BitVec 32 := 11#32
  let c0_i32_5 : BitVec 32 := 0#32
  let v18 : BitVec 1 := Scalar.cmpi .eq c11_i32_4 c0_i32_5
  let c1_i32_6 : BitVec 32 := 1#32
  let v19 : BitVec 32 := Scalar.select v18 c1_i32_6 c11_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c175_i32 : BitVec 32 := 175#32
  let v0 : BitVec 32 := Scalar.minsi arg0 c175_i32
  let c11_i32 : BitVec 32 := 11#32
  let v1 : BitVec 32 := Scalar.divsi v0 c11_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c11_i32 c0_i32_1
  let v8 : BitVec 32 := Scalar.extui v7
  let c0_i32_2 : BitVec 32 := 0#32
  let v9 : BitVec 1 := Scalar.cmpi .slt c11_i32 c0_i32_2
  let v10 : BitVec 32 := Scalar.extui v9
  let v11 : BitVec 32 := Scalar.subi v8 v10
  let v12 : BitVec 1 := Scalar.cmpi .ne v6 v11
  let v13 : BitVec 32 := Scalar.remsi v0 c11_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c11_i32_4 : BitVec 32 := 11#32
  let c0_i32_5 : BitVec 32 := 0#32
  let v18 : BitVec 1 := Scalar.cmpi .eq c11_i32_4 c0_i32_5
  let c1_i32_6 : BitVec 32 := 1#32
  let v19 : BitVec 32 := Scalar.select v18 c1_i32_6 c11_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_15 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_16 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_17 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_18 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_19 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_20 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_21 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_22 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_23 (i : grid0.Coords) : Fin 3 → Nat :=
  let arg0 : BitVec 32 := BitVec.ofNat 32 (i 0).val
  let c175_i32 : BitVec 32 := 175#32
  let v0 : BitVec 32 := Scalar.minsi arg0 c175_i32
  let c11_i32 : BitVec 32 := 11#32
  let v1 : BitVec 32 := Scalar.divsi v0 c11_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c11_i32 c0_i32_1
  let v8 : BitVec 32 := Scalar.extui v7
  let c0_i32_2 : BitVec 32 := 0#32
  let v9 : BitVec 1 := Scalar.cmpi .slt c11_i32 c0_i32_2
  let v10 : BitVec 32 := Scalar.extui v9
  let v11 : BitVec 32 := Scalar.subi v8 v10
  let v12 : BitVec 1 := Scalar.cmpi .ne v6 v11
  let v13 : BitVec 32 := Scalar.remsi v0 c11_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c11_i32_4 : BitVec 32 := 11#32
  let c0_i32_5 : BitVec 32 := 0#32
  let v18 : BitVec 1 := Scalar.cmpi .eq c11_i32_4 c0_i32_5
  let c1_i32_6 : BitVec 32 := 1#32
  let v19 : BitVec 32 := Scalar.select v18 c1_i32_6 c11_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_24 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c11_i32_6 : BitVec 32 := 11#32
  let c0_i32_7 : BitVec 32 := 0#32
  let v19 : BitVec 1 := Scalar.cmpi .eq c11_i32_6 c0_i32_7
  let c1_i32_8 : BitVec 32 := 1#32
  let v20 : BitVec 32 := Scalar.select v19 c1_i32_8 c11_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_25 (i : grid0.Coords) : Fin 3 → Nat :=
  let arg0 : BitVec 32 := BitVec.ofNat 32 (i 0).val
  let c175_i32 : BitVec 32 := 175#32
  let v0 : BitVec 32 := Scalar.minsi arg0 c175_i32
  let c11_i32 : BitVec 32 := 11#32
  let v1 : BitVec 32 := Scalar.divsi v0 c11_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c11_i32 c0_i32_1
  let v8 : BitVec 32 := Scalar.extui v7
  let c0_i32_2 : BitVec 32 := 0#32
  let v9 : BitVec 1 := Scalar.cmpi .slt c11_i32 c0_i32_2
  let v10 : BitVec 32 := Scalar.extui v9
  let v11 : BitVec 32 := Scalar.subi v8 v10
  let v12 : BitVec 1 := Scalar.cmpi .ne v6 v11
  let v13 : BitVec 32 := Scalar.remsi v0 c11_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c11_i32_4 : BitVec 32 := 11#32
  let c0_i32_5 : BitVec 32 := 0#32
  let v18 : BitVec 1 := Scalar.cmpi .eq c11_i32_4 c0_i32_5
  let c1_i32_6 : BitVec 32 := 1#32
  let v19 : BitVec 32 := Scalar.select v18 c1_i32_6 c11_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

abbrev stage0_0 : Fin 2 → Memref sig .tc .vmem S1x192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x192x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x192x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x192x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x192x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x192x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x192x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x192x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x192x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x192x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x192x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x24x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x192x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== Reference3Ideal.lean ====
abbrev S16x2112x1024 : Shape := ⟨3, ![16, 2112, 1024]⟩
abbrev S4x1024 : Shape := ⟨2, ![4, 1024]⟩
abbrev S4x1024x2336 : Shape := ⟨3, ![4, 1024, 2336]⟩
abbrev S4x1824 : Shape := ⟨2, ![4, 1824]⟩
abbrev S4x4x128x128 : Shape := ⟨4, ![4, 4, 128, 128]⟩
abbrev S4x512 : Shape := ⟨2, ![4, 512]⟩
abbrev S4x64x512 : Shape := ⟨3, ![4, 64, 512]⟩
abbrev S4x160x512 : Shape := ⟨3, ![4, 160, 512]⟩
abbrev S1x1024 : Shape := ⟨2, ![1, 1024]⟩
abbrev S1024 : Shape := ⟨1, ![1024]⟩
abbrev S_ : Shape := ⟨0, ![]⟩
abbrev S16x2112 : Shape := ⟨2, ![16, 2112]⟩
abbrev S16x2112x1 : Shape := ⟨3, ![16, 2112, 1]⟩
abbrev S1x1x1024 : Shape := ⟨3, ![1, 1, 1024]⟩
abbrev S1x1024x2336 : Shape := ⟨3, ![1, 1024, 2336]⟩
abbrev S1024x2336 : Shape := ⟨2, ![1024, 2336]⟩
abbrev S16x2112x2336 : Shape := ⟨3, ![16, 2112, 2336]⟩
abbrev S16x2112x1824 : Shape := ⟨3, ![16, 2112, 1824]⟩
abbrev S1x1824 : Shape := ⟨2, ![1, 1824]⟩
abbrev S1824 : Shape := ⟨1, ![1824]⟩
abbrev S16x2113x1824 : Shape := ⟨3, ![16, 2113, 1824]⟩
abbrev S1x1x1824 : Shape := ⟨3, ![1, 1, 1824]⟩
abbrev S16x2112x512 : Shape := ⟨3, ![16, 2112, 512]⟩
abbrev S16x2112x64 : Shape := ⟨3, ![16, 2112, 64]⟩
abbrev S16x2112x160 : Shape := ⟨3, ![16, 2112, 160]⟩
abbrev S1x512 : Shape := ⟨2, ![1, 512]⟩
abbrev S512 : Shape := ⟨1, ![512]⟩
abbrev S1x64x512 : Shape := ⟨3, ![1, 64, 512]⟩
abbrev S64x512 : Shape := ⟨2, ![64, 512]⟩
abbrev S1x1x512 : Shape := ⟨3, ![1, 1, 512]⟩
abbrev S1x160x512 : Shape := ⟨3, ![1, 160, 512]⟩
abbrev S160x512 : Shape := ⟨2, ![160, 512]⟩
abbrev S16x2112x8x64 : Shape := ⟨4, ![16, 2112, 8, 64]⟩
abbrev S8x64 : Shape := ⟨2, ![8, 64]⟩
abbrev S1x1x8x64 : Shape := ⟨4, ![1, 1, 8, 64]⟩
abbrev S16x2112x8 : Shape := ⟨3, ![16, 2112, 8]⟩
abbrev S16x2112x8x1 : Shape := ⟨4, ![16, 2112, 8, 1]⟩

abbrev nBuf : Space → Nat
  | .hbm => 109
  | .vmem => 0
  | .smem => 0
  | _ => 0

abbrev bufTy : (tb : Table) → Fin (tcTables nBuf tb) → BufTy
  | .hbm, ⟨0, _⟩ => ⟨S16x2112x1024, .f32⟩
  | .hbm, ⟨1, _⟩ => ⟨S4x1024, .f32⟩
  | .hbm, ⟨2, _⟩ => ⟨S4x1024x2336, .f32⟩
  | .hbm, ⟨3, _⟩ => ⟨S4x1824, .f32⟩
  | .hbm, ⟨4, _⟩ => ⟨S4x4x128x128, .f32⟩
  | .hbm, ⟨5, _⟩ => ⟨S4x512, .f32⟩
  | .hbm, ⟨6, _⟩ => ⟨S4x512, .f32⟩
  | .hbm, ⟨7, _⟩ => ⟨S4x64x512, .f32⟩
  | .hbm, ⟨8, _⟩ => ⟨S4x512, .f32⟩
  | .hbm, ⟨9, _⟩ => ⟨S4x64x512, .f32⟩
  | .hbm, ⟨10, _⟩ => ⟨S4x160x512, .f32⟩
  | .hbm, ⟨11, _⟩ => ⟨S4x512, .f32⟩
  | .hbm, ⟨12, _⟩ => ⟨S4x512, .f32⟩
  | .hbm, ⟨13, _⟩ => ⟨S4x512, .f32⟩
  | .hbm, ⟨14, _⟩ => ⟨S1x1024, .f32⟩
  | .hbm, ⟨15, _⟩ => ⟨S1024, .f32⟩
  | .hbm, ⟨16, _⟩ => ⟨S16x2112x1024, .f32⟩
  | .hbm, ⟨17, _⟩ => ⟨S_, .f32⟩
  | .hbm, ⟨18, _⟩ => ⟨S16x2112, .f32⟩
  | .hbm, ⟨19, _⟩ => ⟨S16x2112x1, .f32⟩
  | .hbm, ⟨20, _⟩ => ⟨S_, .f32⟩
  | .hbm, ⟨21, _⟩ => ⟨S16x2112x1, .f32⟩
  | .hbm, ⟨22, _⟩ => ⟨S16x2112x1, .f32⟩
  | .hbm, ⟨23, _⟩ => ⟨S_, .f32⟩
  | .hbm, ⟨24, _⟩ => ⟨S16x2112x1, .f32⟩
  | .hbm, ⟨25, _⟩ => ⟨S16x2112x1, .f32⟩
  | .hbm, ⟨26, _⟩ => ⟨S16x2112x1, .f32⟩
  | .hbm, ⟨27, _⟩ => ⟨S16x2112x1024, .f32⟩
  | .hbm, ⟨28, _⟩ => ⟨S16x2112x1024, .f32⟩
  | .hbm, ⟨29, _⟩ => ⟨S1x1x1024, .f32⟩
  | .hbm, ⟨30, _⟩ => ⟨S16x2112x1024, .f32⟩
  | .hbm, ⟨31, _⟩ => ⟨S16x2112x1024, .f32⟩
  | .hbm, ⟨32, _⟩ => ⟨S1x1024x2336, .f32⟩
  | .hbm, ⟨33, _⟩ => ⟨S1024x2336, .f32⟩
  | .hbm, ⟨34, _⟩ => ⟨S16x2112x2336, .f32⟩
  | .hbm, ⟨35, _⟩ => ⟨S16x2112x1824, .f32⟩
  | .hbm, ⟨36, _⟩ => ⟨S1x1824, .f32⟩
  | .hbm, ⟨37, _⟩ => ⟨S1824, .f32⟩
  | .hbm, ⟨38, _⟩ => ⟨S_, .i32⟩
  | .hbm, ⟨39, _⟩ => ⟨S_, .f32⟩
  | .hbm, ⟨40, _⟩ => ⟨S16x2113x1824, .f32⟩
  | .hbm, ⟨41, _⟩ => ⟨S16x2112x1824, .f32⟩
  | .hbm, ⟨42, _⟩ => ⟨S16x2112x1824, .f32⟩
  | .hbm, ⟨43, _⟩ => ⟨S1x1x1824, .f32⟩
  | .hbm, ⟨44, _⟩ => ⟨S16x2112x1824, .f32⟩
  | .hbm, ⟨45, _⟩ => ⟨S16x2112x1824, .f32⟩
  | .hbm, ⟨46, _⟩ => ⟨S16x2112x1824, .f32⟩
  | .hbm, ⟨47, _⟩ => ⟨S16x2112x512, .f32⟩
  | .hbm, ⟨48, _⟩ => ⟨S16x2112x512, .f32⟩
  | .hbm, ⟨49, _⟩ => ⟨S16x2112x512, .f32⟩
  | .hbm, ⟨50, _⟩ => ⟨S16x2112x64, .f32⟩
  | .hbm, ⟨51, _⟩ => ⟨S16x2112x64, .f32⟩
  | .hbm, ⟨52, _⟩ => ⟨S16x2112x160, .f32⟩
  | .hbm, ⟨53, _⟩ => ⟨S1x512, .f32⟩
  | .hbm, ⟨54, _⟩ => ⟨S512, .f32⟩
  | .hbm, ⟨55, _⟩ => ⟨S1x64x512, .f32⟩
  | .hbm, ⟨56, _⟩ => ⟨S64x512, .f32⟩
  | .hbm, ⟨57, _⟩ => ⟨S16x2112x512, .f32⟩
  | .hbm, ⟨58, _⟩ => ⟨S1x1x512, .f32⟩
  | .hbm, ⟨59, _⟩ => ⟨S16x2112x512, .f32⟩
  | .hbm, ⟨60, _⟩ => ⟨S16x2112x512, .f32⟩
  | .hbm, ⟨61, _⟩ => ⟨S16x2112x512, .f32⟩
  | .hbm, ⟨62, _⟩ => ⟨S16x2112x512, .f32⟩
  | .hbm, ⟨63, _⟩ => ⟨S_, .f32⟩
  | .hbm, ⟨64, _⟩ => ⟨S16x2112x512, .f32⟩
  | .hbm, ⟨65, _⟩ => ⟨S16x2112x512, .f32⟩
  | .hbm, ⟨66, _⟩ => ⟨S_, .f32⟩
  | .hbm, ⟨67, _⟩ => ⟨S16x2112x512, .f32⟩
  | .hbm, ⟨68, _⟩ => ⟨S16x2112x512, .f32⟩
  | .hbm, ⟨69, _⟩ => ⟨S16x2112x160, .f32⟩
  | .hbm, ⟨70, _⟩ => ⟨S16x2112x160, .f32⟩
  | .hbm, ⟨71, _⟩ => ⟨S_, .f32⟩
  | .hbm, ⟨72, _⟩ => ⟨S16x2112x160, .f32⟩
  | .hbm, ⟨73, _⟩ => ⟨S16x2112x160, .f32⟩
  | .hbm, ⟨74, _⟩ => ⟨S_, .f32⟩
  | .hbm, ⟨75, _⟩ => ⟨S16x2112x160, .f32⟩
  | .hbm, ⟨76, _⟩ => ⟨S16x2112x160, .f32⟩
  | .hbm, ⟨77, _⟩ => ⟨S1x160x512, .f32⟩
  | .hbm, ⟨78, _⟩ => ⟨S160x512, .f32⟩
  | .hbm, ⟨79, _⟩ => ⟨S16x2112x512, .f32⟩
  | .hbm, ⟨80, _⟩ => ⟨S_, .f32⟩
  | .hbm, ⟨81, _⟩ => ⟨S16x2112x512, .f32⟩
  | .hbm, ⟨82, _⟩ => ⟨S16x2112x512, .f32⟩
  | .hbm, ⟨83, _⟩ => ⟨S1x512, .f32⟩
  | .hbm, ⟨84, _⟩ => ⟨S512, .f32⟩
  | .hbm, ⟨85, _⟩ => ⟨S1x1x512, .f32⟩
  | .hbm, ⟨86, _⟩ => ⟨S16x2112x512, .f32⟩
  | .hbm, ⟨87, _⟩ => ⟨S16x2112x512, .f32⟩
  | .hbm, ⟨88, _⟩ => ⟨S_, .f32⟩
  | .hbm, ⟨89, _⟩ => ⟨S16x2112x512, .f32⟩
  | .hbm, ⟨90, _⟩ => ⟨S16x2112x512, .f32⟩
  | .hbm, ⟨91, _⟩ => ⟨S16x2112x512, .f32⟩
  | .hbm, ⟨92, _⟩ => ⟨S16x2112x8x64, .f32⟩
  | .hbm, ⟨93, _⟩ => ⟨S16x2112x8x64, .f32⟩
  | .hbm, ⟨94, _⟩ => ⟨S16x2112x8x64, .f32⟩
  | .hbm, ⟨95, _⟩ => ⟨S16x2112x8x64, .f32⟩
  | .hbm, ⟨96, _⟩ => ⟨S1x512, .f32⟩
  | .hbm, ⟨97, _⟩ => ⟨S512, .f32⟩
  | .hbm, ⟨98, _⟩ => ⟨S8x64, .f32⟩
  | .hbm, ⟨99, _⟩ => ⟨S1x1x8x64, .f32⟩
  | .hbm, ⟨100, _⟩ => ⟨S16x2112x8x64, .f32⟩
  | .hbm, ⟨101, _⟩ => ⟨S16x2112x8x64, .f32⟩
  | .hbm, ⟨102, _⟩ => ⟨S_, .f32⟩
  | .hbm, ⟨103, _⟩ => ⟨S16x2112x8, .f32⟩
  | .hbm, ⟨104, _⟩ => ⟨S16x2112x8x1, .f32⟩
  | .hbm, ⟨105, _⟩ => ⟨S16x2112x8x64, .f32⟩
  | .hbm, ⟨106, _⟩ => ⟨S16x2112x8x64, .f32⟩
  | .hbm, ⟨107, _⟩ => ⟨S16x2112x512, .f32⟩
  | .hbm, ⟨108, _⟩ => ⟨S16x2112x512, .bf16⟩
  | _, _ => ⟨S16x2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c : Ref sig .tc := ⟨.hbm, 38, rfl⟩
abbrev main_call0_v0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_2 : Ref sig .tc := ⟨.hbm, 63, rfl⟩
abbrev main_v44 : Ref sig .tc := ⟨.hbm, 64, rfl⟩
abbrev main_v45 : Ref sig .tc := ⟨.hbm, 65, rfl⟩
abbrev main_cst_3 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_4 : Ref sig .tc := ⟨.hbm, 71, rfl⟩
abbrev main_v50 : Ref sig .tc := ⟨.hbm, 72, rfl⟩
abbrev main_v51 : Ref sig .tc := ⟨.hbm, 73, rfl⟩
abbrev main_cst_5 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_6 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_7 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_8 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩

abbrev nD : Nat := 1
abbrev τ : Topo := Topo.v7x

variable {F : FTy → Type} [FloatOps F]
-- ==== Proof.FfnMath.lean ====
module

public import Idealize.ShloMosaic.Lib.Pointwise

/-! One row of the block the call computes, over the reals with infinities: the output projection with its residual, a
    root-mean-square norm, and the gated feed-forward layer with its residual. A row is a function of its column. -/

@[expose] public section

noncomputable section

namespace Cert.Ffn

open Idealize.ShloMosaic

/-- Row `k` of the upper half of a matrix of 1024 rows. -/
abbrev lo (k : Fin 512) : Fin 1024 := ⟨k.1, by omega⟩
/-- Row `k` of the lower half of a matrix of 1024 rows. -/
abbrev hi (k : Fin 512) : Fin 1024 := ⟨512 + k.1, by omega⟩

/-- The residual plus the output projection of the two mixers' rows: the pooling row meets the upper half of the
    weight, the recurrent row its lower half. -/
def proj (x : Fin 1024 → EReal) (p q : Fin 512 → EReal) (w : Fin 1024 → Fin 1024 → EReal) (d : Fin 1024) : EReal :=
  x d + (∑ k, p k * w (lo k) d + ∑ k, q k * w (hi k) d)

/-- Root-mean-square norm of a row, with its gain. -/
def nrm (x g : Fin 1024 → EReal) (d : Fin 1024) : EReal :=
  x d * Ideal.rsqrt (Ideal.div (∑ k, x k * x k) (Ideal.ofBits FTy.f32 1149239296#32)
    + Ideal.ofBits FTy.f32 897988541#32) * g d

/-- `x` times its logistic value. -/
def silu (x : EReal) : EReal := x * Ideal.div 1 (1 + Ideal.exp (0 - x))

/-- The gated activation of a row at hidden column `j`. -/
def act (x : Fin 1024 → EReal) (wg wu : Fin 1024 → Fin 2816 → EReal) (j : Fin 2816) : EReal :=
  silu (∑ k, x k * wg k j) * ∑ k, x k * wu k j

/-- The residual plus the down projection of the gated activation of the normed row. -/
def ffn (x n : Fin 1024 → EReal) (wg wu : Fin 1024 → Fin 2816 → EReal) (wd : Fin 2816 → Fin 1024 → EReal)
    (d : Fin 1024) : EReal :=
  x d + ∑ j, act n wg wu j * wd j d

/-- The layer's second half on one row. -/
def layer (x : Fin 1024 → EReal) (p q : Fin 512 → EReal) (w : Fin 1024 → Fin 1024 → EReal) (g : Fin 1024 → EReal)
    (wg wu : Fin 1024 → Fin 2816 → EReal) (wd : Fin 2816 → Fin 1024 → EReal) : Fin 1024 → EReal :=
  ffn (proj x p q w) (nrm (proj x p q w) g) wg wu wd

/-- A sum over the hidden columns, cut into the four column blocks in which they are computed. -/
theorem sum_blocks (f : Fin 2816 → EReal) :
    ∑ j, f j = ∑ x : Fin 768, f ⟨x.1, by omega⟩ + ∑ x : Fin 768, f ⟨768 + x.1, by omega⟩
      + ∑ x : Fin 768, f ⟨1536 + x.1, by omega⟩ + ∑ x : Fin 512, f ⟨2304 + x.1, by omega⟩ := by
  have h1 := Fin.sum_univ_add (a := 2304) (b := 512) f
  have h2 := Fin.sum_univ_add (a := 1536) (b := 768) fun i => f (Fin.castAdd 512 i)
  have h3 := Fin.sum_univ_add (a := 768) (b := 768) fun i => f (Fin.castAdd 512 (Fin.castAdd 768 i))
  exact h1.trans (congrArg (· + _) (h2.trans (congrArg (· + _) h3)))

/-- The residual with the four blocks added one after the other is the residual plus the whole sum. -/
theorem ffn_blocks (x n : Fin 1024 → EReal) (wg wu : Fin 1024 → Fin 2816 → EReal) (wd : Fin 2816 → Fin 1024 → EReal)
    (d : Fin 1024) :
    x d + ∑ j : Fin 768, act n wg wu ⟨j.1, by omega⟩ * wd ⟨j.1, by omega⟩ d
      + ∑ j : Fin 768, act n wg wu ⟨768 + j.1, by omega⟩ * wd ⟨768 + j.1, by omega⟩ d
      + ∑ j : Fin 768, act n wg wu ⟨1536 + j.1, by omega⟩ * wd ⟨1536 + j.1, by omega⟩ d
      + ∑ j : Fin 512, act n wg wu ⟨2304 + j.1, by omega⟩ * wd ⟨2304 + j.1, by omega⟩ d
    = ffn x n wg wu wd d := by
  rw [ffn, sum_blocks]
  simp only [add_assoc]

/-- A sum over the 1024 joined mixer columns, cut where the two mixers meet. -/
theorem sum_halves (f : Fin 1024 → EReal) : ∑ k, f k = ∑ k : Fin 512, f (lo k) + ∑ k : Fin 512, f (hi k) :=
  Fin.sum_univ_add (a := 512) (b := 512) f

end Cert.Ffn
end
-- ==== Proof.FfnPay.lean ====
module

public import proofs.«01_k».proof.Proof.Gen.KernelIdeal.Frame
public import proofs.«01_k».proof.Proof.FfnMath
public import Idealize.ShloMosaic.Lib.Pointwise

/-! What the call's body leaves in its output block, row by row. -/

@[expose] public section

set_option maxRecDepth 16384

noncomputable section

namespace Cert.KernelIdeal.FfnPay

open Cert.KernelIdeal Cert.KernelIdeal.Gen Idealize.ShloMosaic Cert.Ffn

/-- The projected row with its residual. -/
theorem pay2_row (x0 : Vec Ideal S1x512x1024 .f32) (x1 x2 : Vec Ideal S1x512x512 .f32)
    (x3 : Vec Ideal S1x1024x1024 .bf16) (r : Fin 512) (d : Fin 1024) :
    k0_pay2 (View.ld x1 r0_0) (View.ld x3 r0_1) (View.ld x2 r0_0) (View.ld x3 r0_2) (View.ld x0 r0_3) (ix2 r d)
      = proj (fun d => x0 (ix3 0 r d)) (fun k => x1 (ix3 0 r k)) (fun k => x2 (ix3 0 r k))
          (fun k d => x3 (ix3 0 k d)) d := by
  pointwise [k0_pay2, proj]

/-- The normed row. -/
theorem pay12_row (x0 : Vec Ideal S1x512x1024 .f32) (x1 x2 : Vec Ideal S1x512x512 .f32)
    (x3 : Vec Ideal S1x1024x1024 .bf16) (x4 : Vec Ideal S1x1024 .f32) (x5 x6 : Vec Ideal S1x1024x2816 .bf16)
    (x7 : Vec Ideal S1x2816x1024 .bf16) (x8 : Vec Ideal S1x1024 .f32) (r : Fin 512) (d : Fin 1024) :
    k0_pay12 x0 x1 x2 x3 x4 x5 x6 x7 x8 (ix2 r d)
      = nrm (proj (fun d => x0 (ix3 0 r d)) (fun k => x1 (ix3 0 r k)) (fun k => x2 (ix3 0 r k))
          (fun k d => x3 (ix3 0 k d))) (fun d => x4 (ix2 0 d)) d := by
  pointwise [k0_pay12, k0_pay3, nrm, pay2_row]

/-- The first column block: the residual plus its share of the down projection. -/
theorem pay5_row (v : FVec Ideal S512x1024 .f32) (n : FVec Ideal S512x1024 .bf16)
    (x5 x6 : Vec Ideal S1x1024x2816 .bf16)
    (x7 : Vec Ideal S1x2816x1024 .bf16) (r : Fin 512) (d : Fin 1024) :
    k0_pay5 v n (k0_pay4 (View.ld x5 r0_5)) (View.ld x6 r0_5) (View.ld x7 r0_6) (ix2 r d)
      = v (ix2 r d) + ∑ j : Fin 768, act (fun k => n (ix2 r k)) (fun k j => x5 (ix3 0 k j)) (fun k j => x6 (ix3 0 k j))
          ⟨j.1, by omega⟩ * x7 (ix3 0 ⟨j.1, by omega⟩ d) := by
  pointwise [k0_pay5, k0_pay4, act, silu]

/-- The second and third column blocks. -/
theorem pay7_row (v : FVec Ideal S512x1024 .f32) (n : FVec Ideal S512x1024 .bf16)
    (x5 x6 : Vec Ideal S1x1024x2816 .bf16)
    (x7 : Vec Ideal S1x2816x1024 .bf16) (r : Fin 512) (d : Fin 1024) :
    k0_pay7 n v (k0_pay6 n (View.ld x5 r0_7) (View.ld x6 r0_7)) (View.ld x7 r0_8) (View.ld x5 r0_9) (View.ld x6 r0_9)
        (View.ld x7 r0_10) (ix2 r d)
      = v (ix2 r d) + ∑ j : Fin 768, act (fun k => n (ix2 r k)) (fun k j => x5 (ix3 0 k j)) (fun k j => x6 (ix3 0 k j))
          ⟨768 + j.1, by omega⟩ * x7 (ix3 0 ⟨768 + j.1, by omega⟩ d)
        + ∑ j : Fin 768, act (fun k => n (ix2 r k)) (fun k j => x5 (ix3 0 k j)) (fun k j => x6 (ix3 0 k j))
          ⟨1536 + j.1, by omega⟩ * x7 (ix3 0 ⟨1536 + j.1, by omega⟩ d) := by
  pointwise [k0_pay7, k0_pay6, act, silu]

/-- The last column block, and the final norm over all four. -/
theorem pay1_row (v : FVec Ideal S512x1024 .f32) (n : FVec Ideal S512x1024 .bf16)
    (x5 x6 : Vec Ideal S1x1024x2816 .bf16)
    (x7 : Vec Ideal S1x2816x1024 .bf16) (x8 : Vec Ideal S1x1024 .f32) (r : Fin 512) (d : Fin 1024) :
    k0_pay1 v (k0_pay8 n (View.ld x5 r0_11)) (k0_pay9 n (View.ld x6 r0_11)) (k0_pay10 n (View.ld x5 r0_11)) k0_pay11
        (View.ld x7 r0_12) (View.ld x8 r0_4) (ix3 0 r d)
      = nrm (fun d => v (ix2 r d) + ∑ j : Fin 512,
          act (fun k => n (ix2 r k)) (fun k j => x5 (ix3 0 k j)) (fun k j => x6 (ix3 0 k j))
            ⟨2304 + j.1, by omega⟩ * x7 (ix3 0 ⟨2304 + j.1, by omega⟩ d)) (fun d => x8 (ix2 0 d)) d := by
  pointwise [k0_pay1, k0_pay8, k0_pay9, k0_pay10, k0_pay11, act, silu, nrm]

/-- One element of the output block, from the blocks of the nine arguments. -/
theorem out0_9_row (x0 : Vec Ideal S1x512x1024 .f32) (x1 x2 : Vec Ideal S1x512x512 .f32)
    (x3 : Vec Ideal S1x1024x1024 .bf16) (x4 : Vec Ideal S1x1024 .f32) (x5 x6 : Vec Ideal S1x1024x2816 .bf16)
    (x7 : Vec Ideal S1x2816x1024 .bf16) (x8 : Vec Ideal S1x1024 .f32) (r : Fin 512) (d : Fin 1024) :
    out0_9 x0 x1 x2 x3 x4 x5 x6 x7 x8 (ix3 0 r d)
      = nrm (layer (fun d => x0 (ix3 0 r d)) (fun k => x1 (ix3 0 r k)) (fun k => x2 (ix3 0 r k))
          (fun k d => x3 (ix3 0 k d)) (fun d => x4 (ix2 0 d)) (fun k j => x5 (ix3 0 k j)) (fun k j => x6 (ix3 0 k j))
          (fun j d => x7 (ix3 0 j d))) (fun d => x8 (ix2 0 d)) d := by
  rw [out0_9]
  rw [View.canon_unit_zero (by decide)]
  rw [pay1_row]
  refine congrArg (fun f => nrm f _ d) (funext fun d => ?_)
  rw [pay7_row, pay5_row, pay2_row]
  simp only [pay12_row]
  rw [layer, ← ffn_blocks]
end Cert.KernelIdeal.FfnPay
end
-- ==== Proof.FfnVal.lean ====
module

public import proofs.«01_k».proof.Proof.Gen.KernelIdeal.Value
public import proofs.«01_k».proof.Proof.FfnPay
public import Idealize.ShloMosaic.Lib.Pipeline.ValueKit
public import Idealize.ShloMosaic.Lib.Pointwise

/-! What the call with the last layer's norm leaves in its output array, element by element. -/

@[expose] public section

set_option maxRecDepth 16384

noncomputable section

namespace Cert.KernelIdeal.FfnVal

open Idealize.ShloMosaic Idealize.ShloMosaic.TcCoe Idealize.SL.Sem
open Idealize.ShloMosaic.Pipeline (Dat)
open Cert.KernelIdeal Cert.KernelIdeal.Gen Cert.Ffn

variable (m : (ℓ : Loc nD τ sig) → Buf (Elt Ideal) ℓ)

/-- Where each window stands at each point. -/
theorem idx : ∀ t : Fin cfg0.N, win0_0.index t = ![t.1 / 4, 16 + 512 * (t.1 % 4), 0]
    ∧ win0_1.index t = ![t.1 / 4, 16 + 512 * (t.1 % 4), 0] ∧ win0_2.index t = ![t.1 / 4, 16 + 512 * (t.1 % 4), 0]
    ∧ win0_3.index t = ![3, 0, 0] ∧ win0_4.index t = ![0, 0] ∧ win0_5.index t = ![3, 0, 0]
    ∧ win0_6.index t = ![3, 0, 1] ∧ win0_7.index t = ![3, 0, 0] ∧ win0_8.index t = ![0, 0]
    ∧ win0_9.index t = ![t.1 / 4, t.1 % 4, 0] :=
  (by decide +kernel : ∀ t : Fin grid0.N, _)

theorem nN (t : Fin cfg0.N) : t.1 < 64 := t.isLt

/-- The batch of point `t`. -/
abbrev bt (t : Fin cfg0.N) : Fin 16 := ⟨t.1 / 4, by have := nN t; omega⟩
/-- The sequence position of row `r` at point `t`: 16 positions in front are passed over. -/
abbrev tt (t : Fin cfg0.N) (r : Fin 512) : Fin 2112 := ⟨16 + 512 * (t.1 % 4) + r.1, by omega⟩

/-- Window 0's block, element by element: rows `16 + 512 * (t % 4)` and on of its array. -/
theorem blk0 (c : Dev nD) (t : Fin cfg0.N) (r : Fin 512) (d : Fin 1024) :
    iblk m c 0 t (ix3 0 r d) = m ((c : Thread nD τ).loc main_arg0) (ix3 (bt t) (tt t r) d) := by
  have h := (idx t).1
  blk_ext [iblk, V, idx t]
  · refine (win0_0.rect_emb_val_off t (ix3 0 r d) 0).trans ?_
    show win0_0.index t 0 + 0 = _
    rw [h]; rfl
  · refine (win0_0.rect_emb_val_off t (ix3 0 r d) 1).trans ?_
    show win0_0.index t 1 + r.1 = _
    rw [h]; rfl
  · refine (win0_0.rect_emb_val_off t (ix3 0 r d) 2).trans ?_
    show win0_0.index t 2 + d.1 = _
    rw [h]; exact Nat.zero_add _

/-- Window 1's block, element by element: rows `16 + 512 * (t % 4)` and on of its array. -/
theorem blk1 (c : Dev nD) (t : Fin cfg0.N) (r : Fin 512) (d : Fin 512) :
    iblk m c 1 t (ix3 0 r d) = m ((c : Thread nD τ).loc main_arg1) (ix3 (bt t) (tt t r) d) := by
  have h := (idx t).2.1
  blk_ext [iblk, V, idx t]
  · refine (win0_1.rect_emb_val_off t (ix3 0 r d) 0).trans ?_
    show win0_1.index t 0 + 0 = _
    rw [h]; rfl
  · refine (win0_1.rect_emb_val_off t (ix3 0 r d) 1).trans ?_
    show win0_1.index t 1 + r.1 = _
    rw [h]; rfl
  · refine (win0_1.rect_emb_val_off t (ix3 0 r d) 2).trans ?_
    show win0_1.index t 2 + d.1 = _
    rw [h]; exact Nat.zero_add _

/-- Window 2's block, element by element: rows `16 + 512 * (t % 4)` and on of its array. -/
theorem blk2 (c : Dev nD) (t : Fin cfg0.N) (r : Fin 512) (d : Fin 512) :
    iblk m c 2 t (ix3 0 r d) = m ((c : Thread nD τ).loc main_arg2) (ix3 (bt t) (tt t r) d) := by
  have h := (idx t).2.2.1
  blk_ext [iblk, V, idx t]
  · refine (win0_2.rect_emb_val_off t (ix3 0 r d) 0).trans ?_
    show win0_2.index t 0 + 0 = _
    rw [h]; rfl
  · refine (win0_2.rect_emb_val_off t (ix3 0 r d) 1).trans ?_
    show win0_2.index t 1 + r.1 = _
    rw [h]; rfl
  · refine (win0_2.rect_emb_val_off t (ix3 0 r d) 2).trans ?_
    show win0_2.index t 2 + d.1 = _
    rw [h]; exact Nat.zero_add _

/-- Window 3's block: the last layer's output weight. -/
theorem blk3 (c : Dev nD) (t : Fin cfg0.N) (k d : Fin 1024) :
    iblk m c 3 t (ix3 0 k d) = m ((c : Thread nD τ).loc main_arg3) (ix3 3 k d) := by
  blk_simp [iblk, idx t]
  entry_read
  pointwise []
  blk_ext [idx t]

/-- Window 4's block: the gain of the last layer's second norm. -/
theorem blk4 (c : Dev nD) (t : Fin cfg0.N) (d : Fin 1024) :
    iblk m c 4 t (ix2 0 d) = m ((c : Thread nD τ).loc main_arg4) (ix2 3 d) := by
  blk_simp [iblk, idx t]
  entry_read
  pointwise []
  blk_ext [idx t]

/-- Window 5's block: the gate half of the last layer's weight. -/
theorem blk5 (c : Dev nD) (t : Fin cfg0.N) (k : Fin 1024) (j : Fin 2816) :
    iblk m c 5 t (ix3 0 k j) = m ((c : Thread nD τ).loc main_arg5) (ix3 3 k ⟨j.1, by omega⟩) := by
  blk_simp [iblk, idx t]
  entry_read
  pointwise []
  blk_ext [idx t]

/-- Window 6's block: the other half. -/
theorem blk6 (c : Dev nD) (t : Fin cfg0.N) (k : Fin 1024) (j : Fin 2816) :
    iblk m c 6 t (ix3 0 k j) = m ((c : Thread nD τ).loc main_arg5) (ix3 3 k ⟨2816 + j.1, by omega⟩) := by
  blk_simp [iblk, idx t]
  entry_read
  pointwise []
  blk_ext [idx t]

/-- Window 7's block: the last layer's down weight. -/
theorem blk7 (c : Dev nD) (t : Fin cfg0.N) (j : Fin 2816) (d : Fin 1024) :
    iblk m c 7 t (ix3 0 j d) = m ((c : Thread nD τ).loc main_arg6) (ix3 3 j d) := by
  blk_simp [iblk, idx t]
  entry_read
  pointwise []
  blk_ext [idx t]

/-- Window 8's block: the gain of the final norm. -/
theorem blk8 (c : Dev nD) (t : Fin cfg0.N) (d : Fin 1024) :
    iblk m c 8 t (ix2 0 d) = m ((c : Thread nD τ).loc main_arg7) (ix1 d) := by
  blk_simp [iblk, idx t]
  entry_read
  pointwise []
  blk_ext [idx t]

/-- One row of the result, from the eight arguments: the last layer's second half at position `16 + t` of sequence
    `b`, then the final norm. -/
def row (c : Dev nD) (b : Fin 16) (t : Fin 2048) : Fin 1024 → EReal :=
  nrm (layer (fun d => m ((c : Thread nD τ).loc main_arg0) (ix3 b ⟨16 + t.1, by omega⟩ d))
      (fun k => m ((c : Thread nD τ).loc main_arg1) (ix3 b ⟨16 + t.1, by omega⟩ k))
      (fun k => m ((c : Thread nD τ).loc main_arg2) (ix3 b ⟨16 + t.1, by omega⟩ k))
      (fun k d => m ((c : Thread nD τ).loc main_arg3) (ix3 3 k d))
      (fun d => m ((c : Thread nD τ).loc main_arg4) (ix2 3 d))
      (fun k j => m ((c : Thread nD τ).loc main_arg5) (ix3 3 k ⟨j.1, by omega⟩))
      (fun k j => m ((c : Thread nD τ).loc main_arg5) (ix3 3 k ⟨2816 + j.1, by omega⟩))
      (fun j d => m ((c : Thread nD τ).loc main_arg6) (ix3 3 j d)))
    (fun d => m ((c : Thread nD τ).loc main_arg7) (ix1 d))

/-- The output block at a point holds the rows of the result it stands over. -/
theorem point (c : Dev nD) (t : Fin cfg0.N) (r : Fin 512) (d : Fin 1024) :
    out0_9 (iblk m c 0 t) (iblk m c 1 t) (iblk m c 2 t) (iblk m c 3 t) (iblk m c 4 t) (iblk m c 5 t) (iblk m c 6 t)
        (iblk m c 7 t) (iblk m c 8 t) (ix3 0 r d)
      = row m c (bt t) ⟨512 * (t.1 % 4) + r.1, by omega⟩ d := by
  rw [FfnPay.out0_9_row]
  simp only [blk0, blk1, blk2, blk3, blk4, blk5, blk6, blk7, blk8, row, tt, Nat.add_assoc]

/-- The whole result of the call. -/
def result (c : Dev nD) : S16x2048x1024.Idx → EReal := fun i => row m c (i 0) (i 1) (i 2)

/-- The output array ends as the result. -/
theorem final (c : Dev nD) : (dats m 0 c).arrAt 9 (cfgs 0).N = result m c := by
  refine (dats m 0 c).arrAt_eq_of_covers 9 _ (by decide +kernel) fun t _ y => ?_
  blk_simp
  rw [after0_9]
  idx_vars y
  obtain rfl : y0 = 0 := Subsingleton.elim _ _
  rw [point]
  have e : ((View.whole main_v7).slice (win0_9.rect t)).emb (ix3 0 y1 y2)
      = ix3 (bt t) ⟨512 * (t.1 % 4) + y1.1, by omega⟩ y2 := by
    blk_ext [idx t]
  rw [e]
  rfl
end Cert.KernelIdeal.FfnVal
end
-- ==== Proof.FfnRef.lean ====
module

public import proofs.«01_k».proof.Proof.Gen.ReferenceIdeal.Read
public import proofs.«01_k».proof.Proof.FfnMath
public import Idealize.ShloMosaic.Lib.Pointwise

/-! What the reference of the call with the last layer's norm holds, element by element. -/

@[expose] public section

set_option maxRecDepth 16384

noncomputable section

namespace Cert.ReferenceIdeal.FfnRef

open Cert.ReferenceIdeal Cert.ReferenceIdeal.Read Idealize.ShloMosaic Cert.Ffn

variable (x0 : (⟨S16x2112x1024, .f32⟩ : BufTy).Contents (Elt Ideal))
  (x1 x2 : (⟨S16x2112x512, .f32⟩ : BufTy).Contents (Elt Ideal))
  (x3 : (⟨S4x1024x1024, .f32⟩ : BufTy).Contents (Elt Ideal))
  (x4 : (⟨S4x1024, .f32⟩ : BufTy).Contents (Elt Ideal))
  (x5 : (⟨S4x1024x5632, .f32⟩ : BufTy).Contents (Elt Ideal))
  (x6 : (⟨S4x2816x1024, .f32⟩ : BufTy).Contents (Elt Ideal))
  (x7 : (⟨S1024, .f32⟩ : BufTy).Contents (Elt Ideal))

/-- The joined mixers' projection with its residual. -/
theorem v4_row (b : Fin 16) (t : Fin 2112) (d : Fin 1024) :
    val_main_v4 (F := Ideal) x0 x1 x2 x3 (ix3 b t d)
      = proj (fun d => x0 (ix3 b t d)) (fun k => x1 (ix3 b t k)) (fun k => x2 (ix3 b t k)) (fun k d => x3 (ix3 3 k d)) d := by
  pointwise [val_main_v4, val_main_v3, val_main_v2, val_main_v1, val_main_v0, proj]

/-- Its norm. -/
theorem v19_row (b : Fin 16) (t : Fin 2112) (d : Fin 1024) :
    val_main_v19 (F := Ideal) x0 x1 x2 x3 x4 (ix3 b t d)
      = nrm (fun d => val_main_v4 (F := Ideal) x0 x1 x2 x3 (ix3 b t d)) (fun d => x4 (ix2 3 d)) d := by
  pointwise [val_main_v19, val_main_v18, val_main_v17, val_main_v16, val_main_v15, val_main_v14, val_main_v13,
    val_main_v12, val_main_v11, val_main_v10, val_main_v9, val_main_v8, val_main_v7, val_main_v6, val_main_v5,
    val_main_cst, val_main_cst_0, val_main_cst_1, nrm]

/-- The gated activation. -/
theorem v26_row (b : Fin 16) (t : Fin 2112) (j : Fin 2816) :
    val_main_v26 (F := Ideal) x0 x1 x2 x3 x4 x5 (ix3 b t j)
      = act (fun d => val_main_v19 (F := Ideal) x0 x1 x2 x3 x4 (ix3 b t d)) (fun k j => x5 (ix3 3 k ⟨j.1, by omega⟩))
          (fun k j => x5 (ix3 3 k ⟨2816 + j.1, by omega⟩)) j := by
  pointwise [val_main_v26, val_main_v25, val_main_v24, val_main_v23, val_main_v22, val_main_v21, val_main_v20,
    val_main_call0_v0, val_main_call0_v1, val_main_call0_v2, val_main_call0_v3, val_main_call0_v4,
    val_main_call0_v5, val_main_call0_cst, val_main_call0_cst_0, act, silu]
  simp only [zero_sub]

/-- The layer's output. -/
theorem v30_row (b : Fin 16) (t : Fin 2112) (d : Fin 1024) :
    val_main_v30 (F := Ideal) x0 x1 x2 x3 x4 x5 x6 (ix3 b t d)
      = val_main_v4 (F := Ideal) x0 x1 x2 x3 (ix3 b t d)
        + ∑ j : Fin 2816, val_main_v26 (F := Ideal) x0 x1 x2 x3 x4 x5 (ix3 b t j) * x6 (ix3 3 j d) := by
  pointwise [val_main_v30, val_main_v29, val_main_v28, val_main_v27]

/-- The final norm, past the 16 positions in front. -/
theorem v44_row (b : Fin 16) (t : Fin 2048) (d : Fin 1024) :
    val_main_v44 (F := Ideal) x0 x1 x2 x3 x4 x5 x6 x7 (ix3 b t d)
      = nrm (fun d => val_main_v30 (F := Ideal) x0 x1 x2 x3 x4 x5 x6 (ix3 b ⟨16 + t.1, by omega⟩ d))
          (fun d => x7 (ix1 d)) d := by
  pointwise [val_main_v44, val_main_v43, val_main_v42, val_main_v41, val_main_v40, val_main_v39, val_main_v38,
    val_main_v37, val_main_v36, val_main_v35, val_main_v34, val_main_v33, val_main_v32, val_main_v31,
    val_main_cst_2, val_main_cst_3, val_main_cst_4, nrm]

/-- The whole: the layer's second half at position `16 + t`, then the final norm. -/
theorem result_row (b : Fin 16) (t : Fin 2048) (d : Fin 1024) :
    val_main_v44 (F := Ideal) x0 x1 x2 x3 x4 x5 x6 x7 (ix3 b t d)
      = nrm (layer (fun d => x0 (ix3 b ⟨16 + t.1, by omega⟩ d)) (fun k => x1 (ix3 b ⟨16 + t.1, by omega⟩ k))
          (fun k => x2 (ix3 b ⟨16 + t.1, by omega⟩ k)) (fun k d => x3 (ix3 3 k d)) (fun d => x4 (ix2 3 d))
          (fun k j => x5 (ix3 3 k ⟨j.1, by omega⟩)) (fun k j => x5 (ix3 3 k ⟨2816 + j.1, by omega⟩))
          (fun j d => x6 (ix3 3 j d))) (fun d => x7 (ix1 d)) d := by
  rw [v44_row]
  refine congrArg (fun f => nrm f _ d) (funext fun d => ?_)
  simp only [v30_row, v26_row, v19_row, v4_row]
  rfl
end Cert.ReferenceIdeal.FfnRef
end
-- ==== Proof.FfnClaim.lean ====
module

public import proofs.«01_k».proof.Defs
public import proofs.«01_k».proof.Proof.FfnVal
public import proofs.«01_k».proof.Proof.FfnRef
public import proofs.«01_k».proof.Proof.Gen.KernelIdeal
public import proofs.«01_k».proof.Proof.Gen.ReferenceIdeal
public import proofs.«01_k».proof.Proof.Gen.ReferenceIdeal.Run
public import Idealize.ShloMosaic.Lib.Claim
public import Idealize.ShloMosaic.Lib.Quiescent

/-! The value claim of the call with the last layer's norm. -/

@[expose] public section

set_option maxRecDepth 16384

noncomputable section

namespace Cert.FfnClaim

open Idealize.ShloMosaic Idealize.ShloMosaic.TcCoe Idealize.SL.Sem

/-- The reference's result is the kernel's, from equal arguments. -/
theorem same (m : (ℓ : Loc Cert.KernelIdeal.nD Cert.KernelIdeal.τ Cert.KernelIdeal.sig) → Buf (Elt Ideal) ℓ)
    (c : Dev Cert.KernelIdeal.nD) :
    Cert.ReferenceIdeal.Read.val_main_v44 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      = Cert.KernelIdeal.FfnVal.result m c := by
  funext i
  idx_vars i
  exact Cert.ReferenceIdeal.FfnRef.result_row _ _ _ _ _ _ _ _ _ _ _

/-- Kernel and reference end with equal results, over the reals with infinities. -/
theorem algebraic : Cert.algebraic_KernelIdeal_ReferenceIdeal (hKernelIdeal := Cert.KernelIdeal.Gen.facts)
    (hReferenceIdeal := Cert.ReferenceIdeal.Gen.facts) := fun m ρ m' ρ' _ hag =>
  ⟨fun c => Cert.KernelIdeal.FfnVal.result m c,
    (θ_run _ _ _).mono (fun _ h c => ⟨(h c).1.trans (Cert.KernelIdeal.FfnVal.final m c), (h c).2⟩)
      (Cert.KernelIdeal.Value.run_blocks m ρ),
    (θ_run _ _ _).mono (fun _ h c => ⟨by
      obtain ⟨h0, h1, h2, h3, h4, h5, h6, h7⟩ := hag c
      refine (h c).1.trans ((Cert.ReferenceIdeal.Read.val_main_v44_eq m' c).trans ?_)
      rw [h0, h1, h2, h3, h4, h5, h6, h7]
      exact same m c, (h c).2⟩)
      (Cert.ReferenceIdeal.Value.run m' ρ')⟩

/-- The reference leaves its arguments as they were; it has no semaphore. -/
theorem frame_ref : Cert.quiescent_ReferenceIdeal (hReferenceIdeal := Cert.ReferenceIdeal.Gen.facts) := fun m ρ _ =>
  (θ_run _ _ _).mono (fun _ h => ⟨fun c => (h c).2, sem_eq_zero_of_no_sems rfl _⟩)
    (Cert.ReferenceIdeal.Value.run m ρ)

end Cert.FfnClaim
end
-- ==== Proof.Ffn2Pay.lean ====
module

public import proofs.«01_k».proof.Proof.Gen.Kernel2Ideal.Frame
public import proofs.«01_k».proof.Proof.FfnMath
public import Idealize.ShloMosaic.Lib.Pointwise

/-! What the call's body leaves in its output block, row by row. -/

@[expose] public section

set_option maxRecDepth 16384

noncomputable section

namespace Cert.Kernel2Ideal.Ffn2Pay

open Cert.Kernel2Ideal Cert.Kernel2Ideal.Gen Idealize.ShloMosaic Cert.Ffn

/-- The projected row with its residual. -/
theorem pay2_row (x0 : Vec Ideal S512x1024 .f32) (x1 x2 : Vec Ideal S512x512 .f32)
    (x3 : Vec Ideal S1x1024x1024 .bf16) (r : Fin 512) (d : Fin 1024) :
    k0_pay2 (View.ld x1 r0_0) (View.ld x3 r0_1) (View.ld x2 r0_0) (View.ld x3 r0_2) (View.ld x0 r0_3) (ix2 r d)
      = proj (fun d => x0 (ix2 r d)) (fun k => x1 (ix2 r k)) (fun k => x2 (ix2 r k))
          (fun k d => x3 (ix3 0 k d)) d := by
  pointwise [k0_pay2, proj]

/-- The normed row. -/
theorem pay11_row (x0 : Vec Ideal S512x1024 .f32) (x1 x2 : Vec Ideal S512x512 .f32)
    (x3 : Vec Ideal S1x1024x1024 .bf16) (x4 : Vec Ideal S1x1024 .f32) (x5 x6 : Vec Ideal S1x1024x2816 .bf16)
    (x7 : Vec Ideal S1x2816x1024 .bf16) (x8 : Vec Ideal S1x1024 .f32) (r : Fin 512) (d : Fin 1024) :
    k0_pay11 x0 x1 x2 x3 x4 x5 x6 x7 x8 (ix2 r d)
      = nrm (proj (fun d => x0 (ix2 r d)) (fun k => x1 (ix2 r k)) (fun k => x2 (ix2 r k))
          (fun k d => x3 (ix3 0 k d))) (fun d => x4 (ix2 0 d)) d := by
  pointwise [k0_pay11, k0_pay3, nrm, pay2_row]

/-- The gate of the first column block. -/
theorem pay4_row (x0 : Vec Ideal S512x1024 .f32) (x1 x2 : Vec Ideal S512x512 .f32)
    (x3 : Vec Ideal S1x1024x1024 .bf16) (x4 : Vec Ideal S1x1024 .f32) (x5 x6 : Vec Ideal S1x1024x2816 .bf16)
    (x7 : Vec Ideal S1x2816x1024 .bf16) (x8 : Vec Ideal S1x1024 .f32) (r : Fin 512) (j : Fin 768) :
    k0_pay4 (View.ld x1 r0_0) (View.ld x3 r0_1) (View.ld x2 r0_0) (View.ld x3 r0_2) (View.ld x0 r0_3) (View.ld x4 r0_4)
        (View.ld x5 r0_5) (ix2 r j)
      = ∑ k, k0_pay11 x0 x1 x2 x3 x4 x5 x6 x7 x8 (ix2 r k) * x5 (ix3 0 k ⟨j.1, by omega⟩) := by
  pointwise [k0_pay4, k0_pay11]

/-- The first column block: the residual plus its share of the down projection. -/
theorem pay5_row (v : FVec Ideal S512x1024 .f32) (n : FVec Ideal S512x1024 .bf16) (g : FVec Ideal S512x768 .f32)
    (x6 : Vec Ideal S1x1024x2816 .bf16)
    (x7 : Vec Ideal S1x2816x1024 .bf16) (r : Fin 512) (d : Fin 1024) :
    k0_pay5 v n g (View.ld x6 r0_5) (View.ld x7 r0_6) (ix2 r d)
      = v (ix2 r d) + ∑ j : Fin 768, silu (g (ix2 r j)) * (∑ k, n (ix2 r k) * x6 (ix3 0 k ⟨j.1, by omega⟩))
          * x7 (ix3 0 ⟨j.1, by omega⟩ d) := by
  pointwise [k0_pay5, silu]

/-- The second and third column blocks. -/
theorem pay7_row (v : FVec Ideal S512x1024 .f32) (n : FVec Ideal S512x1024 .bf16)
    (x5 x6 : Vec Ideal S1x1024x2816 .bf16)
    (x7 : Vec Ideal S1x2816x1024 .bf16) (r : Fin 512) (d : Fin 1024) :
    k0_pay7 n v (k0_pay6 n (View.ld x5 r0_7) (View.ld x6 r0_7) (View.ld x7 r0_8)) (View.ld x5 r0_9) (View.ld x6 r0_9)
        (View.ld x7 r0_10) (ix2 r d)
      = v (ix2 r d) + ∑ j : Fin 768, act (fun k => n (ix2 r k)) (fun k j => x5 (ix3 0 k j)) (fun k j => x6 (ix3 0 k j))
          ⟨768 + j.1, by omega⟩ * x7 (ix3 0 ⟨768 + j.1, by omega⟩ d)
        + ∑ j : Fin 768, act (fun k => n (ix2 r k)) (fun k j => x5 (ix3 0 k j)) (fun k j => x6 (ix3 0 k j))
          ⟨1536 + j.1, by omega⟩ * x7 (ix3 0 ⟨1536 + j.1, by omega⟩ d) := by
  pointwise [k0_pay7, k0_pay6, act, silu]

/-- The last column block. -/
theorem pay1_row (v : FVec Ideal S512x1024 .f32) (n : FVec Ideal S512x1024 .bf16)
    (x5 x6 : Vec Ideal S1x1024x2816 .bf16)
    (x7 : Vec Ideal S1x2816x1024 .bf16) (r : Fin 512) (d : Fin 1024) :
    k0_pay1 v (k0_pay8 n (View.ld x5 r0_11)) (k0_pay9 n (View.ld x6 r0_11)) (k0_pay10 n (View.ld x5 r0_11))
        (View.ld x7 r0_12) (ix2 r d)
      = v (ix2 r d) + ∑ j : Fin 512,
          act (fun k => n (ix2 r k)) (fun k j => x5 (ix3 0 k j)) (fun k j => x6 (ix3 0 k j))
            ⟨2304 + j.1, by omega⟩ * x7 (ix3 0 ⟨2304 + j.1, by omega⟩ d) := by
  pointwise [k0_pay1, k0_pay8, k0_pay9, k0_pay10, act, silu]

/-- One element of the output block, from the blocks of the arguments. -/
theorem out0_9_row (x0 : Vec Ideal S512x1024 .f32) (x1 x2 : Vec Ideal S512x512 .f32)
    (x3 : Vec Ideal S1x1024x1024 .bf16) (x4 : Vec Ideal S1x1024 .f32) (x5 x6 : Vec Ideal S1x1024x2816 .bf16)
    (x7 : Vec Ideal S1x2816x1024 .bf16) (x8 : Vec Ideal S1x1024 .f32) (r : Fin 512) (d : Fin 1024) :
    out0_9 x0 x1 x2 x3 x4 x5 x6 x7 x8 (ix2 r d)
      = layer (fun d => x0 (ix2 r d)) (fun k => x1 (ix2 r k)) (fun k => x2 (ix2 r k))
          (fun k d => x3 (ix3 0 k d)) (fun d => x4 (ix2 0 d)) (fun k j => x5 (ix3 0 k j)) (fun k j => x6 (ix3 0 k j))
          (fun j d => x7 (ix3 0 j d)) d := by
  rw [out0_9]
  rw [View.canon_unit_zero (by decide)]
  rw [pay1_row, pay7_row, pay5_row, pay2_row]
  simp only [pay4_row x0 x1 x2 x3 x4 x5 x6 x7 x8, pay11_row]
  rw [layer, ← ffn_blocks]
  rfl
end Cert.Kernel2Ideal.Ffn2Pay
end
-- ==== Proof.Ffn2Val.lean ====
module

public import proofs.«01_k».proof.Proof.Gen.Kernel2Ideal.Value
public import proofs.«01_k».proof.Proof.Ffn2Pay
public import Idealize.ShloMosaic.Lib.Pipeline.ValueKit
public import Idealize.ShloMosaic.Lib.Pointwise

/-! What the call without the final norm leaves in its output array, element by element. -/

@[expose] public section

set_option maxRecDepth 16384

noncomputable section

namespace Cert.Kernel2Ideal.Ffn2Val

open Idealize.ShloMosaic Idealize.ShloMosaic.TcCoe Idealize.SL.Sem
open Idealize.ShloMosaic.Pipeline (Dat)
open Cert.Kernel2Ideal Cert.Kernel2Ideal.Gen Cert.Ffn

variable (m : (ℓ : Loc nD τ sig) → Buf (Elt Ideal) ℓ)

/-- Where each window stands at each point. -/
theorem idx : ∀ t : Fin cfg0.N, win0_0.index t = ![t.1, 0]
    ∧ win0_1.index t = ![t.1, 0] ∧ win0_2.index t = ![t.1, 0]
    ∧ win0_3.index t = ![0, 0, 0] ∧ win0_4.index t = ![0, 0] ∧ win0_5.index t = ![0, 0, 0]
    ∧ win0_6.index t = ![0, 0, 1] ∧ win0_7.index t = ![0, 0, 0] ∧ win0_8.index t = ![0, 0]
    ∧ win0_9.index t = ![t.1, 0] :=
  (by decide +kernel : ∀ t : Fin grid0.N, _)

theorem nN (t : Fin cfg0.N) : t.1 < 66 := t.isLt

/-- The sequence that row `r` at point `t` belongs to: the sequences' 2112 positions lie one after the other. -/
abbrev bt (t : Fin cfg0.N) (r : Fin 512) : Fin 16 := ⟨(512 * t.1 + r.1) / 2112, by have := nN t; omega⟩
/-- Its position there. -/
abbrev tt (t : Fin cfg0.N) (r : Fin 512) : Fin 2112 := ⟨(512 * t.1 + r.1) % 2112, by omega⟩

/-- Window 0's block: 512 rows of its array, seen as one list of rows. -/
theorem blk0 (c : Dev nD) (t : Fin cfg0.N) (r : Fin 512) (d : Fin 1024) :
    iblk m c 0 t (ix2 r d) = m ((c : Thread nD τ).loc main_arg0) (ix3 (bt t r) (tt t r) d) := by
  blk_simp [iblk, idx t]
  entry_read
  pointwise []
  blk_ext [idx t]

/-- Window 1's block: 512 rows of its array, seen as one list of rows. -/
theorem blk1 (c : Dev nD) (t : Fin cfg0.N) (r : Fin 512) (d : Fin 512) :
    iblk m c 1 t (ix2 r d) = m ((c : Thread nD τ).loc main_arg1) (ix3 (bt t r) (tt t r) d) := by
  blk_simp [iblk, idx t]
  entry_read
  pointwise []
  blk_ext [idx t]

/-- Window 2's block: 512 rows of its array, seen as one list of rows. -/
theorem blk2 (c : Dev nD) (t : Fin cfg0.N) (r : Fin 512) (d : Fin 512) :
    iblk m c 2 t (ix2 r d) = m ((c : Thread nD τ).loc main_arg2) (ix3 (bt t r) (tt t r) d) := by
  blk_simp [iblk, idx t]
  entry_read
  pointwise []
  blk_ext [idx t]

/-- Window 3's block: the first layer's output weight. -/
theorem blk3 (c : Dev nD) (t : Fin cfg0.N) (k d : Fin 1024) :
    iblk m c 3 t (ix3 0 k d) = m ((c : Thread nD τ).loc main_arg3) (ix3 0 k d) := by
  blk_simp [iblk, idx t]
  entry_read
  pointwise []
  blk_ext [idx t]

/-- Window 4's block: the gain of the first layer's second norm. -/
theorem blk4 (c : Dev nD) (t : Fin cfg0.N) (d : Fin 1024) :
    iblk m c 4 t (ix2 0 d) = m ((c : Thread nD τ).loc main_arg4) (ix2 0 d) := by
  blk_simp [iblk, idx t]
  entry_read
  pointwise []
  blk_ext [idx t]

/-- Window 5's block: the gate half of the first layer's weight. -/
theorem blk5 (c : Dev nD) (t : Fin cfg0.N) (k : Fin 1024) (j : Fin 2816) :
    iblk m c 5 t (ix3 0 k j) = m ((c : Thread nD τ).loc main_arg5) (ix3 0 k ⟨j.1, by omega⟩) := by
  blk_simp [iblk, idx t]
  entry_read
  pointwise []
  blk_ext [idx t]

/-- Window 6's block: the other half. -/
theorem blk6 (c : Dev nD) (t : Fin cfg0.N) (k : Fin 1024) (j : Fin 2816) :
    iblk m c 6 t (ix3 0 k j) = m ((c : Thread nD τ).loc main_arg5) (ix3 0 k ⟨2816 + j.1, by omega⟩) := by
  blk_simp [iblk, idx t]
  entry_read
  pointwise []
  blk_ext [idx t]

/-- Window 7's block: the first layer's down weight. -/
theorem blk7 (c : Dev nD) (t : Fin cfg0.N) (j : Fin 2816) (d : Fin 1024) :
    iblk m c 7 t (ix3 0 j d) = m ((c : Thread nD τ).loc main_arg6) (ix3 0 j d) := by
  blk_simp [iblk, idx t]
  entry_read
  pointwise []
  blk_ext [idx t]

/-- One row of the result, from the arguments: the first layer's second half at position `t` of sequence `b`. -/
def row (c : Dev nD) (b : Fin 16) (t : Fin 2112) : Fin 1024 → EReal :=
  layer (fun d => m ((c : Thread nD τ).loc main_arg0) (ix3 b t d))
      (fun k => m ((c : Thread nD τ).loc main_arg1) (ix3 b t k))
      (fun k => m ((c : Thread nD τ).loc main_arg2) (ix3 b t k))
      (fun k d => m ((c : Thread nD τ).loc main_arg3) (ix3 0 k d))
      (fun d => m ((c : Thread nD τ).loc main_arg4) (ix2 0 d))
      (fun k j => m ((c : Thread nD τ).loc main_arg5) (ix3 0 k ⟨j.1, by omega⟩))
      (fun k j => m ((c : Thread nD τ).loc main_arg5) (ix3 0 k ⟨2816 + j.1, by omega⟩))
      (fun j d => m ((c : Thread nD τ).loc main_arg6) (ix3 0 j d))

/-- The output block at a point holds the rows of the result it stands over. -/
theorem point (c : Dev nD) (t : Fin cfg0.N) (r : Fin 512) (d : Fin 1024) :
    out0_9 (iblk m c 0 t) (iblk m c 1 t) (iblk m c 2 t) (iblk m c 3 t) (iblk m c 4 t) (iblk m c 5 t) (iblk m c 6 t)
        (iblk m c 7 t) (iblk m c 8 t) (ix2 r d)
      = row m c (bt t r) (tt t r) d := by
  rw [Ffn2Pay.out0_9_row]
  simp only [blk0, blk1, blk2, blk3, blk4, blk5, blk6, blk7, row]

/-- The whole result of the call, its rows one list. -/
def result (c : Dev nD) : S33792x1024.Idx → EReal := fun i =>
  row m c ⟨(i 0).1 / 2112, by have h : (i 0).1 < 33792 := (i 0).isLt; omega⟩ ⟨(i 0).1 % 2112, by omega⟩ (i 1)

/-- The output array ends as the result. -/
theorem final (c : Dev nD) : (dats m 0 c).arrAt 9 (cfgs 0).N = result m c := by
  refine (dats m 0 c).arrAt_eq_of_covers 9 _ (by decide +kernel) fun t _ y => ?_
  blk_simp
  rw [after0_9]
  idx_vars y
  rw [point]
  have e : ((View.whole main_v10).slice (win0_9.rect t)).emb (ix2 y0 y1)
      = ix2 ⟨512 * t.1 + y0.1, by have := nN t; omega⟩ y1 := by
    blk_ext [idx t]
  rw [e]
  rfl
end Cert.Kernel2Ideal.Ffn2Val
end
-- ==== Proof.Ffn2Ref.lean ====
module

public import proofs.«01_k».proof.Proof.Gen.Reference2Ideal.Read
public import proofs.«01_k».proof.Proof.FfnMath
public import Idealize.ShloMosaic.Lib.Pointwise

/-! What the reference of the call without the final norm holds, element by element. -/

@[expose] public section

set_option maxRecDepth 16384

noncomputable section

namespace Cert.Reference2Ideal.Ffn2Ref

open Cert.Reference2Ideal Cert.Reference2Ideal.Read Idealize.ShloMosaic Cert.Ffn

variable (x0 : (⟨S16x2112x1024, .f32⟩ : BufTy).Contents (Elt Ideal))
  (x1 x2 : (⟨S16x2112x512, .f32⟩ : BufTy).Contents (Elt Ideal))
  (x3 : (⟨S4x1024x1024, .f32⟩ : BufTy).Contents (Elt Ideal))
  (x4 : (⟨S4x1024, .f32⟩ : BufTy).Contents (Elt Ideal))
  (x5 : (⟨S4x1024x5632, .f32⟩ : BufTy).Contents (Elt Ideal))
  (x6 : (⟨S4x2816x1024, .f32⟩ : BufTy).Contents (Elt Ideal))

/-- The joined mixers' projection with its residual. -/
theorem v4_row (b : Fin 16) (t : Fin 2112) (d : Fin 1024) :
    val_main_v4 (F := Ideal) x0 x1 x2 x3 (ix3 b t d)
      = proj (fun d => x0 (ix3 b t d)) (fun k => x1 (ix3 b t k)) (fun k => x2 (ix3 b t k)) (fun k d => x3 (ix3 0 k d)) d := by
  pointwise [val_main_v4, val_main_v3, val_main_v2, val_main_v1, val_main_v0, proj]

/-- Its norm. -/
theorem v19_row (b : Fin 16) (t : Fin 2112) (d : Fin 1024) :
    val_main_v19 (F := Ideal) x0 x1 x2 x3 x4 (ix3 b t d)
      = nrm (fun d => val_main_v4 (F := Ideal) x0 x1 x2 x3 (ix3 b t d)) (fun d => x4 (ix2 0 d)) d := by
  pointwise [val_main_v19, val_main_v18, val_main_v17, val_main_v16, val_main_v15, val_main_v14, val_main_v13,
    val_main_v12, val_main_v11, val_main_v10, val_main_v9, val_main_v8, val_main_v7, val_main_v6, val_main_v5,
    val_main_cst, val_main_cst_0, val_main_cst_1, nrm]

/-- The gated activation. -/
theorem v26_row (b : Fin 16) (t : Fin 2112) (j : Fin 2816) :
    val_main_v26 (F := Ideal) x0 x1 x2 x3 x4 x5 (ix3 b t j)
      = act (fun d => val_main_v19 (F := Ideal) x0 x1 x2 x3 x4 (ix3 b t d)) (fun k j => x5 (ix3 0 k ⟨j.1, by omega⟩))
          (fun k j => x5 (ix3 0 k ⟨2816 + j.1, by omega⟩)) j := by
  pointwise [val_main_v26, val_main_v25, val_main_v24, val_main_v23, val_main_v22, val_main_v21, val_main_v20,
    val_main_call0_v0, val_main_call0_v1, val_main_call0_v2, val_main_call0_v3, val_main_call0_v4,
    val_main_call0_v5, val_main_call0_cst, val_main_call0_cst_0, act, silu]
  simp only [zero_sub]

/-- The layer's output. -/
theorem v30_row (b : Fin 16) (t : Fin 2112) (d : Fin 1024) :
    val_main_v30 (F := Ideal) x0 x1 x2 x3 x4 x5 x6 (ix3 b t d)
      = val_main_v4 (F := Ideal) x0 x1 x2 x3 (ix3 b t d)
        + ∑ j : Fin 2816, val_main_v26 (F := Ideal) x0 x1 x2 x3 x4 x5 (ix3 b t j) * x6 (ix3 0 j d) := by
  pointwise [val_main_v30, val_main_v29, val_main_v28, val_main_v27]

/-- The whole: the layer's second half at every position, the rows one list. -/
theorem result_row (b : Fin 33792) (d : Fin 1024) :
    val_main_v31 (F := Ideal) x0 x1 x2 x3 x4 x5 x6 (ix2 b d)
      = layer (fun d => x0 (ix3 ⟨b.1 / 2112, by omega⟩ ⟨b.1 % 2112, by omega⟩ d))
          (fun k => x1 (ix3 ⟨b.1 / 2112, by omega⟩ ⟨b.1 % 2112, by omega⟩ k))
          (fun k => x2 (ix3 ⟨b.1 / 2112, by omega⟩ ⟨b.1 % 2112, by omega⟩ k)) (fun k d => x3 (ix3 0 k d))
          (fun d => x4 (ix2 0 d))
          (fun k j => x5 (ix3 0 k ⟨j.1, by omega⟩)) (fun k j => x5 (ix3 0 k ⟨2816 + j.1, by omega⟩))
          (fun j d => x6 (ix3 0 j d)) d := by
  have h : val_main_v31 (F := Ideal) x0 x1 x2 x3 x4 x5 x6 (ix2 b d)
      = val_main_v30 (F := Ideal) x0 x1 x2 x3 x4 x5 x6 (ix3 ⟨b.1 / 2112, by omega⟩ ⟨b.1 % 2112, by omega⟩ d) := by
    pointwise [val_main_v31]
  rw [h]
  simp only [v30_row, v26_row, v19_row, v4_row]
  rfl
end Cert.Reference2Ideal.Ffn2Ref
end
-- ==== Proof.Ffn2Claim.lean ====
module

public import proofs.«01_k».proof.Defs
public import proofs.«01_k».proof.Proof.Ffn2Val
public import proofs.«01_k».proof.Proof.Ffn2Ref
public import proofs.«01_k».proof.Proof.Gen.Kernel2Ideal
public import proofs.«01_k».proof.Proof.Gen.Reference2Ideal
public import proofs.«01_k».proof.Proof.Gen.Reference2Ideal.Run
public import Idealize.ShloMosaic.Lib.Claim
public import Idealize.ShloMosaic.Lib.Quiescent

/-! The value claim of the call without the final norm. -/

@[expose] public section

set_option maxRecDepth 16384

noncomputable section

namespace Cert.Ffn2Claim

open Idealize.ShloMosaic Idealize.ShloMosaic.TcCoe Idealize.SL.Sem

/-- The reference's result is the kernel's, from equal arguments. -/
theorem same (m : (ℓ : Loc Cert.Kernel2Ideal.nD Cert.Kernel2Ideal.τ Cert.Kernel2Ideal.sig) → Buf (Elt Ideal) ℓ)
    (c : Dev Cert.Kernel2Ideal.nD) :
    Cert.Reference2Ideal.Read.val_main_v31 (F := Ideal)
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6))
      = Cert.Kernel2Ideal.Ffn2Val.result m c := by
  funext i
  idx_vars i
  exact Cert.Reference2Ideal.Ffn2Ref.result_row _ _ _ _ _ _ _ _ _

/-- Kernel and reference end with equal results, over the reals with infinities. -/
theorem algebraic : Cert.algebraic_Kernel2Ideal_Reference2Ideal (hKernel2Ideal := Cert.Kernel2Ideal.Gen.facts)
    (hReference2Ideal := Cert.Reference2Ideal.Gen.facts) := fun m ρ m' ρ' _ hag =>
  ⟨fun c => Cert.Kernel2Ideal.Ffn2Val.result m c,
    (θ_run _ _ _).mono (fun _ h c => ⟨(h c).1.trans (Cert.Kernel2Ideal.Ffn2Val.final m c), (h c).2⟩)
      (Cert.Kernel2Ideal.Value.run_blocks m ρ),
    (θ_run _ _ _).mono (fun _ h c => ⟨by
      obtain ⟨h0, h1, h2, h3, h4, h5, h6, _⟩ := hag c
      refine (h c).1.trans ((Cert.Reference2Ideal.Read.val_main_v31_eq m' c).trans ?_)
      rw [h0, h1, h2, h3, h4, h5, h6]
      exact same m c, (h c).2⟩)
      (Cert.Reference2Ideal.Value.run m' ρ')⟩

/-- The reference leaves its arguments as they were; it has no semaphore. -/
theorem frame_ref : Cert.quiescent_Reference2Ideal (hReference2Ideal := Cert.Reference2Ideal.Gen.facts) := fun m ρ _ =>
  (θ_run _ _ _).mono (fun _ h => ⟨fun c => (h c).2, sem_eq_zero_of_no_sems rfl _⟩)
    (Cert.Reference2Ideal.Value.run m ρ)

end Cert.Ffn2Claim
end
-- ==== Proof.MixExec.lean ====
/- Running a body whose buffers are held as one family: the heads are held at named contents, a load reads them, a store
   replaces the part it covers, and a run of operations is followed by composing such steps. -/
module

public import proofs.«01_k».proof.Proof.Gen.Kernel3Ideal.Frame
public import proofs.«01_k».proof.Proof.Gen.Kernel3Ideal.Skeleton

@[expose] public section

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]

local notation "𝕄" => MT nD τ sig Unit (Elt F) ℕ (UR sig nD τ) ℕ

/-- From `P` the program `p` runs to the value `a`, leaving `Q`. -/
def Runs (c : Dev nD) {α : Type} (P : sProp 𝕄) (p : Prog (TpuEff nD τ sig (Elt F) Λ₀ .tc) α) (a : α) (Q : sProp 𝕄) : Prop :=
  ∀ (E : Set ℕ) (K : α → sProp 𝕄),
    iprop(P ∗ (Q -∗ K a)) ⊢ wp frame (wpE (defs₀ (F := F)) Variants.none (c : Thread nD τ) none) E p K

/-- A value returned leaves what was held. -/
theorem Runs.pure {c : Dev nD} {α : Type} (P : sProp 𝕄) (a : α) : Runs (F := F) c P (Pure.pure a) a P := by
  intro E K
  refine exec_ret _ _ _ _ a ?_
  exact wand_elim_right

/-- Two runs one after the other. -/
theorem Runs.bind {c : Dev nD} {α β : Type} {P Q R : sProp 𝕄} {p : Prog (TpuEff nD τ sig (Elt F) Λ₀ .tc) α}
    {k : α → Prog (TpuEff nD τ sig (Elt F) Λ₀ .tc) β} {a : α} {b : β}
    (h : Runs (F := F) c P p a Q) (h' : Runs (F := F) c Q (k a) b R) : Runs (F := F) c P (p >>= k) b R := by
  intro E K
  refine exec_bind _ _ _ _ _ _ ?_
  refine BIBase.Entails.trans ?_ (h E _)
  iintro ⟨HP, HK⟩
  isplitl [HP]; · iexact HP
  iintro HQ
  iapply (h' E K)
  isplitl [HQ]; · iexact HQ
  iexact HK

/-- The same run with the resources it leaves written otherwise. -/
theorem Runs.post {c : Dev nD} {α : Type} {P Q Q' : sProp 𝕄} {p : Prog (TpuEff nD τ sig (Elt F) Λ₀ .tc) α} {a : α}
    (h : Runs (F := F) c P p a Q) (e : Q = Q') : Runs (F := F) c P p a Q' := e ▸ h

/-- The same run with its value written otherwise. -/
theorem Runs.val {c : Dev nD} {α : Type} {P Q : sProp 𝕄} {p : Prog (TpuEff nD τ sig (Elt F) Λ₀ .tc) α} {a a' : α}
    (h : Runs (F := F) c P p a Q) (e : a = a') : Runs (F := F) c P p a' Q := e ▸ h

/-- A branch taken. -/
theorem Runs.ifT {c : Dev nD} {α : Type} {P Q : sProp 𝕄} {C : Prop} [Decidable C]
    {p : C → Prog (TpuEff nD τ sig (Elt F) Λ₀ .tc) α} {q : ¬ C → Prog (TpuEff nD τ sig (Elt F) Λ₀ .tc) α} {a : α} (hC : C)
    (h : Runs (F := F) c P (p hC) a Q) : Runs (F := F) c P (dite C p q) a Q := by rw [dif_pos hC]; exact h

/-- A branch not taken. -/
theorem Runs.ifF {c : Dev nD} {α : Type} {P Q : sProp 𝕄} {C : Prop} [Decidable C]
    {p : C → Prog (TpuEff nD τ sig (Elt F) Λ₀ .tc) α} {q : ¬ C → Prog (TpuEff nD τ sig (Elt F) Λ₀ .tc) α} {a : α} (hC : ¬ C)
    (h : Runs (F := F) c P (q hC) a Q) : Runs (F := F) c P (dite C p q) a Q := by rw [dif_neg hC]; exact h

variable {ι : Type} [Fintype ι] [DecidableEq ι] {sh : ι → Shape} {el : ι → EltTy}

/-- The buffers of a family, each held whole at its contents. -/
def holds (c : Dev nD) (A : ∀ k, Memref sig .tc .vmem (sh k) (el k)) (x : ∀ k, (sh k).Idx → Elt F (el k)) : sProp 𝕄 :=
  bigSep Finset.univ fun k => owns (c : Thread nD τ) (A k) fullShare (x k)

/-- One buffer of the family taken out, and put back at any contents. -/
theorem holds_take (c : Dev nD) (A : ∀ k, Memref sig .tc .vmem (sh k) (el k)) (x : ∀ k, (sh k).Idx → Elt F (el k)) (k : ι)
    (w : (sh k).Idx → Elt F (el k)) :
    holds c A x ⊢ iprop(owns (c : Thread nD τ) (A k) fullShare (x k)
      ∗ (owns (c : Thread nD τ) (A k) fullShare w -∗ holds c A (Function.update x k w))) := by
  have e1 : holds c A x = iprop(owns (c : Thread nD τ) (A k) fullShare (x k)
      ∗ bigSep (Finset.univ.erase k) fun k => owns (c : Thread nD τ) (A k) fullShare (x k)) := bigSep_erase (Finset.mem_univ k)
  have e2 : holds c A (Function.update x k w) = iprop(owns (c : Thread nD τ) (A k) fullShare w
      ∗ bigSep (Finset.univ.erase k) fun k => owns (c : Thread nD τ) (A k) fullShare (x k)) := by
    unfold holds
    rw [bigSep_erase (Finset.mem_univ k), Function.update_self]
    congr 1
    exact bigSep_congr fun j hj => by rw [Function.update_of_ne (Finset.ne_of_mem_erase hj)]
  rw [e1, e2]
  iintro ⟨H, Hr⟩
  isplitl [H]; · iexact H
  iintro H
  isplitl [H]; · iexact H
  iexact Hr

/-- A load of a box of a buffer of the family. -/
theorem Runs.load (c : Dev nD) (A : ∀ k, Memref sig .tc .vmem (sh k) (el k)) (x : ∀ k, (sh k).Idx → Elt F (el k)) (k : ι)
    (r : LoadRect (sh k)) (hl : (A k).view.LoadsAt r) :
    Runs (F := F) c (holds c A x) (Prog.lift (.load (A k) r hl)) (fun y => x k (r.idx y)) (holds c A x) := by
  intro E K
  have h1 := holds_take c A x k (x k)
  rw [Function.update_eq_self] at h1
  refine BIBase.Entails.trans (Laws.sep_mono_left h1) ?_
  unfold owns
  iintro ⟨⟨⟨%f, %hf, H⟩, Hb⟩, HK⟩
  iapply (wp_load (𝒱 := Variants.none) (c := (c : Thread nD τ)) (bd := none) (E := E) (defs := defs₀ (F := F)) (Γ := .empty)
    (m := A k) (r := r) (hl := hl) (k := fun v => .ret v) (Q := K) (q := fullShare) (f := f) (S := (A k).view.set)
    ((A k).view.setOn_subset_set _)) $$ H
  iintro H
  have e : (A k).view.readAt (Elt F) r f = fun y => x k (r.idx y) := by rw [← hf]; rfl
  rw [e]
  iapply (le_wp_ret _ _ _ _ K)
  iapply HK
  iapply Hb
  iexists f
  isplitr
  · ipureintro; exact hf
  iexact H

/-- A load of a box of a squeezed slice of a buffer of the family. -/
theorem Runs.loadSlot (c : Dev nD) (A : ∀ k, Memref sig .tc .vmem (sh k) (el k)) (x : ∀ k, (sh k).Idx → Elt F (el k)) (k : ι)
    (r₀ : Rect (sh k)) (h₀ : ∀ a, r₀.stride a = 1) (s' : Shape) (hq : r₀.shape.Squeezes s')
    (r : LoadRect s') (hl : (((A k).slice r₀ h₀).squeeze s' hq).view.LoadsAt r) :
    Runs (F := F) c (holds c A x) (Prog.lift (.load (((A k).slice r₀ h₀).squeeze s' hq) r hl))
      (fun y => x k (r₀.emb (Shape.reshapeEquiv hq.numel_eq (r.idx y)))) (holds c A x) := by
  intro E K
  have h1 := holds_take c A x k (x k)
  rw [Function.update_eq_self] at h1
  refine BIBase.Entails.trans (Laws.sep_mono_left h1) ?_
  unfold owns
  iintro ⟨⟨⟨%f, %hf, H⟩, Hb⟩, HK⟩
  iapply (wp_load (𝒱 := Variants.none) (c := (c : Thread nD τ)) (bd := none) (E := E) (defs := defs₀ (F := F)) (Γ := .empty)
    (m := ((A k).slice r₀ h₀).squeeze s' hq) (r := r) (hl := hl) (k := fun v => .ret v) (Q := K) (q := fullShare) (f := f) (S := (A k).view.set)
    (((((A k).slice r₀ h₀).squeeze s' hq).view.setOn_subset_set _).trans
      (((A k).view.slice r₀).set_reshape_subset hq.numel_eq ((A k).view.set_slice_subset r₀)))) $$ H
  iintro H
  have e : (((A k).slice r₀ h₀).squeeze s' hq).view.readAt (Elt F) r f
      = fun y => x k (r₀.emb (Shape.reshapeEquiv hq.numel_eq (r.idx y))) := by rw [← hf]; rfl
  rw [e]
  iapply (le_wp_ret _ _ _ _ K)
  iapply HK
  iapply Hb
  iexists f
  isplitr
  · ipureintro; exact hf
  iexact H

/-- Contents `X` with the values `w` put at the places `g`. -/
def put {ι κ V : Type} (g : ι → κ) (w : ι → V) (X : κ → V) : κ → V := Function.extend g w X

/-- A store into a box of a buffer of the family. -/
theorem Runs.store (c : Dev nD) (A : ∀ k, Memref sig .tc .vmem (sh k) (el k)) (x : ∀ k, (sh k).Idx → Elt F (el k)) (k : ι)
    (r : Rect (sh k)) (w : r.shape.Idx → Elt F (el k)) (hx : ((A k).access r).Stores Finset.univ)
    (hm : (Finset.univ : Finset r.shape.Idx) = Finset.univ ∨ ∀ a, r.stride a = 1) :
    Runs (F := F) c (holds c A x) (Prog.lift (.store (A k) r w Finset.univ hx hm)) ⟨⟩
      (holds c A (Function.update x k (put r.emb w (x k)))) := by
  intro E K
  refine BIBase.Entails.trans (Laws.sep_mono_left (holds_take c A x k (put r.emb w (x k)))) ?_
  unfold owns
  iintro ⟨⟨⟨%f, %hf, H⟩, Hb⟩, HK⟩
  iapply (wp_store (𝒱 := Variants.none) (c := (c : Thread nD τ)) (bd := none) (E := E) (defs := defs₀ (F := F)) (Γ := .empty)
    (m := A k) (r := r) (w := w) (hx := hx) (hm := hm) (Mk := Finset.univ) (k := fun v => .ret v) (Q := K) (f := f) (S := (A k).view.set)
    (((A k).access r).setOn_subset_set _ |>.trans ((A k).view.set_slice_subset r))) $$ H
  iintro H
  have e : (A k).view.read (Elt F) (((A k).access r).write (Elt F) f w Finset.univ) = put r.emb w (x k) := by
    funext i
    by_cases hi : ∃ y, r.emb y = i
    · obtain ⟨y, rfl⟩ := hi
      rw [put, r.emb.injective.extend_apply]
      exact View.read_slice_write_emb (h := Finset.mem_univ y) ..
    · rw [put, Function.extend_apply' _ _ _ hi, ← hf]
      exact View.read_slice_write_of_not_mem (h := fun h => hi (by obtain ⟨y, -, hy⟩ := Finset.mem_map.mp h; exact ⟨y, hy⟩)) ..
  iapply (le_wp_ret _ _ _ _ K)
  iapply HK
  iapply Hb
  iexists _
  isplitr
  · ipureintro; exact e
  iexact H

/-- A store into a box of a squeezed slice of a buffer of the family. -/
theorem Runs.storeSlot (c : Dev nD) (A : ∀ k, Memref sig .tc .vmem (sh k) (el k)) (x : ∀ k, (sh k).Idx → Elt F (el k)) (k : ι)
    (r₀ : Rect (sh k)) (h₀ : ∀ a, r₀.stride a = 1) (s' : Shape) (hq : r₀.shape.Squeezes s')
    (r : Rect s') (w : r.shape.Idx → Elt F (el k)) (hx : ((((A k).slice r₀ h₀).squeeze s' hq).access r).Stores Finset.univ)
    (hm : (Finset.univ : Finset r.shape.Idx) = Finset.univ ∨ ∀ a, r.stride a = 1) :
    Runs (F := F) c (holds c A x) (Prog.lift (.store (((A k).slice r₀ h₀).squeeze s' hq) r w Finset.univ hx hm)) ⟨⟩
      (holds c A (Function.update x k (put (fun y => r₀.emb (Shape.reshapeEquiv hq.numel_eq (r.emb y))) w (x k)))) := by
  intro E K
  refine BIBase.Entails.trans (Laws.sep_mono_left (holds_take c A x k
    (put (fun y => r₀.emb (Shape.reshapeEquiv hq.numel_eq (r.emb y))) w (x k)))) ?_
  unfold owns
  iintro ⟨⟨⟨%f, %hf, H⟩, Hb⟩, HK⟩
  iapply (wp_store (𝒱 := Variants.none) (c := (c : Thread nD τ)) (bd := none) (E := E) (defs := defs₀ (F := F)) (Γ := .empty)
    (m := ((A k).slice r₀ h₀).squeeze s' hq) (r := r) (w := w) (hx := hx) (hm := hm) (Mk := Finset.univ) (k := fun v => .ret v) (Q := K) (f := f) (S := (A k).view.set)
    ((View.setOn_subset_set _ _).trans (View.set_slice_reshape_slice_subset_set (A k).view r₀ hq.numel_eq r))) $$ H
  iintro H
  have hinj : Function.Injective fun y => r₀.emb (Shape.reshapeEquiv hq.numel_eq (r.emb y)) := fun a b h =>
    r.emb.injective ((Shape.reshapeEquiv hq.numel_eq).injective (r₀.emb.injective h))
  have e : (A k).view.read (Elt F) (((((A k).slice r₀ h₀).squeeze s' hq).access r).write (Elt F) f w Finset.univ)
      = put (fun y => r₀.emb (Shape.reshapeEquiv hq.numel_eq (r.emb y))) w (x k) := by
    funext i
    by_cases hi : ∃ y, r₀.emb (Shape.reshapeEquiv hq.numel_eq (r.emb y)) = i
    · obtain ⟨y, rfl⟩ := hi
      rw [put, hinj.extend_apply]
      show cast _ (((((A k).slice r₀ h₀).squeeze s' hq).access r).write (Elt F) f w Finset.univ
        (((((A k).slice r₀ h₀).squeeze s' hq).access r).emb y)) = _
      rw [View.write_emb_of_mem _ _ (Finset.mem_univ y)]
      exact cast_cast .. |>.trans (cast_eq _ _)
    · rw [put, Function.extend_apply' _ _ _ hi, ← hf]
      show cast _ _ = cast _ _
      rw [View.write_of_not_mem]
      intro hi'
      obtain ⟨y, -, hy⟩ := Finset.mem_map.mp hi'
      exact hi ⟨y, (A k).view.emb.injective hy⟩
  iapply (le_wp_ret _ _ _ _ K)
  iapply HK
  iapply Hb
  iexists _
  isplitr
  · ipureintro; exact e
  iexact H

end Cert.Mix
-- ==== Proof.MixBufs.lean ====
/-
  The buffers of the mixers' input call: the memrefs its body is given, their contents, and one load and one
  store rule per buffer.
-/
module

public import proofs.«01_k».proof.Proof.MixExec

@[expose] public section

noncomputable section

namespace Cert.Mix

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]

/-- The buffers of the body: fourteen inputs, twelve results and two scratch buffers. -/
inductive Bn where
  | b1 | b2 | b3 | b4 | b5 | b6 | b7 | b8 | b9 | b10 | b11 | b12 | b13 | b14 | b15 | b16 | b17 | b18 | b19 | b20 | b21 | b22 | b23 | b24 | b25 | b26 | b27 | b28
  deriving DecidableEq

/-- The buffers in order. -/
def Bn.all : List Bn := [.b1, .b2, .b3, .b4, .b5, .b6, .b7, .b8, .b9, .b10, .b11, .b12, .b13, .b14, .b15, .b16, .b17, .b18, .b19, .b20, .b21, .b22, .b23, .b24, .b25, .b26, .b27, .b28]

instance : Fintype Bn := ⟨⟨Bn.all, by decide⟩, by intro k; cases k <;> decide⟩

/-- The shape of each buffer. -/
def bsh : Bn → Shape
  | .b1 => S1x192x1024
  | .b2 => S1x1024
  | .b3 => S1024x2432
  | .b4 => S1x2432
  | .b5 => S4x128x128
  | .b6 => S1x512
  | .b7 => S1x512
  | .b8 => S128x512
  | .b9 => S1x512
  | .b10 => S128x512
  | .b11 => S256x512
  | .b12 => S1x512
  | .b13 => S1x512
  | .b14 => S1x512
  | .b15 => S1x192x512
  | .b16 => S1x192x512
  | .b17 => S1x192x512
  | .b18 => S1x192x512
  | .b19 => S1x192x512
  | .b20 => S1x192x512
  | .b21 => S1x192x512
  | .b22 => S1x192x512
  | .b23 => S1x192x512
  | .b24 => S1x192x512
  | .b25 => S1x24x512
  | .b26 => S1x192x512
  | .b27 => S208x2432
  | .b28 => S2x5x192x512

/-- The element type of each buffer. -/
def bel : Bn → EltTy
  | .b1 => .f32
  | .b2 => .f32
  | .b3 => .bf16
  | .b4 => .f32
  | .b5 => .bf16
  | .b6 => .f32
  | .b7 => .f32
  | .b8 => .bf16
  | .b9 => .f32
  | .b10 => .bf16
  | .b11 => .bf16
  | .b12 => .f32
  | .b13 => .f32
  | .b14 => .f32
  | .b15 => .f32
  | .b16 => .bf16
  | .b17 => .bf16
  | .b18 => .bf16
  | .b19 => .bf16
  | .b20 => .bf16
  | .b21 => .bf16
  | .b22 => .bf16
  | .b23 => .f32
  | .b24 => .f32
  | .b25 => .f32
  | .b26 => .f32
  | .b27 => .f32
  | .b28 => .f32

/-- The memrefs the body is given, each a whole buffer. -/
structure Bufs where
  a1 : Memref sig .tc .vmem S1x192x1024 .f32
  h1 : a1.IsWhole
  a2 : Memref sig .tc .vmem S1x1024 .f32
  h2 : a2.IsWhole
  a3 : Memref sig .tc .vmem S1024x2432 .bf16
  h3 : a3.IsWhole
  a4 : Memref sig .tc .vmem S1x2432 .f32
  h4 : a4.IsWhole
  a5 : Memref sig .tc .vmem S4x128x128 .bf16
  h5 : a5.IsWhole
  a6 : Memref sig .tc .vmem S1x512 .f32
  h6 : a6.IsWhole
  a7 : Memref sig .tc .vmem S1x512 .f32
  h7 : a7.IsWhole
  a8 : Memref sig .tc .vmem S128x512 .bf16
  h8 : a8.IsWhole
  a9 : Memref sig .tc .vmem S1x512 .f32
  h9 : a9.IsWhole
  a10 : Memref sig .tc .vmem S128x512 .bf16
  h10 : a10.IsWhole
  a11 : Memref sig .tc .vmem S256x512 .bf16
  h11 : a11.IsWhole
  a12 : Memref sig .tc .vmem S1x512 .f32
  h12 : a12.IsWhole
  a13 : Memref sig .tc .vmem S1x512 .f32
  h13 : a13.IsWhole
  a14 : Memref sig .tc .vmem S1x512 .f32
  h14 : a14.IsWhole
  a15 : Memref sig .tc .vmem S1x192x512 .f32
  h15 : a15.IsWhole
  a16 : Memref sig .tc .vmem S1x192x512 .bf16
  h16 : a16.IsWhole
  a17 : Memref sig .tc .vmem S1x192x512 .bf16
  h17 : a17.IsWhole
  a18 : Memref sig .tc .vmem S1x192x512 .bf16
  h18 : a18.IsWhole
  a19 : Memref sig .tc .vmem S1x192x512 .bf16
  h19 : a19.IsWhole
  a20 : Memref sig .tc .vmem S1x192x512 .bf16
  h20 : a20.IsWhole
  a21 : Memref sig .tc .vmem S1x192x512 .bf16
  h21 : a21.IsWhole
  a22 : Memref sig .tc .vmem S1x192x512 .bf16
  h22 : a22.IsWhole
  a23 : Memref sig .tc .vmem S1x192x512 .f32
  h23 : a23.IsWhole
  a24 : Memref sig .tc .vmem S1x192x512 .f32
  h24 : a24.IsWhole
  a25 : Memref sig .tc .vmem S1x24x512 .f32
  h25 : a25.IsWhole
  a26 : Memref sig .tc .vmem S1x192x512 .f32
  h26 : a26.IsWhole
  a27 : Memref sig .tc .vmem S208x2432 .f32
  h27 : a27.IsWhole
  a28 : Memref sig .tc .vmem S2x5x192x512 .f32
  h28 : a28.IsWhole

/-- The memrefs as a family. -/
def Bufs.fam (B : Bufs) : ∀ k, Memref sig .tc .vmem (bsh k) (bel k)
  | .b1 => B.a1
  | .b2 => B.a2
  | .b3 => B.a3
  | .b4 => B.a4
  | .b5 => B.a5
  | .b6 => B.a6
  | .b7 => B.a7
  | .b8 => B.a8
  | .b9 => B.a9
  | .b10 => B.a10
  | .b11 => B.a11
  | .b12 => B.a12
  | .b13 => B.a13
  | .b14 => B.a14
  | .b15 => B.a15
  | .b16 => B.a16
  | .b17 => B.a17
  | .b18 => B.a18
  | .b19 => B.a19
  | .b20 => B.a20
  | .b21 => B.a21
  | .b22 => B.a22
  | .b23 => B.a23
  | .b24 => B.a24
  | .b25 => B.a25
  | .b26 => B.a26
  | .b27 => B.a27
  | .b28 => B.a28

/-- The contents of the buffers. -/
@[ext] structure St (F : FTy → Type) where
  a1 : Vec F S1x192x1024 .f32
  a2 : Vec F S1x1024 .f32
  a3 : Vec F S1024x2432 .bf16
  a4 : Vec F S1x2432 .f32
  a5 : Vec F S4x128x128 .bf16
  a6 : Vec F S1x512 .f32
  a7 : Vec F S1x512 .f32
  a8 : Vec F S128x512 .bf16
  a9 : Vec F S1x512 .f32
  a10 : Vec F S128x512 .bf16
  a11 : Vec F S256x512 .bf16
  a12 : Vec F S1x512 .f32
  a13 : Vec F S1x512 .f32
  a14 : Vec F S1x512 .f32
  a15 : Vec F S1x192x512 .f32
  a16 : Vec F S1x192x512 .bf16
  a17 : Vec F S1x192x512 .bf16
  a18 : Vec F S1x192x512 .bf16
  a19 : Vec F S1x192x512 .bf16
  a20 : Vec F S1x192x512 .bf16
  a21 : Vec F S1x192x512 .bf16
  a22 : Vec F S1x192x512 .bf16
  a23 : Vec F S1x192x512 .f32
  a24 : Vec F S1x192x512 .f32
  a25 : Vec F S1x24x512 .f32
  a26 : Vec F S1x192x512 .f32
  a27 : Vec F S208x2432 .f32
  a28 : Vec F S2x5x192x512 .f32

/-- The contents as a family. -/
def St.fam (σ : St F) : ∀ k, (bsh k).Idx → Elt F (bel k)
  | .b1 => σ.a1
  | .b2 => σ.a2
  | .b3 => σ.a3
  | .b4 => σ.a4
  | .b5 => σ.a5
  | .b6 => σ.a6
  | .b7 => σ.a7
  | .b8 => σ.a8
  | .b9 => σ.a9
  | .b10 => σ.a10
  | .b11 => σ.a11
  | .b12 => σ.a12
  | .b13 => σ.a13
  | .b14 => σ.a14
  | .b15 => σ.a15
  | .b16 => σ.a16
  | .b17 => σ.a17
  | .b18 => σ.a18
  | .b19 => σ.a19
  | .b20 => σ.a20
  | .b21 => σ.a21
  | .b22 => σ.a22
  | .b23 => σ.a23
  | .b24 => σ.a24
  | .b25 => σ.a25
  | .b26 => σ.a26
  | .b27 => σ.a27
  | .b28 => σ.a28

/-- The buffers held at the contents `σ`. -/
def held (c : Dev nD) (B : Bufs) (σ : St F) := holds (F := F) c B.fam σ.fam

/-- What a load of the box `r` reads. -/
def ld {s : Shape} {e : EltTy} (X : s.Idx → Elt F e) (r : Rect s) : r.shape.Idx → Elt F e := fun y => X (r.emb y)

/-- The place in the stash of an element of a box of one of its slots, the slot at the offsets `o`. -/
def slotEmb (o : Fin 4 → ℕ) (ho : ∀ a, o a + S1x5x192x512.size a ≤ S2x5x192x512.size a) (r : Rect S5x192x512) (y : r.shape.Idx) :
    S2x5x192x512.Idx :=
  (Rect.unit (s := S2x5x192x512) o S1x5x192x512.size ho).emb
    (Shape.reshapeEquiv squeezes_S1x5x192x512_S5x192x512.numel_eq (r.emb y))

/-- What a load of the box `r` of a slot of the stash reads. -/
def ldSlot (o : Fin 4 → ℕ) (ho : ∀ a, o a + S1x5x192x512.size a ≤ S2x5x192x512.size a) (X : S2x5x192x512.Idx → Elt F .f32)
    (r : Rect S5x192x512) : r.shape.Idx → Elt F .f32 := fun y => X (slotEmb o ho r y)

variable (c : Dev nD) (B : Bufs) (σ : St F)

/-- A load from buffer 1. -/
theorem ld1 (r : Rect S1x192x1024) (hl : B.a1.view.LoadsAt r.toLoadRect) :
    Runs (F := F) c (held c B σ) (Prog.lift (.load B.a1 r.toLoadRect hl)) (ld σ.a1 r) (held c B σ) :=
  Runs.load c B.fam σ.fam .b1 r.toLoadRect hl

/-- A load from buffer 2. -/
theorem ld2 (r : Rect S1x1024) (hl : B.a2.view.LoadsAt r.toLoadRect) :
    Runs (F := F) c (held c B σ) (Prog.lift (.load B.a2 r.toLoadRect hl)) (ld σ.a2 r) (held c B σ) :=
  Runs.load c B.fam σ.fam .b2 r.toLoadRect hl

/-- A load from buffer 3. -/
theorem ld3 (r : Rect S1024x2432) (hl : B.a3.view.LoadsAt r.toLoadRect) :
    Runs (F := F) c (held c B σ) (Prog.lift (.load B.a3 r.toLoadRect hl)) (ld σ.a3 r) (held c B σ) :=
  Runs.load c B.fam σ.fam .b3 r.toLoadRect hl

/-- A load from buffer 4. -/
theorem ld4 (r : Rect S1x2432) (hl : B.a4.view.LoadsAt r.toLoadRect) :
    Runs (F := F) c (held c B σ) (Prog.lift (.load B.a4 r.toLoadRect hl)) (ld σ.a4 r) (held c B σ) :=
  Runs.load c B.fam σ.fam .b4 r.toLoadRect hl

/-- A load from buffer 5. -/
theorem ld5 (r : Rect S4x128x128) (hl : B.a5.view.LoadsAt r.toLoadRect) :
    Runs (F := F) c (held c B σ) (Prog.lift (.load B.a5 r.toLoadRect hl)) (ld σ.a5 r) (held c B σ) :=
  Runs.load c B.fam σ.fam .b5 r.toLoadRect hl

/-- A load from buffer 6. -/
theorem ld6 (r : Rect S1x512) (hl : B.a6.view.LoadsAt r.toLoadRect) :
    Runs (F := F) c (held c B σ) (Prog.lift (.load B.a6 r.toLoadRect hl)) (ld σ.a6 r) (held c B σ) :=
  Runs.load c B.fam σ.fam .b6 r.toLoadRect hl

/-- A load from buffer 7. -/
theorem ld7 (r : Rect S1x512) (hl : B.a7.view.LoadsAt r.toLoadRect) :
    Runs (F := F) c (held c B σ) (Prog.lift (.load B.a7 r.toLoadRect hl)) (ld σ.a7 r) (held c B σ) :=
  Runs.load c B.fam σ.fam .b7 r.toLoadRect hl

/-- A load from buffer 8. -/
theorem ld8 (r : Rect S128x512) (hl : B.a8.view.LoadsAt r.toLoadRect) :
    Runs (F := F) c (held c B σ) (Prog.lift (.load B.a8 r.toLoadRect hl)) (ld σ.a8 r) (held c B σ) :=
  Runs.load c B.fam σ.fam .b8 r.toLoadRect hl

/-- A load from buffer 9. -/
theorem ld9 (r : Rect S1x512) (hl : B.a9.view.LoadsAt r.toLoadRect) :
    Runs (F := F) c (held c B σ) (Prog.lift (.load B.a9 r.toLoadRect hl)) (ld σ.a9 r) (held c B σ) :=
  Runs.load c B.fam σ.fam .b9 r.toLoadRect hl

/-- A load from buffer 10. -/
theorem ld10 (r : Rect S128x512) (hl : B.a10.view.LoadsAt r.toLoadRect) :
    Runs (F := F) c (held c B σ) (Prog.lift (.load B.a10 r.toLoadRect hl)) (ld σ.a10 r) (held c B σ) :=
  Runs.load c B.fam σ.fam .b10 r.toLoadRect hl

/-- A load from buffer 11. -/
theorem ld11 (r : Rect S256x512) (hl : B.a11.view.LoadsAt r.toLoadRect) :
    Runs (F := F) c (held c B σ) (Prog.lift (.load B.a11 r.toLoadRect hl)) (ld σ.a11 r) (held c B σ) :=
  Runs.load c B.fam σ.fam .b11 r.toLoadRect hl

/-- A load from buffer 12. -/
theorem ld12 (r : Rect S1x512) (hl : B.a12.view.LoadsAt r.toLoadRect) :
    Runs (F := F) c (held c B σ) (Prog.lift (.load B.a12 r.toLoadRect hl)) (ld σ.a12 r) (held c B σ) :=
  Runs.load c B.fam σ.fam .b12 r.toLoadRect hl

/-- A load from buffer 13. -/
theorem ld13 (r : Rect S1x512) (hl : B.a13.view.LoadsAt r.toLoadRect) :
    Runs (F := F) c (held c B σ) (Prog.lift (.load B.a13 r.toLoadRect hl)) (ld σ.a13 r) (held c B σ) :=
  Runs.load c B.fam σ.fam .b13 r.toLoadRect hl

/-- A load from buffer 14. -/
theorem ld14 (r : Rect S1x512) (hl : B.a14.view.LoadsAt r.toLoadRect) :
    Runs (F := F) c (held c B σ) (Prog.lift (.load B.a14 r.toLoadRect hl)) (ld σ.a14 r) (held c B σ) :=
  Runs.load c B.fam σ.fam .b14 r.toLoadRect hl

/-- A load from buffer 15. -/
theorem ld15 (r : Rect S1x192x512) (hl : B.a15.view.LoadsAt r.toLoadRect) :
    Runs (F := F) c (held c B σ) (Prog.lift (.load B.a15 r.toLoadRect hl)) (ld σ.a15 r) (held c B σ) :=
  Runs.load c B.fam σ.fam .b15 r.toLoadRect hl

/-- A load from buffer 16. -/
theorem ld16 (r : Rect S1x192x512) (hl : B.a16.view.LoadsAt r.toLoadRect) :
    Runs (F := F) c (held c B σ) (Prog.lift (.load B.a16 r.toLoadRect hl)) (ld σ.a16 r) (held c B σ) :=
  Runs.load c B.fam σ.fam .b16 r.toLoadRect hl

/-- A load from buffer 17. -/
theorem ld17 (r : Rect S1x192x512) (hl : B.a17.view.LoadsAt r.toLoadRect) :
    Runs (F := F) c (held c B σ) (Prog.lift (.load B.a17 r.toLoadRect hl)) (ld σ.a17 r) (held c B σ) :=
  Runs.load c B.fam σ.fam .b17 r.toLoadRect hl

/-- A load from buffer 18. -/
theorem ld18 (r : Rect S1x192x512) (hl : B.a18.view.LoadsAt r.toLoadRect) :
    Runs (F := F) c (held c B σ) (Prog.lift (.load B.a18 r.toLoadRect hl)) (ld σ.a18 r) (held c B σ) :=
  Runs.load c B.fam σ.fam .b18 r.toLoadRect hl

/-- A load from buffer 19. -/
theorem ld19 (r : Rect S1x192x512) (hl : B.a19.view.LoadsAt r.toLoadRect) :
    Runs (F := F) c (held c B σ) (Prog.lift (.load B.a19 r.toLoadRect hl)) (ld σ.a19 r) (held c B σ) :=
  Runs.load c B.fam σ.fam .b19 r.toLoadRect hl

/-- A load from buffer 20. -/
theorem ld20 (r : Rect S1x192x512) (hl : B.a20.view.LoadsAt r.toLoadRect) :
    Runs (F := F) c (held c B σ) (Prog.lift (.load B.a20 r.toLoadRect hl)) (ld σ.a20 r) (held c B σ) :=
  Runs.load c B.fam σ.fam .b20 r.toLoadRect hl

/-- A load from buffer 21. -/
theorem ld21 (r : Rect S1x192x512) (hl : B.a21.view.LoadsAt r.toLoadRect) :
    Runs (F := F) c (held c B σ) (Prog.lift (.load B.a21 r.toLoadRect hl)) (ld σ.a21 r) (held c B σ) :=
  Runs.load c B.fam σ.fam .b21 r.toLoadRect hl

/-- A load from buffer 22. -/
theorem ld22 (r : Rect S1x192x512) (hl : B.a22.view.LoadsAt r.toLoadRect) :
    Runs (F := F) c (held c B σ) (Prog.lift (.load B.a22 r.toLoadRect hl)) (ld σ.a22 r) (held c B σ) :=
  Runs.load c B.fam σ.fam .b22 r.toLoadRect hl

/-- A load from buffer 23. -/
theorem ld23 (r : Rect S1x192x512) (hl : B.a23.view.LoadsAt r.toLoadRect) :
    Runs (F := F) c (held c B σ) (Prog.lift (.load B.a23 r.toLoadRect hl)) (ld σ.a23 r) (held c B σ) :=
  Runs.load c B.fam σ.fam .b23 r.toLoadRect hl

/-- A load from buffer 24. -/
theorem ld24 (r : Rect S1x192x512) (hl : B.a24.view.LoadsAt r.toLoadRect) :
    Runs (F := F) c (held c B σ) (Prog.lift (.load B.a24 r.toLoadRect hl)) (ld σ.a24 r) (held c B σ) :=
  Runs.load c B.fam σ.fam .b24 r.toLoadRect hl

/-- A load from buffer 25. -/
theorem ld25 (r : Rect S1x24x512) (hl : B.a25.view.LoadsAt r.toLoadRect) :
    Runs (F := F) c (held c B σ) (Prog.lift (.load B.a25 r.toLoadRect hl)) (ld σ.a25 r) (held c B σ) :=
  Runs.load c B.fam σ.fam .b25 r.toLoadRect hl

/-- A load from buffer 26. -/
theorem ld26 (r : Rect S1x192x512) (hl : B.a26.view.LoadsAt r.toLoadRect) :
    Runs (F := F) c (held c B σ) (Prog.lift (.load B.a26 r.toLoadRect hl)) (ld σ.a26 r) (held c B σ) :=
  Runs.load c B.fam σ.fam .b26 r.toLoadRect hl

/-- A load from buffer 27. -/
theorem ld27 (r : Rect S208x2432) (hl : B.a27.view.LoadsAt r.toLoadRect) :
    Runs (F := F) c (held c B σ) (Prog.lift (.load B.a27 r.toLoadRect hl)) (ld σ.a27 r) (held c B σ) :=
  Runs.load c B.fam σ.fam .b27 r.toLoadRect hl

/-- A load from buffer 28. -/
theorem ld28 (r : Rect S2x5x192x512) (hl : B.a28.view.LoadsAt r.toLoadRect) :
    Runs (F := F) c (held c B σ) (Prog.lift (.load B.a28 r.toLoadRect hl)) (ld σ.a28 r) (held c B σ) :=
  Runs.load c B.fam σ.fam .b28 r.toLoadRect hl

/-- A store to buffer 15. -/
theorem st15 (r : Rect S1x192x512) (w : r.shape.Idx → Elt F .f32) (hx : (B.a15.access r).Stores Finset.univ)
    (hm : (Finset.univ : Finset r.shape.Idx) = Finset.univ ∨ ∀ a, r.stride a = 1) :
    Runs (F := F) c (held c B σ) (Prog.lift (.store B.a15 r w Finset.univ hx hm)) ⟨⟩ (held c B { σ with a15 := put r.emb w σ.a15 }) := by
  have h := Runs.store c B.fam σ.fam .b15 r w hx hm
  have e : Function.update σ.fam .b15 (put r.emb w (σ.fam .b15)) = ({ σ with a15 := put r.emb w σ.a15 } : St F).fam := by
    funext j; cases j <;> rfl
  exact Runs.post h (congrArg (holds (F := F) c B.fam) e)

/-- A store to buffer 16. -/
theorem st16 (r : Rect S1x192x512) (w : r.shape.Idx → Elt F .bf16) (hx : (B.a16.access r).Stores Finset.univ)
    (hm : (Finset.univ : Finset r.shape.Idx) = Finset.univ ∨ ∀ a, r.stride a = 1) :
    Runs (F := F) c (held c B σ) (Prog.lift (.store B.a16 r w Finset.univ hx hm)) ⟨⟩ (held c B { σ with a16 := put r.emb w σ.a16 }) := by
  have h := Runs.store c B.fam σ.fam .b16 r w hx hm
  have e : Function.update σ.fam .b16 (put r.emb w (σ.fam .b16)) = ({ σ with a16 := put r.emb w σ.a16 } : St F).fam := by
    funext j; cases j <;> rfl
  exact Runs.post h (congrArg (holds (F := F) c B.fam) e)

/-- A store to buffer 17. -/
theorem st17 (r : Rect S1x192x512) (w : r.shape.Idx → Elt F .bf16) (hx : (B.a17.access r).Stores Finset.univ)
    (hm : (Finset.univ : Finset r.shape.Idx) = Finset.univ ∨ ∀ a, r.stride a = 1) :
    Runs (F := F) c (held c B σ) (Prog.lift (.store B.a17 r w Finset.univ hx hm)) ⟨⟩ (held c B { σ with a17 := put r.emb w σ.a17 }) := by
  have h := Runs.store c B.fam σ.fam .b17 r w hx hm
  have e : Function.update σ.fam .b17 (put r.emb w (σ.fam .b17)) = ({ σ with a17 := put r.emb w σ.a17 } : St F).fam := by
    funext j; cases j <;> rfl
  exact Runs.post h (congrArg (holds (F := F) c B.fam) e)

/-- A store to buffer 18. -/
theorem st18 (r : Rect S1x192x512) (w : r.shape.Idx → Elt F .bf16) (hx : (B.a18.access r).Stores Finset.univ)
    (hm : (Finset.univ : Finset r.shape.Idx) = Finset.univ ∨ ∀ a, r.stride a = 1) :
    Runs (F := F) c (held c B σ) (Prog.lift (.store B.a18 r w Finset.univ hx hm)) ⟨⟩ (held c B { σ with a18 := put r.emb w σ.a18 }) := by
  have h := Runs.store c B.fam σ.fam .b18 r w hx hm
  have e : Function.update σ.fam .b18 (put r.emb w (σ.fam .b18)) = ({ σ with a18 := put r.emb w σ.a18 } : St F).fam := by
    funext j; cases j <;> rfl
  exact Runs.post h (congrArg (holds (F := F) c B.fam) e)

/-- A store to buffer 19. -/
theorem st19 (r : Rect S1x192x512) (w : r.shape.Idx → Elt F .bf16) (hx : (B.a19.access r).Stores Finset.univ)
    (hm : (Finset.univ : Finset r.shape.Idx) = Finset.univ ∨ ∀ a, r.stride a = 1) :
    Runs (F := F) c (held c B σ) (Prog.lift (.store B.a19 r w Finset.univ hx hm)) ⟨⟩ (held c B { σ with a19 := put r.emb w σ.a19 }) := by
  have h := Runs.store c B.fam σ.fam .b19 r w hx hm
  have e : Function.update σ.fam .b19 (put r.emb w (σ.fam .b19)) = ({ σ with a19 := put r.emb w σ.a19 } : St F).fam := by
    funext j; cases j <;> rfl
  exact Runs.post h (congrArg (holds (F := F) c B.fam) e)

/-- A store to buffer 20. -/
theorem st20 (r : Rect S1x192x512) (w : r.shape.Idx → Elt F .bf16) (hx : (B.a20.access r).Stores Finset.univ)
    (hm : (Finset.univ : Finset r.shape.Idx) = Finset.univ ∨ ∀ a, r.stride a = 1) :
    Runs (F := F) c (held c B σ) (Prog.lift (.store B.a20 r w Finset.univ hx hm)) ⟨⟩ (held c B { σ with a20 := put r.emb w σ.a20 }) := by
  have h := Runs.store c B.fam σ.fam .b20 r w hx hm
  have e : Function.update σ.fam .b20 (put r.emb w (σ.fam .b20)) = ({ σ with a20 := put r.emb w σ.a20 } : St F).fam := by
    funext j; cases j <;> rfl
  exact Runs.post h (congrArg (holds (F := F) c B.fam) e)

/-- A store to buffer 21. -/
theorem st21 (r : Rect S1x192x512) (w : r.shape.Idx → Elt F .bf16) (hx : (B.a21.access r).Stores Finset.univ)
    (hm : (Finset.univ : Finset r.shape.Idx) = Finset.univ ∨ ∀ a, r.stride a = 1) :
    Runs (F := F) c (held c B σ) (Prog.lift (.store B.a21 r w Finset.univ hx hm)) ⟨⟩ (held c B { σ with a21 := put r.emb w σ.a21 }) := by
  have h := Runs.store c B.fam σ.fam .b21 r w hx hm
  have e : Function.update σ.fam .b21 (put r.emb w (σ.fam .b21)) = ({ σ with a21 := put r.emb w σ.a21 } : St F).fam := by
    funext j; cases j <;> rfl
  exact Runs.post h (congrArg (holds (F := F) c B.fam) e)

/-- A store to buffer 22. -/
theorem st22 (r : Rect S1x192x512) (w : r.shape.Idx → Elt F .bf16) (hx : (B.a22.access r).Stores Finset.univ)
    (hm : (Finset.univ : Finset r.shape.Idx) = Finset.univ ∨ ∀ a, r.stride a = 1) :
    Runs (F := F) c (held c B σ) (Prog.lift (.store B.a22 r w Finset.univ hx hm)) ⟨⟩ (held c B { σ with a22 := put r.emb w σ.a22 }) := by
  have h := Runs.store c B.fam σ.fam .b22 r w hx hm
  have e : Function.update σ.fam .b22 (put r.emb w (σ.fam .b22)) = ({ σ with a22 := put r.emb w σ.a22 } : St F).fam := by
    funext j; cases j <;> rfl
  exact Runs.post h (congrArg (holds (F := F) c B.fam) e)

/-- A store to buffer 23. -/
theorem st23 (r : Rect S1x192x512) (w : r.shape.Idx → Elt F .f32) (hx : (B.a23.access r).Stores Finset.univ)
    (hm : (Finset.univ : Finset r.shape.Idx) = Finset.univ ∨ ∀ a, r.stride a = 1) :
    Runs (F := F) c (held c B σ) (Prog.lift (.store B.a23 r w Finset.univ hx hm)) ⟨⟩ (held c B { σ with a23 := put r.emb w σ.a23 }) := by
  have h := Runs.store c B.fam σ.fam .b23 r w hx hm
  have e : Function.update σ.fam .b23 (put r.emb w (σ.fam .b23)) = ({ σ with a23 := put r.emb w σ.a23 } : St F).fam := by
    funext j; cases j <;> rfl
  exact Runs.post h (congrArg (holds (F := F) c B.fam) e)

/-- A store to buffer 24. -/
theorem st24 (r : Rect S1x192x512) (w : r.shape.Idx → Elt F .f32) (hx : (B.a24.access r).Stores Finset.univ)
    (hm : (Finset.univ : Finset r.shape.Idx) = Finset.univ ∨ ∀ a, r.stride a = 1) :
    Runs (F := F) c (held c B σ) (Prog.lift (.store B.a24 r w Finset.univ hx hm)) ⟨⟩ (held c B { σ with a24 := put r.emb w σ.a24 }) := by
  have h := Runs.store c B.fam σ.fam .b24 r w hx hm
  have e : Function.update σ.fam .b24 (put r.emb w (σ.fam .b24)) = ({ σ with a24 := put r.emb w σ.a24 } : St F).fam := by
    funext j; cases j <;> rfl
  exact Runs.post h (congrArg (holds (F := F) c B.fam) e)

/-- A store to buffer 25. -/
theorem st25 (r : Rect S1x24x512) (w : r.shape.Idx → Elt F .f32) (hx : (B.a25.access r).Stores Finset.univ)
    (hm : (Finset.univ : Finset r.shape.Idx) = Finset.univ ∨ ∀ a, r.stride a = 1) :
    Runs (F := F) c (held c B σ) (Prog.lift (.store B.a25 r w Finset.univ hx hm)) ⟨⟩ (held c B { σ with a25 := put r.emb w σ.a25 }) := by
  have h := Runs.store c B.fam σ.fam .b25 r w hx hm
  have e : Function.update σ.fam .b25 (put r.emb w (σ.fam .b25)) = ({ σ with a25 := put r.emb w σ.a25 } : St F).fam := by
    funext j; cases j <;> rfl
  exact Runs.post h (congrArg (holds (F := F) c B.fam) e)

/-- A store to buffer 26. -/
theorem st26 (r : Rect S1x192x512) (w : r.shape.Idx → Elt F .f32) (hx : (B.a26.access r).Stores Finset.univ)
    (hm : (Finset.univ : Finset r.shape.Idx) = Finset.univ ∨ ∀ a, r.stride a = 1) :
    Runs (F := F) c (held c B σ) (Prog.lift (.store B.a26 r w Finset.univ hx hm)) ⟨⟩ (held c B { σ with a26 := put r.emb w σ.a26 }) := by
  have h := Runs.store c B.fam σ.fam .b26 r w hx hm
  have e : Function.update σ.fam .b26 (put r.emb w (σ.fam .b26)) = ({ σ with a26 := put r.emb w σ.a26 } : St F).fam := by
    funext j; cases j <;> rfl
  exact Runs.post h (congrArg (holds (F := F) c B.fam) e)

/-- A store to buffer 27. -/
theorem st27 (r : Rect S208x2432) (w : r.shape.Idx → Elt F .f32) (hx : (B.a27.access r).Stores Finset.univ)
    (hm : (Finset.univ : Finset r.shape.Idx) = Finset.univ ∨ ∀ a, r.stride a = 1) :
    Runs (F := F) c (held c B σ) (Prog.lift (.store B.a27 r w Finset.univ hx hm)) ⟨⟩ (held c B { σ with a27 := put r.emb w σ.a27 }) := by
  have h := Runs.store c B.fam σ.fam .b27 r w hx hm
  have e : Function.update σ.fam .b27 (put r.emb w (σ.fam .b27)) = ({ σ with a27 := put r.emb w σ.a27 } : St F).fam := by
    funext j; cases j <;> rfl
  exact Runs.post h (congrArg (holds (F := F) c B.fam) e)

/-- A store to buffer 28. -/
theorem st28 (r : Rect S2x5x192x512) (w : r.shape.Idx → Elt F .f32) (hx : (B.a28.access r).Stores Finset.univ)
    (hm : (Finset.univ : Finset r.shape.Idx) = Finset.univ ∨ ∀ a, r.stride a = 1) :
    Runs (F := F) c (held c B σ) (Prog.lift (.store B.a28 r w Finset.univ hx hm)) ⟨⟩ (held c B { σ with a28 := put r.emb w σ.a28 }) := by
  have h := Runs.store c B.fam σ.fam .b28 r w hx hm
  have e : Function.update σ.fam .b28 (put r.emb w (σ.fam .b28)) = ({ σ with a28 := put r.emb w σ.a28 } : St F).fam := by
    funext j; cases j <;> rfl
  exact Runs.post h (congrArg (holds (F := F) c B.fam) e)

/-- A load from a slot of the stash. -/
theorem ldS (o : Fin 4 → ℕ) (ho : ∀ a, o a + S1x5x192x512.size a ≤ S2x5x192x512.size a) (r : Rect S5x192x512)
    (hl : ((B.a28.slice (Rect.unit (s := S2x5x192x512) o S1x5x192x512.size ho) (fun _ => rfl)).squeeze S5x192x512
      squeezes_S1x5x192x512_S5x192x512).view.LoadsAt r.toLoadRect) :
    Runs (F := F) c (held c B σ) (Prog.lift (.load ((B.a28.slice (Rect.unit (s := S2x5x192x512) o S1x5x192x512.size ho) (fun _ => rfl)).squeeze S5x192x512
      squeezes_S1x5x192x512_S5x192x512) r.toLoadRect hl)) (ldSlot o ho σ.a28 r) (held c B σ) :=
  Runs.loadSlot c B.fam σ.fam .b28 (Rect.unit (s := S2x5x192x512) o S1x5x192x512.size ho) (fun _ => rfl) S5x192x512
    squeezes_S1x5x192x512_S5x192x512 r.toLoadRect hl

/-- A store to a slot of the stash. -/
theorem stS (o : Fin 4 → ℕ) (ho : ∀ a, o a + S1x5x192x512.size a ≤ S2x5x192x512.size a) (r : Rect S5x192x512)
    (w : r.shape.Idx → Elt F .f32)
    (hx : (((B.a28.slice (Rect.unit (s := S2x5x192x512) o S1x5x192x512.size ho) (fun _ => rfl)).squeeze S5x192x512
      squeezes_S1x5x192x512_S5x192x512).access r).Stores Finset.univ)
    (hm : (Finset.univ : Finset r.shape.Idx) = Finset.univ ∨ ∀ a, r.stride a = 1) :
    Runs (F := F) c (held c B σ) (Prog.lift (.store ((B.a28.slice (Rect.unit (s := S2x5x192x512) o S1x5x192x512.size ho) (fun _ => rfl)).squeeze S5x192x512
      squeezes_S1x5x192x512_S5x192x512) r w Finset.univ hx hm)) ⟨⟩ (held c B { σ with a28 := put (slotEmb o ho r) w σ.a28 }) := by
  have h := Runs.storeSlot c B.fam σ.fam .b28 (Rect.unit (s := S2x5x192x512) o S1x5x192x512.size ho) (fun _ => rfl) S5x192x512
    squeezes_S1x5x192x512_S5x192x512 r w hx hm
  have e : Function.update σ.fam .b28 (put (slotEmb o ho r) w (σ.fam .b28)) = ({ σ with a28 := put (slotEmb o ho r) w σ.a28 } : St F).fam := by
    funext j; cases j <;> rfl
  exact Runs.post h (congrArg (holds (F := F) c B.fam) e)

end Cert.Mix
-- ==== Proof.MixParts.lean ====
/-
  The body of the mixers' input call as a function of the contents of its buffers: what each part of it computes and
  leaves, and that the part runs so.
-/
module

public import proofs.«01_k».proof.Proof.MixBufs

@[expose] public section

noncomputable section

namespace Cert.Mix

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]

variable (c : Dev nD) (B : Bufs) (i : grid0.Coords) (σ : St F)

/-- The scalar `arg0` of the body. -/
def c_arg0 (i : grid0.Coords) : BitVec 32 := BitVec.ofNat 32 (i 0).val

/-- The scalar `v0` of the body. -/
def c_v0 (i : grid0.Coords) : BitVec 32 := Scalar.minsi (c_arg0 i) 175#32

/-- The scalar `v1` of the body. -/
def c_v1 (i : grid0.Coords) : BitVec 1 := Scalar.cmpi .eq 11#32 0#32

/-- The scalar `v2` of the body. -/
def c_v2 (i : grid0.Coords) : BitVec 32 := Scalar.select (c_v1 i) 1#32 11#32

/-- The scalar `v3` of the body. -/
def c_v3 (i : grid0.Coords) : BitVec 32 := Scalar.remsi (c_v0 i) (c_v2 i)

/-- The scalar `v4` of the body. -/
def c_v4 (i : grid0.Coords) : BitVec 1 := Scalar.cmpi .ne (c_v3 i) 0#32

/-- The scalar `v5` of the body. -/
def c_v5 (i : grid0.Coords) : BitVec 1 := Scalar.cmpi .slt (c_v3 i) 0#32

/-- The scalar `v6` of the body. -/
def c_v6 (i : grid0.Coords) : BitVec 1 := Scalar.cmpi .slt (c_v2 i) 0#32

/-- The scalar `v7` of the body. -/
def c_v7 (i : grid0.Coords) : BitVec 1 := Scalar.xori (c_v5 i) (c_v6 i)

/-- The scalar `v8` of the body. -/
def c_v8 (i : grid0.Coords) : BitVec 1 := Scalar.andi (c_v7 i) (c_v4 i)

/-- The scalar `v9` of the body. -/
def c_v9 (i : grid0.Coords) : BitVec 32 := Scalar.addi (c_v3 i) (c_v2 i)

/-- The scalar `v10` of the body. -/
def c_v10 (i : grid0.Coords) : BitVec 32 := Scalar.select (c_v8 i) (c_v9 i) (c_v3 i)

/-- The scalar `v11` of the body. -/
def c_v11 (i : grid0.Coords) : BitVec 1 := Scalar.cmpi .eq (c_arg0 i) 0#32

/-- The scalar `v12` of the body. -/
def c_v12 (i : grid0.Coords) : BitVec 32 := Scalar.extui (c_v11 i)

/-- The scalar `v13` of the body. -/
def c_v13 (i : grid0.Coords) : BitVec 1 := Scalar.cmpi .ne (c_v12 i) 0#32

/-- The scalar `v14` of the body. -/
def c_v14 (i : grid0.Coords) : BitVec 1 := Scalar.cmpi .eq (c_v10 i) 0#32

/-- The scalar `v15` of the body. -/
def c_v15 (i : grid0.Coords) : BitVec 32 := Scalar.extui (c_v14 i)

/-- The scalar `v16` of the body. -/
def c_v16 (i : grid0.Coords) : BitVec 1 := Scalar.cmpi .ne (c_v15 i) 0#32

/-- The stash after it is zeroed at the first grid point. -/
def z28 : Vec F S2x5x192x512 .f32 := if c_v13 i = 1#1 then put (Rect.unit (s := S2x5x192x512) ![0, 0, 0, 0] S2x5x192x512.size inb_S2x5x192x512_S2x5x192x512_0_0_0_0).emb (k0_pay5 (F := F)) σ.a28 else σ.a28

/-- The columns after the rows above the tile are zeroed at the start of a sequence. -/
def z27 : Vec F S208x2432 .f32 := if c_v16 i = 1#1 then put (Rect.unit (s := S208x2432) ![0, 0] S16x2432.size inb_S208x2432_S16x2432_0_0).emb (k0_pay6 (F := F)) σ.a27 else σ.a27

/-- The value `arg0` of part 1. -/
def p1_arg0 (i : grid0.Coords) (σ : St F) : BitVec 32 := c_arg0 i

/-- The value `v10` of part 1. -/
def p1_v10 (i : grid0.Coords) (σ : St F) : BitVec 32 := c_v10 i

/-- The value `v31` of part 1. -/
def p1_v31 (i : grid0.Coords) (σ : St F) : FVec F S192x512 .f32 := k0_pay7 (ldSlot (k0_off1 i) (k0_off1_inb i) (z28 i σ) (Rect.unit (s := S5x192x512) ![0, 0, 0] S1x192x512.size inb_S5x192x512_S1x192x512_0_0_0))

/-- The contents after part 1. -/
def p1_st (i : grid0.Coords) (σ : St F) : St F := { σ with a28 := (z28 i σ), a27 := (z27 i σ) }

set_option maxHeartbeats 1000000 in
/-- Part 1 runs so. -/
theorem run_part1 : Runs (F := F) c (held c B σ) (k0_part1 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 ) ⟨p1_arg0 (F := F) i σ, p1_v10 (F := F) i σ, p1_v31 (F := F) i σ⟩ (held c B (p1_st i σ )) := by
  rw [k0_part1_eq_skeleton]
  unfold k0_part1_skel
  rcases Classical.em (c_v13 i = 1#1) with h13 | h13 <;> rcases Classical.em (c_v16 i = 1#1) with h16 | h16
  · have e28 : z28 i σ = _ := if_pos h13
    have e27 : z27 i σ = _ := if_pos h16
    unfold p1_v31 p1_st
    rw [e28, e27]
    exact Runs.ifT h13 (Runs.bind (ld28 c B _ _ _) (Runs.bind (st28 c B _ _ _ _ _) (Runs.ifT h16 (Runs.bind (ld27 c B _ _ _) (Runs.bind (st27 c B _ _ _ _ _) (Runs.bind (ldS c B _ _ _ _ _) (Runs.pure _ _)))))))
  · have e28 : z28 i σ = _ := if_pos h13
    have e27 : z27 i σ = _ := if_neg h16
    unfold p1_v31 p1_st
    rw [e28, e27]
    exact Runs.ifT h13 (Runs.bind (ld28 c B _ _ _) (Runs.bind (st28 c B _ _ _ _ _) (Runs.ifF h16 (Runs.bind (ldS c B _ _ _ _ _) (Runs.pure _ _)))))
  · have e28 : z28 i σ = _ := if_neg h13
    have e27 : z27 i σ = _ := if_pos h16
    unfold p1_v31 p1_st
    rw [e28, e27]
    exact Runs.ifF h13 (Runs.ifT h16 (Runs.bind (ld27 c B _ _ _) (Runs.bind (st27 c B _ _ _ _ _) (Runs.bind (ldS c B _ _ _ _ _) (Runs.pure _ _)))))
  · have e28 : z28 i σ = _ := if_neg h13
    have e27 : z27 i σ = _ := if_neg h16
    unfold p1_v31 p1_st
    rw [e28, e27]
    exact Runs.ifF h13 (Runs.ifF h16 (Runs.bind (ldS c B _ _ _ _ _) (Runs.pure _ _)))

/-- The value `v35` of part 2. -/
def p2_v35 (i : grid0.Coords) (σ : St F) : FVec F S192x512 .f32 := k0_pay8 (ldSlot (k0_off1 i) (k0_off1_inb i) σ.a28 (Rect.unit (s := S5x192x512) ![1, 0, 0] S1x192x512.size inb_S5x192x512_S1x192x512_1_0_0))

/-- The value `v39` of part 2. -/
def p2_v39 (i : grid0.Coords) (σ : St F) : FVec F S192x512 .f32 := k0_pay9 (ldSlot (k0_off1 i) (k0_off1_inb i) σ.a28 (Rect.unit (s := S5x192x512) ![2, 0, 0] S1x192x512.size inb_S5x192x512_S1x192x512_2_0_0))

/-- The value `v43` of part 2. -/
def p2_v43 (i : grid0.Coords) (σ : St F) : FVec F S192x512 .f32 := k0_pay10 (ldSlot (k0_off1 i) (k0_off1_inb i) σ.a28 (Rect.unit (s := S5x192x512) ![3, 0, 0] S1x192x512.size inb_S5x192x512_S1x192x512_3_0_0))

/-- The value `v47` of part 2. -/
def p2_v47 (i : grid0.Coords) (σ : St F) : FVec F S192x512 .f32 := k0_pay11 (ldSlot (k0_off1 i) (k0_off1_inb i) σ.a28 (Rect.unit (s := S5x192x512) ![4, 0, 0] S1x192x512.size inb_S5x192x512_S1x192x512_4_0_0))

/-- The value `v53` of part 2. -/
def p2_v53 (i : grid0.Coords) (σ : St F) : FVec F S64x64 .bf16 := k0_pay12 (F := F)

/-- The value `v54` of part 2. -/
def p2_v54 (i : grid0.Coords) (σ : St F) : FVec F S192x512 .bf16 := k0_pay13 (ldSlot (k0_off1 i) (k0_off1_inb i) σ.a28 (Rect.unit (s := S5x192x512) ![3, 0, 0] S1x192x512.size inb_S5x192x512_S1x192x512_3_0_0))

/-- The value `v57` of part 2. -/
def p2_v57 (i : grid0.Coords) (σ : St F) : FVec F S192x512 .bf16 := k0_pay14 (ldSlot (k0_off1 i) (k0_off1_inb i) σ.a28 (Rect.unit (s := S5x192x512) ![3, 0, 0] S1x192x512.size inb_S5x192x512_S1x192x512_3_0_0))

/-- The value `v62` of part 2. -/
def p2_v62 (i : grid0.Coords) (σ : St F) : FVec F S64x512 .f32 := k0_pay15 (ldSlot (k0_off1 i) (k0_off1_inb i) σ.a28 (Rect.unit (s := S5x192x512) ![3, 0, 0] S1x192x512.size inb_S5x192x512_S1x192x512_3_0_0))

/-- The value `v64` of part 2. -/
def p2_v64 (i : grid0.Coords) (σ : St F) : FVec F S1x512 .f32 := k0_pay16 (ldSlot (k0_off1 i) (k0_off1_inb i) σ.a28 (Rect.unit (s := S5x192x512) ![3, 0, 0] S1x192x512.size inb_S5x192x512_S1x192x512_3_0_0))

/-- The value `v66` of part 2. -/
def p2_v66 (i : grid0.Coords) (σ : St F) : FVec F S8x512 .f32 := k0_pay17 (ldSlot (k0_off1 i) (k0_off1_inb i) σ.a28 (Rect.unit (s := S5x192x512) ![3, 0, 0] S1x192x512.size inb_S5x192x512_S1x192x512_3_0_0))

/-- The contents after part 2. -/
def p2_st (i : grid0.Coords) (σ : St F) : St F := σ

set_option maxHeartbeats 1000000 in
/-- Part 2 runs so. -/
theorem run_part2 : Runs (F := F) c (held c B σ) (k0_part2 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 ) ⟨p2_v35 (F := F) i σ, p2_v39 (F := F) i σ, p2_v43 (F := F) i σ, p2_v47 (F := F) i σ, p2_v53 (F := F) i σ, p2_v54 (F := F) i σ, p2_v57 (F := F) i σ, p2_v62 (F := F) i σ, p2_v64 (F := F) i σ, p2_v66 (F := F) i σ⟩ (held c B (p2_st i σ )) := by
  rw [k0_part2_eq_skeleton]
  unfold k0_part2_skel
  refine Runs.bind (ldS c B _ _ _ _ _) ?_
  refine Runs.bind (ldS c B _ _ _ _ _) ?_
  refine Runs.bind (ldS c B _ _ _ _ _) ?_
  refine Runs.bind (ldS c B _ _ _ _ _) ?_
  exact Runs.pure _ _

/-- The value `v100` of part 3. -/
def p3_v100 (i : grid0.Coords) (σ : St F) (v53 : FVec F S64x64 .bf16) (v54 : FVec F S192x512 .bf16) (v57 : FVec F S192x512 .bf16) (v62 : FVec F S64x512 .f32) (v64 : FVec F S1x512 .f32) (v66 : FVec F S8x512 .f32) : FVec F S192x512 .f32 := k0_pay25 v53 v54 v57 v62

/-- The value `v101` of part 3. -/
def p3_v101 (i : grid0.Coords) (σ : St F) (v53 : FVec F S64x64 .bf16) (v54 : FVec F S192x512 .bf16) (v57 : FVec F S192x512 .bf16) (v62 : FVec F S64x512 .f32) (v64 : FVec F S1x512 .f32) (v66 : FVec F S8x512 .f32) : FVec F S192x512 .f32 := k0_pay26 v53 v54 v57 v64

/-- The value `v104` of part 3. -/
def p3_v104 (i : grid0.Coords) (σ : St F) (v53 : FVec F S64x64 .bf16) (v54 : FVec F S192x512 .bf16) (v57 : FVec F S192x512 .bf16) (v62 : FVec F S64x512 .f32) (v64 : FVec F S1x512 .f32) (v66 : FVec F S8x512 .f32) : IVec S192x128 1 := k0_pay27

/-- The value `v107` of part 3. -/
def p3_v107 (i : grid0.Coords) (σ : St F) (v53 : FVec F S64x64 .bf16) (v54 : FVec F S192x512 .bf16) (v57 : FVec F S192x512 .bf16) (v62 : FVec F S64x512 .f32) (v64 : FVec F S1x512 .f32) (v66 : FVec F S8x512 .f32) : FVec F S192x512 .f32 := k0_pay28 (ld σ.a12 (Rect.unit (s := S1x512) ![0, 0] S1x512.size inb_S1x512_S1x512_0_0))

/-- The contents after part 3. -/
def p3_st (i : grid0.Coords) (σ : St F) (v53 : FVec F S64x64 .bf16) (v54 : FVec F S192x512 .bf16) (v57 : FVec F S192x512 .bf16) (v62 : FVec F S64x512 .f32) (v64 : FVec F S1x512 .f32) (v66 : FVec F S8x512 .f32) : St F := { σ with a25 := (put (Rect.unit (s := S1x24x512) ![0, 16, 0] S1x8x512.size inb_S1x24x512_S1x8x512_0_16_0).emb (k0_pay24 v53 v54 v57) (put (Rect.unit (s := S1x24x512) ![0, 8, 0] S1x8x512.size inb_S1x24x512_S1x8x512_0_8_0).emb (k0_pay21 v53 v54 v57) (put (Rect.unit (s := S1x24x512) ![0, 0, 0] S1x8x512.size inb_S1x24x512_S1x8x512_0_0_0).emb (k0_pay18 v66) σ.a25))) }

set_option maxHeartbeats 1000000 in
/-- Part 3 runs so. -/
theorem run_part3 (v53 : FVec F S64x64 .bf16) (v54 : FVec F S192x512 .bf16) (v57 : FVec F S192x512 .bf16) (v62 : FVec F S64x512 .f32) (v64 : FVec F S1x512 .f32) (v66 : FVec F S8x512 .f32) : Runs (F := F) c (held c B σ) (k0_part3 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 v53 v54 v57 v62 v64 v66) ⟨p3_v100 (F := F) i σ v53 v54 v57 v62 v64 v66, p3_v101 (F := F) i σ v53 v54 v57 v62 v64 v66, p3_v104 (F := F) i σ v53 v54 v57 v62 v64 v66, p3_v107 (F := F) i σ v53 v54 v57 v62 v64 v66⟩ (held c B (p3_st i σ v53 v54 v57 v62 v64 v66)) := by
  rw [k0_part3_eq_skeleton]
  unfold k0_part3_skel
  refine Runs.bind (ld25 c B _ _ _) ?_
  refine Runs.bind (st25 c B _ _ _ _ _) ?_
  refine Runs.bind (ld25 c B _ _ _) ?_
  refine Runs.bind (st25 c B _ _ _ _ _) ?_
  refine Runs.bind (ld25 c B _ _ _) ?_
  refine Runs.bind (st25 c B _ _ _ _ _) ?_
  refine Runs.bind (ld12 c B _ _ _) ?_
  exact Runs.pure _ _

/-- The value `v108` of part 4. -/
def p4_v108 (i : grid0.Coords) (σ : St F) (v35 : FVec F S192x512 .f32) (v107 : FVec F S192x512 .f32) : FVec F S192x512 .f32 := k0_pay29 v35 v107

/-- The value `v130` of part 4. -/
def p4_v130 (i : grid0.Coords) (σ : St F) (v35 : FVec F S192x512 .f32) (v107 : FVec F S192x512 .f32) : FVec F S192x1 .f32 := k0_pay31 v35 v107

/-- The value `v133` of part 4. -/
def p4_v133 (i : grid0.Coords) (σ : St F) (v35 : FVec F S192x512 .f32) (v107 : FVec F S192x512 .f32) : FVec F S192x1 .f32 := k0_pay32 v35 v107

/-- The value `v136` of part 4. -/
def p4_v136 (i : grid0.Coords) (σ : St F) (v35 : FVec F S192x512 .f32) (v107 : FVec F S192x512 .f32) : FVec F S192x1 .f32 := k0_pay33 v35 v107

/-- The value `v139` of part 4. -/
def p4_v139 (i : grid0.Coords) (σ : St F) (v35 : FVec F S192x512 .f32) (v107 : FVec F S192x512 .f32) : FVec F S192x1 .f32 := k0_pay34 v35 v107

/-- The value `v142` of part 4. -/
def p4_v142 (i : grid0.Coords) (σ : St F) (v35 : FVec F S192x512 .f32) (v107 : FVec F S192x512 .f32) : FVec F S192x1 .f32 := k0_pay35 v35 v107

/-- The value `v145` of part 4. -/
def p4_v145 (i : grid0.Coords) (σ : St F) (v35 : FVec F S192x512 .f32) (v107 : FVec F S192x512 .f32) : FVec F S192x1 .f32 := k0_pay36 v35 v107

/-- The value `v148` of part 4. -/
def p4_v148 (i : grid0.Coords) (σ : St F) (v35 : FVec F S192x512 .f32) (v107 : FVec F S192x512 .f32) : FVec F S192x1 .f32 := k0_pay37 v35 v107

/-- The value `v151` of part 4. -/
def p4_v151 (i : grid0.Coords) (σ : St F) (v35 : FVec F S192x512 .f32) (v107 : FVec F S192x512 .f32) : FVec F S192x1 .f32 := k0_pay38 v35 v107

/-- The value `v152` of part 4. -/
def p4_v152 (i : grid0.Coords) (σ : St F) (v35 : FVec F S192x512 .f32) (v107 : FVec F S192x512 .f32) : FVec F S192x1 .f32 := k0_pay39 (F := F)

/-- The contents after part 4. -/
def p4_st (i : grid0.Coords) (σ : St F) (v35 : FVec F S192x512 .f32) (v107 : FVec F S192x512 .f32) : St F := σ

set_option maxHeartbeats 1000000 in
/-- Part 4 runs so. -/
theorem run_part4 (v35 : FVec F S192x512 .f32) (v107 : FVec F S192x512 .f32) : Runs (F := F) c (held c B σ) (k0_part4 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 v35 v107) ⟨p4_v108 (F := F) i σ v35 v107, p4_v130 (F := F) i σ v35 v107, p4_v133 (F := F) i σ v35 v107, p4_v136 (F := F) i σ v35 v107, p4_v139 (F := F) i σ v35 v107, p4_v142 (F := F) i σ v35 v107, p4_v145 (F := F) i σ v35 v107, p4_v148 (F := F) i σ v35 v107, p4_v151 (F := F) i σ v35 v107, p4_v152 (F := F) i σ v35 v107⟩ (held c B (p4_st i σ v35 v107)) := by
  rw [k0_part4_eq_skeleton]
  unfold k0_part4_skel

  exact Runs.pure _ _

/-- The value `v179` of part 5. -/
def p5_v179 (i : grid0.Coords) (σ : St F) (v31 : FVec F S192x512 .f32) (v35 : FVec F S192x512 .f32) (v43 : FVec F S192x512 .f32) (v47 : FVec F S192x512 .f32) (v100 : FVec F S192x512 .f32) (v104 : IVec S192x128 1) (v108 : FVec F S192x512 .f32) (v130 : FVec F S192x1 .f32) (v133 : FVec F S192x1 .f32) (v136 : FVec F S192x1 .f32) (v139 : FVec F S192x1 .f32) (v142 : FVec F S192x1 .f32) (v145 : FVec F S192x1 .f32) (v148 : FVec F S192x1 .f32) (v151 : FVec F S192x1 .f32) (v152 : FVec F S192x1 .f32) : FVec F S192x512 .f32 := k0_pay40 v104 v108 v130 v133 v136 v139 v142 v145 v148 v151 v152

/-- The value `v188` of part 5. -/
def p5_v188 (i : grid0.Coords) (σ : St F) (v31 : FVec F S192x512 .f32) (v35 : FVec F S192x512 .f32) (v43 : FVec F S192x512 .f32) (v47 : FVec F S192x512 .f32) (v100 : FVec F S192x512 .f32) (v104 : IVec S192x128 1) (v108 : FVec F S192x512 .f32) (v130 : FVec F S192x1 .f32) (v133 : FVec F S192x1 .f32) (v136 : FVec F S192x1 .f32) (v139 : FVec F S192x1 .f32) (v142 : FVec F S192x1 .f32) (v145 : FVec F S192x1 .f32) (v148 : FVec F S192x1 .f32) (v151 : FVec F S192x1 .f32) (v152 : FVec F S192x1 .f32) : FVec F S192x512 .f32 := k0_pay41 v35 v47 (ld σ.a13 (Rect.unit (s := S1x512) ![0, 0] S1x512.size inb_S1x512_S1x512_0_0))

/-- The value `v192` of part 5. -/
def p5_v192 (i : grid0.Coords) (σ : St F) (v31 : FVec F S192x512 .f32) (v35 : FVec F S192x512 .f32) (v43 : FVec F S192x512 .f32) (v47 : FVec F S192x512 .f32) (v100 : FVec F S192x512 .f32) (v104 : IVec S192x128 1) (v108 : FVec F S192x512 .f32) (v130 : FVec F S192x1 .f32) (v133 : FVec F S192x1 .f32) (v136 : FVec F S192x1 .f32) (v139 : FVec F S192x1 .f32) (v142 : FVec F S192x1 .f32) (v145 : FVec F S192x1 .f32) (v148 : FVec F S192x1 .f32) (v151 : FVec F S192x1 .f32) (v152 : FVec F S192x1 .f32) : FVec F S192x512 .f32 := k0_pay43 v35 v47 v100 (ld σ.a13 (Rect.unit (s := S1x512) ![0, 0] S1x512.size inb_S1x512_S1x512_0_0))

/-- The value `v194` of part 5. -/
def p5_v194 (i : grid0.Coords) (σ : St F) (v31 : FVec F S192x512 .f32) (v35 : FVec F S192x512 .f32) (v43 : FVec F S192x512 .f32) (v47 : FVec F S192x512 .f32) (v100 : FVec F S192x512 .f32) (v104 : IVec S192x128 1) (v108 : FVec F S192x512 .f32) (v130 : FVec F S192x1 .f32) (v133 : FVec F S192x1 .f32) (v136 : FVec F S192x1 .f32) (v139 : FVec F S192x1 .f32) (v142 : FVec F S192x1 .f32) (v145 : FVec F S192x1 .f32) (v148 : FVec F S192x1 .f32) (v151 : FVec F S192x1 .f32) (v152 : FVec F S192x1 .f32) : FVec F S192x512 .f32 := k0_pay44 v47 v100 v104 v108 v130 v133 v136 v139 v142 v145 v148 v151 v152

/-- The value `v202` of part 5. -/
def p5_v202 (i : grid0.Coords) (σ : St F) (v31 : FVec F S192x512 .f32) (v35 : FVec F S192x512 .f32) (v43 : FVec F S192x512 .f32) (v47 : FVec F S192x512 .f32) (v100 : FVec F S192x512 .f32) (v104 : IVec S192x128 1) (v108 : FVec F S192x512 .f32) (v130 : FVec F S192x1 .f32) (v133 : FVec F S192x1 .f32) (v136 : FVec F S192x1 .f32) (v139 : FVec F S192x1 .f32) (v142 : FVec F S192x1 .f32) (v145 : FVec F S192x1 .f32) (v148 : FVec F S192x1 .f32) (v151 : FVec F S192x1 .f32) (v152 : FVec F S192x1 .f32) : FVec F S192x512 .f32 := k0_pay46 v43 v100

/-- The contents after part 5. -/
def p5_st (i : grid0.Coords) (σ : St F) (v31 : FVec F S192x512 .f32) (v35 : FVec F S192x512 .f32) (v43 : FVec F S192x512 .f32) (v47 : FVec F S192x512 .f32) (v100 : FVec F S192x512 .f32) (v104 : IVec S192x128 1) (v108 : FVec F S192x512 .f32) (v130 : FVec F S192x1 .f32) (v133 : FVec F S192x1 .f32) (v136 : FVec F S192x1 .f32) (v139 : FVec F S192x1 .f32) (v142 : FVec F S192x1 .f32) (v145 : FVec F S192x1 .f32) (v148 : FVec F S192x1 .f32) (v151 : FVec F S192x1 .f32) (v152 : FVec F S192x1 .f32) : St F := { σ with a17 := (put (Rect.unit (s := S1x192x512) ![0, 0, 0] S1x192x512.size inb_S1x192x512_S1x192x512_0_0_0).emb (k0_pay45 v31 v100) σ.a17) }

set_option maxHeartbeats 1000000 in
/-- Part 5 runs so. -/
theorem run_part5 (v31 : FVec F S192x512 .f32) (v35 : FVec F S192x512 .f32) (v43 : FVec F S192x512 .f32) (v47 : FVec F S192x512 .f32) (v100 : FVec F S192x512 .f32) (v104 : IVec S192x128 1) (v108 : FVec F S192x512 .f32) (v130 : FVec F S192x1 .f32) (v133 : FVec F S192x1 .f32) (v136 : FVec F S192x1 .f32) (v139 : FVec F S192x1 .f32) (v142 : FVec F S192x1 .f32) (v145 : FVec F S192x1 .f32) (v148 : FVec F S192x1 .f32) (v151 : FVec F S192x1 .f32) (v152 : FVec F S192x1 .f32) : Runs (F := F) c (held c B σ) (k0_part5 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 v31 v35 v43 v47 v100 v104 v108 v130 v133 v136 v139 v142 v145 v148 v151 v152) ⟨p5_v179 (F := F) i σ v31 v35 v43 v47 v100 v104 v108 v130 v133 v136 v139 v142 v145 v148 v151 v152, p5_v188 (F := F) i σ v31 v35 v43 v47 v100 v104 v108 v130 v133 v136 v139 v142 v145 v148 v151 v152, p5_v192 (F := F) i σ v31 v35 v43 v47 v100 v104 v108 v130 v133 v136 v139 v142 v145 v148 v151 v152, p5_v194 (F := F) i σ v31 v35 v43 v47 v100 v104 v108 v130 v133 v136 v139 v142 v145 v148 v151 v152, p5_v202 (F := F) i σ v31 v35 v43 v47 v100 v104 v108 v130 v133 v136 v139 v142 v145 v148 v151 v152⟩ (held c B (p5_st i σ v31 v35 v43 v47 v100 v104 v108 v130 v133 v136 v139 v142 v145 v148 v151 v152)) := by
  rw [k0_part5_eq_skeleton]
  unfold k0_part5_skel
  refine Runs.bind (ld13 c B _ _ _) ?_
  refine Runs.bind (ld17 c B _ _ _) ?_
  refine Runs.bind (st17 c B _ _ _ _ _) ?_
  exact Runs.pure _ _

/-- The value `v232` of part 6. -/
def p6_v232 (i : grid0.Coords) (σ : St F) (v31 : FVec F S192x512 .f32) (v39 : FVec F S192x512 .f32) (v101 : FVec F S192x512 .f32) (v179 : FVec F S192x512 .f32) (v188 : FVec F S192x512 .f32) (v192 : FVec F S192x512 .f32) (v194 : FVec F S192x512 .f32) (v202 : FVec F S192x512 .f32) : FVec F S192x512 .f32 := k0_pay53 v31 v188

/-- The value `v235` of part 6. -/
def p6_v235 (i : grid0.Coords) (σ : St F) (v31 : FVec F S192x512 .f32) (v39 : FVec F S192x512 .f32) (v101 : FVec F S192x512 .f32) (v179 : FVec F S192x512 .f32) (v188 : FVec F S192x512 .f32) (v192 : FVec F S192x512 .f32) (v194 : FVec F S192x512 .f32) (v202 : FVec F S192x512 .f32) : FVec F S192x512 .f32 := k0_pay54 (ld σ.a14 (Rect.unit (s := S1x512) ![0, 0] S1x512.size inb_S1x512_S1x512_0_0))

/-- The contents after part 6. -/
def p6_st (i : grid0.Coords) (σ : St F) (v31 : FVec F S192x512 .f32) (v39 : FVec F S192x512 .f32) (v101 : FVec F S192x512 .f32) (v179 : FVec F S192x512 .f32) (v188 : FVec F S192x512 .f32) (v192 : FVec F S192x512 .f32) (v194 : FVec F S192x512 .f32) (v202 : FVec F S192x512 .f32) : St F := { σ with a16 := (put (Rect.unit (s := S1x192x512) ![0, 0, 0] S1x192x512.size inb_S1x192x512_S1x192x512_0_0_0).emb (k0_pay47 v179 v202) σ.a16), a19 := (put (Rect.unit (s := S1x192x512) ![0, 0, 0] S1x192x512.size inb_S1x192x512_S1x192x512_0_0_0).emb (k0_pay48 v192) σ.a19), a18 := (put (Rect.unit (s := S1x192x512) ![0, 0, 0] S1x192x512.size inb_S1x192x512_S1x192x512_0_0_0).emb (k0_pay49 v194) σ.a18), a21 := (put (Rect.unit (s := S1x192x512) ![0, 0, 0] S1x192x512.size inb_S1x192x512_S1x192x512_0_0_0).emb (k0_pay50 v101 v192) σ.a21), a20 := (put (Rect.unit (s := S1x192x512) ![0, 0, 0] S1x192x512.size inb_S1x192x512_S1x192x512_0_0_0).emb (k0_pay51 v101 v194) σ.a20), a22 := (put (Rect.unit (s := S1x192x512) ![0, 0, 0] S1x192x512.size inb_S1x192x512_S1x192x512_0_0_0).emb (k0_pay52 v39) σ.a22) }

set_option maxHeartbeats 1000000 in
/-- Part 6 runs so. -/
theorem run_part6 (v31 : FVec F S192x512 .f32) (v39 : FVec F S192x512 .f32) (v101 : FVec F S192x512 .f32) (v179 : FVec F S192x512 .f32) (v188 : FVec F S192x512 .f32) (v192 : FVec F S192x512 .f32) (v194 : FVec F S192x512 .f32) (v202 : FVec F S192x512 .f32) : Runs (F := F) c (held c B σ) (k0_part6 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 v31 v39 v101 v179 v188 v192 v194 v202) ⟨p6_v232 (F := F) i σ v31 v39 v101 v179 v188 v192 v194 v202, p6_v235 (F := F) i σ v31 v39 v101 v179 v188 v192 v194 v202⟩ (held c B (p6_st i σ v31 v39 v101 v179 v188 v192 v194 v202)) := by
  rw [k0_part6_eq_skeleton]
  unfold k0_part6_skel
  refine Runs.bind (ld16 c B _ _ _) ?_
  refine Runs.bind (st16 c B _ _ _ _ _) ?_
  refine Runs.bind (ld19 c B _ _ _) ?_
  refine Runs.bind (st19 c B _ _ _ _ _) ?_
  refine Runs.bind (ld18 c B _ _ _) ?_
  refine Runs.bind (st18 c B _ _ _ _ _) ?_
  refine Runs.bind (ld21 c B _ _ _) ?_
  refine Runs.bind (st21 c B _ _ _ _ _) ?_
  refine Runs.bind (ld20 c B _ _ _) ?_
  refine Runs.bind (st20 c B _ _ _ _ _) ?_
  refine Runs.bind (ld22 c B _ _ _) ?_
  refine Runs.bind (st22 c B _ _ _ _ _) ?_
  refine Runs.bind (ld14 c B _ _ _) ?_
  exact Runs.pure _ _

/-- The value `v282` of part 7. -/
def p7_v282 (i : grid0.Coords) (σ : St F) (v39 : FVec F S192x512 .f32) (v104 : IVec S192x128 1) (v232 : FVec F S192x512 .f32) (v235 : FVec F S192x512 .f32) : FVec F S192x512 .f32 := (k0_pay55 v39 v104 v232 v235)

/-- The contents after part 7. -/
def p7_st (i : grid0.Coords) (σ : St F) (v39 : FVec F S192x512 .f32) (v104 : IVec S192x128 1) (v232 : FVec F S192x512 .f32) (v235 : FVec F S192x512 .f32) : St F := σ

set_option maxHeartbeats 1000000 in
/-- Part 7 runs so. -/
theorem run_part7 (v39 : FVec F S192x512 .f32) (v104 : IVec S192x128 1) (v232 : FVec F S192x512 .f32) (v235 : FVec F S192x512 .f32) : Runs (F := F) c (held c B σ) (k0_part7 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 v39 v104 v232 v235) (p7_v282 (F := F) i σ v39 v104 v232 v235) (held c B (p7_st i σ v39 v104 v232 v235)) := by
  rw [k0_part7_eq_skeleton]
  unfold k0_part7_skel
  refine Runs.bind (ld23 c B _ _ _) ?_
  exact Runs.pure _ _

/-- The value `v312` of part 8. -/
def p8_v312 (i : grid0.Coords) (σ : St F) (v10 : BitVec 32) (v282 : FVec F S192x512 .f32) : IVec S192x1 32 := k0_pay58 v10

/-- The value `v313` of part 8. -/
def p8_v313 (i : grid0.Coords) (σ : St F) (v10 : BitVec 32) (v282 : FVec F S192x512 .f32) : Vec F S208x128 .f32 := (ld (put (Rect.unit (s := S208x2432) ![16, 0] S192x2432.size inb_S208x2432_S192x2432_16_0).emb (k0_pay57 (ld σ.a1 (Rect.unit (s := S1x192x1024) ![0, 0, 0] S1x192x1024.size inb_S1x192x1024_S1x192x1024_0_0_0)) (ld σ.a2 (Rect.unit (s := S1x1024) ![0, 0] S1x1024.size inb_S1x1024_S1x1024_0_0)) (ld σ.a3 (Rect.unit (s := S1024x2432) ![0, 0] S1024x2432.size inb_S1024x2432_S1024x2432_0_0))) σ.a27) (Rect.unit (s := S208x2432) ![0, 0] S208x128.size inb_S208x2432_S208x128_0_0))

/-- The value `v323` of part 8. -/
def p8_v323 (i : grid0.Coords) (σ : St F) (v10 : BitVec 32) (v282 : FVec F S192x512 .f32) : FVec F S192x128 .f32 := k0_pay59 v10 (ld (put (Rect.unit (s := S208x2432) ![16, 0] S192x2432.size inb_S208x2432_S192x2432_16_0).emb (k0_pay57 (ld σ.a1 (Rect.unit (s := S1x192x1024) ![0, 0, 0] S1x192x1024.size inb_S1x192x1024_S1x192x1024_0_0_0)) (ld σ.a2 (Rect.unit (s := S1x1024) ![0, 0] S1x1024.size inb_S1x1024_S1x1024_0_0)) (ld σ.a3 (Rect.unit (s := S1024x2432) ![0, 0] S1024x2432.size inb_S1024x2432_S1024x2432_0_0))) σ.a27) (Rect.unit (s := S208x2432) ![0, 0] S208x128.size inb_S208x2432_S208x128_0_0))

/-- The contents after part 8. -/
def p8_st (i : grid0.Coords) (σ : St F) (v10 : BitVec 32) (v282 : FVec F S192x512 .f32) : St F := { σ with a23 := (put (Rect.unit (s := S1x192x512) ![0, 0, 0] S1x192x512.size inb_S1x192x512_S1x192x512_0_0_0).emb (k0_pay56 v282) σ.a23), a27 := (put (Rect.unit (s := S208x2432) ![16, 0] S192x2432.size inb_S208x2432_S192x2432_16_0).emb (k0_pay57 (ld σ.a1 (Rect.unit (s := S1x192x1024) ![0, 0, 0] S1x192x1024.size inb_S1x192x1024_S1x192x1024_0_0_0)) (ld σ.a2 (Rect.unit (s := S1x1024) ![0, 0] S1x1024.size inb_S1x1024_S1x1024_0_0)) (ld σ.a3 (Rect.unit (s := S1024x2432) ![0, 0] S1024x2432.size inb_S1024x2432_S1024x2432_0_0))) σ.a27) }

set_option maxHeartbeats 1000000 in
/-- Part 8 runs so. -/
theorem run_part8 (v10 : BitVec 32) (v282 : FVec F S192x512 .f32) : Runs (F := F) c (held c B σ) (k0_part8 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 v10 v282) ⟨p8_v312 (F := F) i σ v10 v282, p8_v313 (F := F) i σ v10 v282, p8_v323 (F := F) i σ v10 v282⟩ (held c B (p8_st i σ v10 v282)) := by
  rw [k0_part8_eq_skeleton]
  unfold k0_part8_skel
  refine Runs.bind (st23 c B _ _ _ _ _) ?_
  refine Runs.bind (ld1 c B _ _ _) ?_
  refine Runs.bind (ld2 c B _ _ _) ?_
  refine Runs.bind (ld3 c B _ _ _) ?_
  refine Runs.bind (ld27 c B _ _ _) ?_
  refine Runs.bind (st27 c B _ _ _ _ _) ?_
  refine Runs.bind (ld27 c B _ _ _) ?_
  exact Runs.pure _ _

/-- The value `v359` of part 9. -/
def p9_v359 (i : grid0.Coords) (σ : St F) (v312 : IVec S192x1 32) (v313 : Vec F S208x128 .f32) (v323 : FVec F S192x128 .f32) : FVec F S192x128 .f32 := (k0_pay61 v312 (ld σ.a27 (Rect.unit (s := S208x2432) ![0, 128] S208x128.size inb_S208x2432_S208x128_0_128)) (ld σ.a5 (Rect.unit (s := S4x128x128) ![1, 0, 0] S1x128x128.size inb_S4x128x128_S1x128x128_1_0_0)) (ld σ.a6 (Rect.unit (s := S1x512) ![0, 128] S1x128.size inb_S1x512_S1x128_0_128)))

/-- The contents after part 9. -/
def p9_st (i : grid0.Coords) (σ : St F) (v312 : IVec S192x1 32) (v313 : Vec F S208x128 .f32) (v323 : FVec F S192x128 .f32) : St F := { σ with a15 := (put (Rect.unit (s := S1x192x512) ![0, 0, 0] S1x192x128.size inb_S1x192x512_S1x192x128_0_0_0).emb (k0_pay60 v313 v323 (ld σ.a5 (Rect.unit (s := S4x128x128) ![0, 0, 0] S1x128x128.size inb_S4x128x128_S1x128x128_0_0_0)) (ld σ.a6 (Rect.unit (s := S1x512) ![0, 0] S1x128.size inb_S1x512_S1x128_0_0))) σ.a15) }

set_option maxHeartbeats 1000000 in
/-- Part 9 runs so. -/
theorem run_part9 (v312 : IVec S192x1 32) (v313 : Vec F S208x128 .f32) (v323 : FVec F S192x128 .f32) : Runs (F := F) c (held c B σ) (k0_part9 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 v312 v313 v323) (p9_v359 (F := F) i σ v312 v313 v323) (held c B (p9_st i σ v312 v313 v323)) := by
  rw [k0_part9_eq_skeleton]
  unfold k0_part9_skel
  refine Runs.bind (ld5 c B _ _ _) ?_
  refine Runs.bind (ld6 c B _ _ _) ?_
  refine Runs.bind (ld15 c B _ _ _) ?_
  refine Runs.bind (st15 c B _ _ _ _ _) ?_
  refine Runs.bind (ld27 c B _ _ _) ?_
  refine Runs.bind (ld5 c B _ _ _) ?_
  refine Runs.bind (ld6 c B _ _ _) ?_
  exact Runs.pure _ _

/-- The value `v391` of part 10. -/
def p10_v391 (i : grid0.Coords) (σ : St F) (v312 : IVec S192x1 32) (v359 : FVec F S192x128 .f32) : Vec F S208x128 .f32 := (ld σ.a27 (Rect.unit (s := S208x2432) ![0, 384] S208x128.size inb_S208x2432_S208x128_0_384))

/-- The value `v395` of part 10. -/
def p10_v395 (i : grid0.Coords) (σ : St F) (v312 : IVec S192x1 32) (v359 : FVec F S192x128 .f32) : FVec F S208x128 .f32 := k0_pay64 (ld σ.a27 (Rect.unit (s := S208x2432) ![0, 384] S208x128.size inb_S208x2432_S208x128_0_384))

/-- The value `c4_i32_165` of part 10. -/
def p10_c4_i32_165 (i : grid0.Coords) (σ : St F) (v312 : IVec S192x1 32) (v359 : FVec F S192x128 .f32) : BitVec 32 := 4#32

/-- The contents after part 10. -/
def p10_st (i : grid0.Coords) (σ : St F) (v312 : IVec S192x1 32) (v359 : FVec F S192x128 .f32) : St F := { σ with a15 := (put (Rect.unit (s := S1x192x512) ![0, 0, 256] S1x192x128.size inb_S1x192x512_S1x192x128_0_0_256).emb (k0_pay63 v312 (ld σ.a27 (Rect.unit (s := S208x2432) ![0, 256] S208x128.size inb_S208x2432_S208x128_0_256)) (ld σ.a5 (Rect.unit (s := S4x128x128) ![2, 0, 0] S1x128x128.size inb_S4x128x128_S1x128x128_2_0_0)) (ld σ.a6 (Rect.unit (s := S1x512) ![0, 256] S1x128.size inb_S1x512_S1x128_0_256))) (put (Rect.unit (s := S1x192x512) ![0, 0, 128] S1x192x128.size inb_S1x192x512_S1x192x128_0_0_128).emb (k0_pay62 v359) σ.a15)) }

set_option maxHeartbeats 1000000 in
/-- Part 10 runs so. -/
theorem run_part10 (v312 : IVec S192x1 32) (v359 : FVec F S192x128 .f32) : Runs (F := F) c (held c B σ) (k0_part10 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 v312 v359) ⟨p10_v391 (F := F) i σ v312 v359, p10_v395 (F := F) i σ v312 v359, p10_c4_i32_165 (F := F) i σ v312 v359⟩ (held c B (p10_st i σ v312 v359)) := by
  rw [k0_part10_eq_skeleton]
  unfold k0_part10_skel
  refine Runs.bind (ld15 c B _ _ _) ?_
  refine Runs.bind (st15 c B _ _ _ _ _) ?_
  refine Runs.bind (ld27 c B _ _ _) ?_
  refine Runs.bind (ld5 c B _ _ _) ?_
  refine Runs.bind (ld6 c B _ _ _) ?_
  refine Runs.bind (ld15 c B _ _ _) ?_
  refine Runs.bind (st15 c B _ _ _ _ _) ?_
  refine Runs.bind (ld27 c B _ _ _) ?_
  exact Runs.pure _ _

/-- The value `v431` of part 11. -/
def p11_v431 (i : grid0.Coords) (σ : St F) (arg0 : BitVec 32) (v312 : IVec S192x1 32) (v391 : Vec F S208x128 .f32) (v395 : FVec F S208x128 .f32) (c4_i32_165 : BitVec 32) : Vec F S192x512 .f32 := (ld σ.a27 (Rect.unit (s := S208x2432) ![16, 512] S192x512.size inb_S208x2432_S192x512_16_512))

/-- The value `v432` of part 11. -/
def p11_v432 (i : grid0.Coords) (σ : St F) (arg0 : BitVec 32) (v312 : IVec S192x1 32) (v391 : Vec F S208x128 .f32) (v395 : FVec F S208x128 .f32) (c4_i32_165 : BitVec 32) : Vec F S192x512 .f32 := (ld σ.a27 (Rect.unit (s := S208x2432) ![15, 512] S192x512.size inb_S208x2432_S192x512_15_512))

/-- The contents after part 11. -/
def p11_st (i : grid0.Coords) (σ : St F) (arg0 : BitVec 32) (v312 : IVec S192x1 32) (v391 : Vec F S208x128 .f32) (v395 : FVec F S208x128 .f32) (c4_i32_165 : BitVec 32) : St F := { σ with a15 := (put (Rect.unit (s := S1x192x512) ![0, 0, 384] S1x192x128.size inb_S1x192x512_S1x192x128_0_0_384).emb (k0_pay65 v312 v391 v395 c4_i32_165 (ld σ.a5 (Rect.unit (s := S4x128x128) ![3, 0, 0] S1x128x128.size inb_S4x128x128_S1x128x128_3_0_0)) (ld σ.a6 (Rect.unit (s := S1x512) ![0, 384] S1x128.size inb_S1x512_S1x128_0_384))) σ.a15) }

set_option maxHeartbeats 1000000 in
/-- Part 11 runs so. -/
theorem run_part11 (arg0 : BitVec 32) (v312 : IVec S192x1 32) (v391 : Vec F S208x128 .f32) (v395 : FVec F S208x128 .f32) (c4_i32_165 : BitVec 32) : Runs (F := F) c (held c B σ) (k0_part11 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 arg0 v312 v391 v395 c4_i32_165) ⟨p11_v431 (F := F) i σ arg0 v312 v391 v395 c4_i32_165, p11_v432 (F := F) i σ arg0 v312 v391 v395 c4_i32_165⟩ (held c B (p11_st i σ arg0 v312 v391 v395 c4_i32_165)) := by
  rw [k0_part11_eq_skeleton]
  unfold k0_part11_skel
  refine Runs.bind (ld5 c B _ _ _) ?_
  refine Runs.bind (ld6 c B _ _ _) ?_
  refine Runs.bind (ld15 c B _ _ _) ?_
  refine Runs.bind (st15 c B _ _ _ _ _) ?_
  refine Runs.bind (ld27 c B _ _ _) ?_
  refine Runs.bind (ld27 c B _ _ _) ?_
  exact Runs.pure _ _

/-- The value `v464` of part 12. -/
def p12_v464 (i : grid0.Coords) (σ : St F) (v431 : Vec F S192x512 .f32) (v432 : Vec F S192x512 .f32) : FVec F S192x512 .f32 := (k0_pay68 (ld σ.a27 (Rect.unit (s := S208x2432) ![16, 1536] S192x512.size inb_S208x2432_S192x512_16_1536)) (ld σ.a27 (Rect.unit (s := S208x2432) ![15, 1536] S192x512.size inb_S208x2432_S192x512_15_1536)) (ld σ.a4 (Rect.unit (s := S1x2432) ![0, 1536] S1x512.size inb_S1x2432_S1x512_0_1536)))

/-- The contents after part 12. -/
def p12_st (i : grid0.Coords) (σ : St F) (v431 : Vec F S192x512 .f32) (v432 : Vec F S192x512 .f32) : St F := { σ with a28 := (put (slotEmb (k0_off2 i) (k0_off2_inb i) (Rect.unit (s := S5x192x512) ![1, 0, 0] S1x192x512.size inb_S5x192x512_S1x192x512_1_0_0)) (k0_pay67 (ld σ.a27 (Rect.unit (s := S208x2432) ![16, 1024] S192x512.size inb_S208x2432_S192x512_16_1024)) (ld σ.a27 (Rect.unit (s := S208x2432) ![15, 1024] S192x512.size inb_S208x2432_S192x512_15_1024)) (ld σ.a4 (Rect.unit (s := S1x2432) ![0, 1024] S1x512.size inb_S1x2432_S1x512_0_1024))) (put (slotEmb (k0_off2 i) (k0_off2_inb i) (Rect.unit (s := S5x192x512) ![0, 0, 0] S1x192x512.size inb_S5x192x512_S1x192x512_0_0_0)) (k0_pay66 v431 v432 (ld σ.a4 (Rect.unit (s := S1x2432) ![0, 512] S1x512.size inb_S1x2432_S1x512_0_512))) σ.a28)) }

set_option maxHeartbeats 1000000 in
/-- Part 12 runs so. -/
theorem run_part12 (v431 : Vec F S192x512 .f32) (v432 : Vec F S192x512 .f32) : Runs (F := F) c (held c B σ) (k0_part12 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 v431 v432) (p12_v464 (F := F) i σ v431 v432) (held c B (p12_st i σ v431 v432)) := by
  rw [k0_part12_eq_skeleton]
  unfold k0_part12_skel
  refine Runs.bind (ld4 c B _ _ _) ?_
  refine Runs.bind (ldS c B _ _ _ _ _) ?_
  refine Runs.bind (stS c B _ _ _ _ _ _ _) ?_
  refine Runs.bind (ld27 c B _ _ _) ?_
  refine Runs.bind (ld27 c B _ _ _) ?_
  refine Runs.bind (ld4 c B _ _ _) ?_
  refine Runs.bind (ldS c B _ _ _ _ _) ?_
  refine Runs.bind (stS c B _ _ _ _ _ _ _) ?_
  refine Runs.bind (ld27 c B _ _ _) ?_
  refine Runs.bind (ld27 c B _ _ _) ?_
  refine Runs.bind (ld4 c B _ _ _) ?_
  exact Runs.pure _ _

/-- The value `v472` of part 13. -/
def p13_v472 (i : grid0.Coords) (σ : St F) : FVec F S192x128 .f32 := k0_pay69 (ld σ.a27 (Rect.unit (s := S208x2432) ![16, 2048] S192x128.size inb_S208x2432_S192x128_16_2048)) (ld σ.a27 (Rect.unit (s := S208x2432) ![15, 2048] S192x128.size inb_S208x2432_S192x128_15_2048)) (ld σ.a4 (Rect.unit (s := S1x2432) ![0, 2048] S1x128.size inb_S1x2432_S1x128_0_2048))

/-- The value `v480` of part 13. -/
def p13_v480 (i : grid0.Coords) (σ : St F) : FVec F S192x256 .f32 := k0_pay70 (ld σ.a27 (Rect.unit (s := S208x2432) ![16, 2176] S192x256.size inb_S208x2432_S192x256_16_2176)) (ld σ.a27 (Rect.unit (s := S208x2432) ![15, 2176] S192x256.size inb_S208x2432_S192x256_15_2176)) (ld σ.a4 (Rect.unit (s := S1x2432) ![0, 2176] S1x256.size inb_S1x2432_S1x256_0_2176))

/-- The value `v500` of part 13. -/
def p13_v500 (i : grid0.Coords) (σ : St F) : FVec F S192x512 .f32 := k0_pay71 (ld σ.a27 (Rect.unit (s := S208x2432) ![16, 2048] S192x128.size inb_S208x2432_S192x128_16_2048)) (ld σ.a27 (Rect.unit (s := S208x2432) ![15, 2048] S192x128.size inb_S208x2432_S192x128_15_2048)) (ld σ.a4 (Rect.unit (s := S1x2432) ![0, 2048] S1x128.size inb_S1x2432_S1x128_0_2048)) (ld σ.a7 (Rect.unit (s := S1x512) ![0, 0] S1x512.size inb_S1x512_S1x512_0_0)) (ld σ.a8 (Rect.unit (s := S128x512) ![0, 0] S128x512.size inb_S128x512_S128x512_0_0))

/-- The contents after part 13. -/
def p13_st (i : grid0.Coords) (σ : St F) : St F := σ

set_option maxHeartbeats 1000000 in
/-- Part 13 runs so. -/
theorem run_part13 : Runs (F := F) c (held c B σ) (k0_part13 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 ) ⟨p13_v472 (F := F) i σ, p13_v480 (F := F) i σ, p13_v500 (F := F) i σ⟩ (held c B (p13_st i σ )) := by
  rw [k0_part13_eq_skeleton]
  unfold k0_part13_skel
  refine Runs.bind (ld27 c B _ _ _) ?_
  refine Runs.bind (ld27 c B _ _ _) ?_
  refine Runs.bind (ld4 c B _ _ _) ?_
  refine Runs.bind (ld27 c B _ _ _) ?_
  refine Runs.bind (ld27 c B _ _ _) ?_
  refine Runs.bind (ld4 c B _ _ _) ?_
  refine Runs.bind (ld7 c B _ _ _) ?_
  refine Runs.bind (ld8 c B _ _ _) ?_
  exact Runs.pure _ _

/-- The value `v533` of part 14. -/
def p14_v533 (i : grid0.Coords) (σ : St F) (v472 : FVec F S192x128 .f32) (v480 : FVec F S192x256 .f32) (v500 : FVec F S192x512 .f32) : FVec F S192x256 .bf16 := k0_pay74 v480

/-- The value `v535` of part 14. -/
def p14_v535 (i : grid0.Coords) (σ : St F) (v472 : FVec F S192x128 .f32) (v480 : FVec F S192x256 .f32) (v500 : FVec F S192x512 .f32) : FVec F S256x512 .bf16 := k0_pay75 (ld σ.a11 (Rect.unit (s := S256x512) ![0, 0] S256x512.size inb_S256x512_S256x512_0_0))

/-- The contents after part 14. -/
def p14_st (i : grid0.Coords) (σ : St F) (v472 : FVec F S192x128 .f32) (v480 : FVec F S192x256 .f32) (v500 : FVec F S192x512 .f32) : St F := { σ with a28 := (put (slotEmb (k0_off2 i) (k0_off2_inb i) (Rect.unit (s := S5x192x512) ![4, 0, 0] S1x192x512.size inb_S5x192x512_S1x192x512_4_0_0)) (k0_pay73 v472 (ld σ.a9 (Rect.unit (s := S1x512) ![0, 0] S1x512.size inb_S1x512_S1x512_0_0)) (ld σ.a10 (Rect.unit (s := S128x512) ![0, 0] S128x512.size inb_S128x512_S128x512_0_0))) (put (slotEmb (k0_off2 i) (k0_off2_inb i) (Rect.unit (s := S5x192x512) ![3, 0, 0] S1x192x512.size inb_S5x192x512_S1x192x512_3_0_0)) (k0_pay72 v500) σ.a28)) }

set_option maxHeartbeats 1000000 in
/-- Part 14 runs so. -/
theorem run_part14 (v472 : FVec F S192x128 .f32) (v480 : FVec F S192x256 .f32) (v500 : FVec F S192x512 .f32) : Runs (F := F) c (held c B σ) (k0_part14 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 v472 v480 v500) ⟨p14_v533 (F := F) i σ v472 v480 v500, p14_v535 (F := F) i σ v472 v480 v500⟩ (held c B (p14_st i σ v472 v480 v500)) := by
  rw [k0_part14_eq_skeleton]
  unfold k0_part14_skel
  refine Runs.bind (ldS c B _ _ _ _ _) ?_
  refine Runs.bind (stS c B _ _ _ _ _ _ _) ?_
  refine Runs.bind (ld9 c B _ _ _) ?_
  refine Runs.bind (ld10 c B _ _ _) ?_
  refine Runs.bind (ldS c B _ _ _ _ _) ?_
  refine Runs.bind (stS c B _ _ _ _ _ _ _) ?_
  refine Runs.bind (ld11 c B _ _ _) ?_
  exact Runs.pure _ _

end Cert.Mix
-- ==== Proof.MixStep.lean ====
/-
  The whole body of the mixers' input call as one step on the contents of its buffers.
-/
module

public import proofs.«01_k».proof.Proof.MixParts

@[expose] public section

noncomputable section

namespace Cert.Mix

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]

variable (c : Dev nD) (B : Bufs) (i : grid0.Coords) (σ : St F)

/-- The contents before the first part. -/
def S0 (_ : grid0.Coords) (σ : St F) : St F := σ

/-- The value `arg0` of the body. -/
def x_arg0 (i : grid0.Coords) (σ : St F) : BitVec 32 := p1_arg0 (F := F) i (S0 i σ)

/-- The value `v10` of the body. -/
def x_v10 (i : grid0.Coords) (σ : St F) : BitVec 32 := p1_v10 (F := F) i (S0 i σ)

/-- The value `v31` of the body. -/
def x_v31 (i : grid0.Coords) (σ : St F) : FVec F S192x512 .f32 := p1_v31 (F := F) i (S0 i σ)

/-- The contents after part 1. -/
def S1 (i : grid0.Coords) (σ : St F) : St F := p1_st i (S0 i σ)

/-- The value `v35` of the body. -/
def x_v35 (i : grid0.Coords) (σ : St F) : FVec F S192x512 .f32 := p2_v35 (F := F) i (S1 i σ)

/-- The value `v39` of the body. -/
def x_v39 (i : grid0.Coords) (σ : St F) : FVec F S192x512 .f32 := p2_v39 (F := F) i (S1 i σ)

/-- The value `v43` of the body. -/
def x_v43 (i : grid0.Coords) (σ : St F) : FVec F S192x512 .f32 := p2_v43 (F := F) i (S1 i σ)

/-- The value `v47` of the body. -/
def x_v47 (i : grid0.Coords) (σ : St F) : FVec F S192x512 .f32 := p2_v47 (F := F) i (S1 i σ)

/-- The value `v53` of the body. -/
def x_v53 (i : grid0.Coords) (σ : St F) : FVec F S64x64 .bf16 := p2_v53 (F := F) i (S1 i σ)

/-- The value `v54` of the body. -/
def x_v54 (i : grid0.Coords) (σ : St F) : FVec F S192x512 .bf16 := p2_v54 (F := F) i (S1 i σ)

/-- The value `v57` of the body. -/
def x_v57 (i : grid0.Coords) (σ : St F) : FVec F S192x512 .bf16 := p2_v57 (F := F) i (S1 i σ)

/-- The value `v62` of the body. -/
def x_v62 (i : grid0.Coords) (σ : St F) : FVec F S64x512 .f32 := p2_v62 (F := F) i (S1 i σ)

/-- The value `v64` of the body. -/
def x_v64 (i : grid0.Coords) (σ : St F) : FVec F S1x512 .f32 := p2_v64 (F := F) i (S1 i σ)

/-- The value `v66` of the body. -/
def x_v66 (i : grid0.Coords) (σ : St F) : FVec F S8x512 .f32 := p2_v66 (F := F) i (S1 i σ)

/-- The contents after part 2. -/
def S2 (i : grid0.Coords) (σ : St F) : St F := p2_st i (S1 i σ)

/-- The value `v100` of the body. -/
def x_v100 (i : grid0.Coords) (σ : St F) : FVec F S192x512 .f32 := p3_v100 (F := F) i (S2 i σ) (x_v53 i σ) (x_v54 i σ) (x_v57 i σ) (x_v62 i σ) (x_v64 i σ) (x_v66 i σ)

/-- The value `v101` of the body. -/
def x_v101 (i : grid0.Coords) (σ : St F) : FVec F S192x512 .f32 := p3_v101 (F := F) i (S2 i σ) (x_v53 i σ) (x_v54 i σ) (x_v57 i σ) (x_v62 i σ) (x_v64 i σ) (x_v66 i σ)

/-- The value `v104` of the body. -/
def x_v104 (i : grid0.Coords) (σ : St F) : IVec S192x128 1 := p3_v104 (F := F) i (S2 i σ) (x_v53 i σ) (x_v54 i σ) (x_v57 i σ) (x_v62 i σ) (x_v64 i σ) (x_v66 i σ)

/-- The value `v107` of the body. -/
def x_v107 (i : grid0.Coords) (σ : St F) : FVec F S192x512 .f32 := p3_v107 (F := F) i (S2 i σ) (x_v53 i σ) (x_v54 i σ) (x_v57 i σ) (x_v62 i σ) (x_v64 i σ) (x_v66 i σ)

/-- The contents after part 3. -/
def S3 (i : grid0.Coords) (σ : St F) : St F := p3_st i (S2 i σ) (x_v53 i σ) (x_v54 i σ) (x_v57 i σ) (x_v62 i σ) (x_v64 i σ) (x_v66 i σ)

/-- The value `v108` of the body. -/
def x_v108 (i : grid0.Coords) (σ : St F) : FVec F S192x512 .f32 := p4_v108 (F := F) i (S3 i σ) (x_v35 i σ) (x_v107 i σ)

/-- The value `v130` of the body. -/
def x_v130 (i : grid0.Coords) (σ : St F) : FVec F S192x1 .f32 := p4_v130 (F := F) i (S3 i σ) (x_v35 i σ) (x_v107 i σ)

/-- The value `v133` of the body. -/
def x_v133 (i : grid0.Coords) (σ : St F) : FVec F S192x1 .f32 := p4_v133 (F := F) i (S3 i σ) (x_v35 i σ) (x_v107 i σ)

/-- The value `v136` of the body. -/
def x_v136 (i : grid0.Coords) (σ : St F) : FVec F S192x1 .f32 := p4_v136 (F := F) i (S3 i σ) (x_v35 i σ) (x_v107 i σ)

/-- The value `v139` of the body. -/
def x_v139 (i : grid0.Coords) (σ : St F) : FVec F S192x1 .f32 := p4_v139 (F := F) i (S3 i σ) (x_v35 i σ) (x_v107 i σ)

/-- The value `v142` of the body. -/
def x_v142 (i : grid0.Coords) (σ : St F) : FVec F S192x1 .f32 := p4_v142 (F := F) i (S3 i σ) (x_v35 i σ) (x_v107 i σ)

/-- The value `v145` of the body. -/
def x_v145 (i : grid0.Coords) (σ : St F) : FVec F S192x1 .f32 := p4_v145 (F := F) i (S3 i σ) (x_v35 i σ) (x_v107 i σ)

/-- The value `v148` of the body. -/
def x_v148 (i : grid0.Coords) (σ : St F) : FVec F S192x1 .f32 := p4_v148 (F := F) i (S3 i σ) (x_v35 i σ) (x_v107 i σ)

/-- The value `v151` of the body. -/
def x_v151 (i : grid0.Coords) (σ : St F) : FVec F S192x1 .f32 := p4_v151 (F := F) i (S3 i σ) (x_v35 i σ) (x_v107 i σ)

/-- The value `v152` of the body. -/
def x_v152 (i : grid0.Coords) (σ : St F) : FVec F S192x1 .f32 := p4_v152 (F := F) i (S3 i σ) (x_v35 i σ) (x_v107 i σ)

/-- The contents after part 4. -/
def S4 (i : grid0.Coords) (σ : St F) : St F := p4_st i (S3 i σ) (x_v35 i σ) (x_v107 i σ)

/-- The value `v179` of the body. -/
def x_v179 (i : grid0.Coords) (σ : St F) : FVec F S192x512 .f32 := p5_v179 (F := F) i (S4 i σ) (x_v31 i σ) (x_v35 i σ) (x_v43 i σ) (x_v47 i σ) (x_v100 i σ) (x_v104 i σ) (x_v108 i σ) (x_v130 i σ) (x_v133 i σ) (x_v136 i σ) (x_v139 i σ) (x_v142 i σ) (x_v145 i σ) (x_v148 i σ) (x_v151 i σ) (x_v152 i σ)

/-- The value `v188` of the body. -/
def x_v188 (i : grid0.Coords) (σ : St F) : FVec F S192x512 .f32 := p5_v188 (F := F) i (S4 i σ) (x_v31 i σ) (x_v35 i σ) (x_v43 i σ) (x_v47 i σ) (x_v100 i σ) (x_v104 i σ) (x_v108 i σ) (x_v130 i σ) (x_v133 i σ) (x_v136 i σ) (x_v139 i σ) (x_v142 i σ) (x_v145 i σ) (x_v148 i σ) (x_v151 i σ) (x_v152 i σ)

/-- The value `v192` of the body. -/
def x_v192 (i : grid0.Coords) (σ : St F) : FVec F S192x512 .f32 := p5_v192 (F := F) i (S4 i σ) (x_v31 i σ) (x_v35 i σ) (x_v43 i σ) (x_v47 i σ) (x_v100 i σ) (x_v104 i σ) (x_v108 i σ) (x_v130 i σ) (x_v133 i σ) (x_v136 i σ) (x_v139 i σ) (x_v142 i σ) (x_v145 i σ) (x_v148 i σ) (x_v151 i σ) (x_v152 i σ)

/-- The value `v194` of the body. -/
def x_v194 (i : grid0.Coords) (σ : St F) : FVec F S192x512 .f32 := p5_v194 (F := F) i (S4 i σ) (x_v31 i σ) (x_v35 i σ) (x_v43 i σ) (x_v47 i σ) (x_v100 i σ) (x_v104 i σ) (x_v108 i σ) (x_v130 i σ) (x_v133 i σ) (x_v136 i σ) (x_v139 i σ) (x_v142 i σ) (x_v145 i σ) (x_v148 i σ) (x_v151 i σ) (x_v152 i σ)

/-- The value `v202` of the body. -/
def x_v202 (i : grid0.Coords) (σ : St F) : FVec F S192x512 .f32 := p5_v202 (F := F) i (S4 i σ) (x_v31 i σ) (x_v35 i σ) (x_v43 i σ) (x_v47 i σ) (x_v100 i σ) (x_v104 i σ) (x_v108 i σ) (x_v130 i σ) (x_v133 i σ) (x_v136 i σ) (x_v139 i σ) (x_v142 i σ) (x_v145 i σ) (x_v148 i σ) (x_v151 i σ) (x_v152 i σ)

/-- The contents after part 5. -/
def S5 (i : grid0.Coords) (σ : St F) : St F := p5_st i (S4 i σ) (x_v31 i σ) (x_v35 i σ) (x_v43 i σ) (x_v47 i σ) (x_v100 i σ) (x_v104 i σ) (x_v108 i σ) (x_v130 i σ) (x_v133 i σ) (x_v136 i σ) (x_v139 i σ) (x_v142 i σ) (x_v145 i σ) (x_v148 i σ) (x_v151 i σ) (x_v152 i σ)

/-- The value `v232` of the body. -/
def x_v232 (i : grid0.Coords) (σ : St F) : FVec F S192x512 .f32 := p6_v232 (F := F) i (S5 i σ) (x_v31 i σ) (x_v39 i σ) (x_v101 i σ) (x_v179 i σ) (x_v188 i σ) (x_v192 i σ) (x_v194 i σ) (x_v202 i σ)

/-- The value `v235` of the body. -/
def x_v235 (i : grid0.Coords) (σ : St F) : FVec F S192x512 .f32 := p6_v235 (F := F) i (S5 i σ) (x_v31 i σ) (x_v39 i σ) (x_v101 i σ) (x_v179 i σ) (x_v188 i σ) (x_v192 i σ) (x_v194 i σ) (x_v202 i σ)

/-- The contents after part 6. -/
def S6 (i : grid0.Coords) (σ : St F) : St F := p6_st i (S5 i σ) (x_v31 i σ) (x_v39 i σ) (x_v101 i σ) (x_v179 i σ) (x_v188 i σ) (x_v192 i σ) (x_v194 i σ) (x_v202 i σ)

/-- The value `v282` of the body. -/
def x_v282 (i : grid0.Coords) (σ : St F) : FVec F S192x512 .f32 := p7_v282 (F := F) i (S6 i σ) (x_v39 i σ) (x_v104 i σ) (x_v232 i σ) (x_v235 i σ)

/-- The contents after part 7. -/
def S7 (i : grid0.Coords) (σ : St F) : St F := p7_st i (S6 i σ) (x_v39 i σ) (x_v104 i σ) (x_v232 i σ) (x_v235 i σ)

/-- The value `v312` of the body. -/
def x_v312 (i : grid0.Coords) (σ : St F) : IVec S192x1 32 := p8_v312 (F := F) i (S7 i σ) (x_v10 i σ) (x_v282 i σ)

/-- The value `v313` of the body. -/
def x_v313 (i : grid0.Coords) (σ : St F) : Vec F S208x128 .f32 := p8_v313 (F := F) i (S7 i σ) (x_v10 i σ) (x_v282 i σ)

/-- The value `v323` of the body. -/
def x_v323 (i : grid0.Coords) (σ : St F) : FVec F S192x128 .f32 := p8_v323 (F := F) i (S7 i σ) (x_v10 i σ) (x_v282 i σ)

/-- The contents after part 8. -/
def S8 (i : grid0.Coords) (σ : St F) : St F := p8_st i (S7 i σ) (x_v10 i σ) (x_v282 i σ)

/-- The value `v359` of the body. -/
def x_v359 (i : grid0.Coords) (σ : St F) : FVec F S192x128 .f32 := p9_v359 (F := F) i (S8 i σ) (x_v312 i σ) (x_v313 i σ) (x_v323 i σ)

/-- The contents after part 9. -/
def S9 (i : grid0.Coords) (σ : St F) : St F := p9_st i (S8 i σ) (x_v312 i σ) (x_v313 i σ) (x_v323 i σ)

/-- The value `v391` of the body. -/
def x_v391 (i : grid0.Coords) (σ : St F) : Vec F S208x128 .f32 := p10_v391 (F := F) i (S9 i σ) (x_v312 i σ) (x_v359 i σ)

/-- The value `v395` of the body. -/
def x_v395 (i : grid0.Coords) (σ : St F) : FVec F S208x128 .f32 := p10_v395 (F := F) i (S9 i σ) (x_v312 i σ) (x_v359 i σ)

/-- The value `c4_i32_165` of the body. -/
def x_c4_i32_165 (i : grid0.Coords) (σ : St F) : BitVec 32 := p10_c4_i32_165 (F := F) i (S9 i σ) (x_v312 i σ) (x_v359 i σ)

/-- The contents after part 10. -/
def S10 (i : grid0.Coords) (σ : St F) : St F := p10_st i (S9 i σ) (x_v312 i σ) (x_v359 i σ)

/-- The value `v431` of the body. -/
def x_v431 (i : grid0.Coords) (σ : St F) : Vec F S192x512 .f32 := p11_v431 (F := F) i (S10 i σ) (x_arg0 i σ) (x_v312 i σ) (x_v391 i σ) (x_v395 i σ) (x_c4_i32_165 i σ)

/-- The value `v432` of the body. -/
def x_v432 (i : grid0.Coords) (σ : St F) : Vec F S192x512 .f32 := p11_v432 (F := F) i (S10 i σ) (x_arg0 i σ) (x_v312 i σ) (x_v391 i σ) (x_v395 i σ) (x_c4_i32_165 i σ)

/-- The contents after part 11. -/
def S11 (i : grid0.Coords) (σ : St F) : St F := p11_st i (S10 i σ) (x_arg0 i σ) (x_v312 i σ) (x_v391 i σ) (x_v395 i σ) (x_c4_i32_165 i σ)

/-- The value `v464` of the body. -/
def x_v464 (i : grid0.Coords) (σ : St F) : FVec F S192x512 .f32 := p12_v464 (F := F) i (S11 i σ) (x_v431 i σ) (x_v432 i σ)

/-- The contents after part 12. -/
def S12 (i : grid0.Coords) (σ : St F) : St F := p12_st i (S11 i σ) (x_v431 i σ) (x_v432 i σ)

/-- The value `v472` of the body. -/
def x_v472 (i : grid0.Coords) (σ : St F) : FVec F S192x128 .f32 := p13_v472 (F := F) i (S12 i σ)

/-- The value `v480` of the body. -/
def x_v480 (i : grid0.Coords) (σ : St F) : FVec F S192x256 .f32 := p13_v480 (F := F) i (S12 i σ)

/-- The value `v500` of the body. -/
def x_v500 (i : grid0.Coords) (σ : St F) : FVec F S192x512 .f32 := p13_v500 (F := F) i (S12 i σ)

/-- The contents after part 13. -/
def S13 (i : grid0.Coords) (σ : St F) : St F := p13_st i (S12 i σ)

/-- The value `v533` of the body. -/
def x_v533 (i : grid0.Coords) (σ : St F) : FVec F S192x256 .bf16 := p14_v533 (F := F) i (S13 i σ) (x_v472 i σ) (x_v480 i σ) (x_v500 i σ)

/-- The value `v535` of the body. -/
def x_v535 (i : grid0.Coords) (σ : St F) : FVec F S256x512 .bf16 := p14_v535 (F := F) i (S13 i σ) (x_v472 i σ) (x_v480 i σ) (x_v500 i σ)

/-- The contents after part 14. -/
def S14 (i : grid0.Coords) (σ : St F) : St F := p14_st i (S13 i σ) (x_v472 i σ) (x_v480 i σ) (x_v500 i σ)

/-- The contents after the next store. -/
def S15 (i : grid0.Coords) (σ : St F) : St F := { S14 i σ with a24 := put (Rect.unit (s := S1x192x512) ![0, 0, 0] S1x192x512.size inb_S1x192x512_S1x192x512_0_0_0).emb (k0_pay1 (x_v533 i σ) (x_v535 i σ)) (S14 i σ).a24 }

/-- The contents after the next store. -/
def S16 (i : grid0.Coords) (σ : St F) : St F := { S15 i σ with a26 := put (Rect.unit (s := S1x192x512) ![0, 0, 0] S1x192x512.size inb_S1x192x512_S1x192x512_0_0_0).emb (k0_pay2 (x_v464 i σ)) (S15 i σ).a26 }

/-- The contents after the next store. -/
def S17 (i : grid0.Coords) (σ : St F) : St F := { S16 i σ with a28 := put (slotEmb (k0_off2 i) (k0_off2_inb i) (Rect.unit (s := S5x192x512) ![2, 0, 0] S1x192x512.size inb_S5x192x512_S1x192x512_2_0_0)) (k0_pay3 (x_v464 i σ)) (S16 i σ).a28 }

/-- The contents after the next store. -/
def S18 (i : grid0.Coords) (σ : St F) : St F := { S17 i σ with a27 := put (Rect.unit (s := S208x2432) ![0, 0] S16x2432.size inb_S208x2432_S16x2432_0_0).emb (k0_pay4 (x_arg0 i σ) (ld (S17 i σ).a27 (Rect.unit (s := S208x2432) ![192, 0] S16x2432.size inb_S208x2432_S16x2432_192_0)) (ld (S17 i σ).a27 (Rect.unit (s := S208x2432) ![0, 0] S16x2432.size inb_S208x2432_S16x2432_0_0))) (S17 i σ).a27 }

/-- The contents after the body. -/
def step (i : grid0.Coords) (σ : St F) : St F := S18 i σ

/-- Part 1 runs so inside the body. -/
theorem run_x1 : Runs (F := F) c (held c B (S0 i σ)) (k0_part1 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 ) ⟨x_arg0 i σ, x_v10 i σ, x_v31 i σ⟩ (held c B (S1 i σ)) :=
  run_part1 c B i (S0 i σ)

/-- Part 2 runs so inside the body. -/
theorem run_x2 : Runs (F := F) c (held c B (S1 i σ)) (k0_part2 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 ) ⟨x_v35 i σ, x_v39 i σ, x_v43 i σ, x_v47 i σ, x_v53 i σ, x_v54 i σ, x_v57 i σ, x_v62 i σ, x_v64 i σ, x_v66 i σ⟩ (held c B (S2 i σ)) :=
  run_part2 c B i (S1 i σ)

/-- Part 3 runs so inside the body. -/
theorem run_x3 : Runs (F := F) c (held c B (S2 i σ)) (k0_part3 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 (x_v53 i σ) (x_v54 i σ) (x_v57 i σ) (x_v62 i σ) (x_v64 i σ) (x_v66 i σ)) ⟨x_v100 i σ, x_v101 i σ, x_v104 i σ, x_v107 i σ⟩ (held c B (S3 i σ)) :=
  run_part3 c B i (S2 i σ) (x_v53 i σ) (x_v54 i σ) (x_v57 i σ) (x_v62 i σ) (x_v64 i σ) (x_v66 i σ)

/-- Part 4 runs so inside the body. -/
theorem run_x4 : Runs (F := F) c (held c B (S3 i σ)) (k0_part4 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 (x_v35 i σ) (x_v107 i σ)) ⟨x_v108 i σ, x_v130 i σ, x_v133 i σ, x_v136 i σ, x_v139 i σ, x_v142 i σ, x_v145 i σ, x_v148 i σ, x_v151 i σ, x_v152 i σ⟩ (held c B (S4 i σ)) :=
  run_part4 c B i (S3 i σ) (x_v35 i σ) (x_v107 i σ)

/-- Part 5 runs so inside the body. -/
theorem run_x5 : Runs (F := F) c (held c B (S4 i σ)) (k0_part5 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 (x_v31 i σ) (x_v35 i σ) (x_v43 i σ) (x_v47 i σ) (x_v100 i σ) (x_v104 i σ) (x_v108 i σ) (x_v130 i σ) (x_v133 i σ) (x_v136 i σ) (x_v139 i σ) (x_v142 i σ) (x_v145 i σ) (x_v148 i σ) (x_v151 i σ) (x_v152 i σ)) ⟨x_v179 i σ, x_v188 i σ, x_v192 i σ, x_v194 i σ, x_v202 i σ⟩ (held c B (S5 i σ)) :=
  run_part5 c B i (S4 i σ) (x_v31 i σ) (x_v35 i σ) (x_v43 i σ) (x_v47 i σ) (x_v100 i σ) (x_v104 i σ) (x_v108 i σ) (x_v130 i σ) (x_v133 i σ) (x_v136 i σ) (x_v139 i σ) (x_v142 i σ) (x_v145 i σ) (x_v148 i σ) (x_v151 i σ) (x_v152 i σ)

/-- Part 6 runs so inside the body. -/
theorem run_x6 : Runs (F := F) c (held c B (S5 i σ)) (k0_part6 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 (x_v31 i σ) (x_v39 i σ) (x_v101 i σ) (x_v179 i σ) (x_v188 i σ) (x_v192 i σ) (x_v194 i σ) (x_v202 i σ)) ⟨x_v232 i σ, x_v235 i σ⟩ (held c B (S6 i σ)) :=
  run_part6 c B i (S5 i σ) (x_v31 i σ) (x_v39 i σ) (x_v101 i σ) (x_v179 i σ) (x_v188 i σ) (x_v192 i σ) (x_v194 i σ) (x_v202 i σ)

/-- Part 7 runs so inside the body. -/
theorem run_x7 : Runs (F := F) c (held c B (S6 i σ)) (k0_part7 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 (x_v39 i σ) (x_v104 i σ) (x_v232 i σ) (x_v235 i σ)) (x_v282 i σ) (held c B (S7 i σ)) :=
  run_part7 c B i (S6 i σ) (x_v39 i σ) (x_v104 i σ) (x_v232 i σ) (x_v235 i σ)

/-- Part 8 runs so inside the body. -/
theorem run_x8 : Runs (F := F) c (held c B (S7 i σ)) (k0_part8 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 (x_v10 i σ) (x_v282 i σ)) ⟨x_v312 i σ, x_v313 i σ, x_v323 i σ⟩ (held c B (S8 i σ)) :=
  run_part8 c B i (S7 i σ) (x_v10 i σ) (x_v282 i σ)

/-- Part 9 runs so inside the body. -/
theorem run_x9 : Runs (F := F) c (held c B (S8 i σ)) (k0_part9 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 (x_v312 i σ) (x_v313 i σ) (x_v323 i σ)) (x_v359 i σ) (held c B (S9 i σ)) :=
  run_part9 c B i (S8 i σ) (x_v312 i σ) (x_v313 i σ) (x_v323 i σ)

/-- Part 10 runs so inside the body. -/
theorem run_x10 : Runs (F := F) c (held c B (S9 i σ)) (k0_part10 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 (x_v312 i σ) (x_v359 i σ)) ⟨x_v391 i σ, x_v395 i σ, x_c4_i32_165 i σ⟩ (held c B (S10 i σ)) :=
  run_part10 c B i (S9 i σ) (x_v312 i σ) (x_v359 i σ)

/-- Part 11 runs so inside the body. -/
theorem run_x11 : Runs (F := F) c (held c B (S10 i σ)) (k0_part11 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 (x_arg0 i σ) (x_v312 i σ) (x_v391 i σ) (x_v395 i σ) (x_c4_i32_165 i σ)) ⟨x_v431 i σ, x_v432 i σ⟩ (held c B (S11 i σ)) :=
  run_part11 c B i (S10 i σ) (x_arg0 i σ) (x_v312 i σ) (x_v391 i σ) (x_v395 i σ) (x_c4_i32_165 i σ)

/-- Part 12 runs so inside the body. -/
theorem run_x12 : Runs (F := F) c (held c B (S11 i σ)) (k0_part12 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 (x_v431 i σ) (x_v432 i σ)) (x_v464 i σ) (held c B (S12 i σ)) :=
  run_part12 c B i (S11 i σ) (x_v431 i σ) (x_v432 i σ)

/-- Part 13 runs so inside the body. -/
theorem run_x13 : Runs (F := F) c (held c B (S12 i σ)) (k0_part13 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 ) ⟨x_v472 i σ, x_v480 i σ, x_v500 i σ⟩ (held c B (S13 i σ)) :=
  run_part13 c B i (S12 i σ)

/-- Part 14 runs so inside the body. -/
theorem run_x14 : Runs (F := F) c (held c B (S13 i σ)) (k0_part14 (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28 (x_v472 i σ) (x_v480 i σ) (x_v500 i σ)) ⟨x_v533 i σ, x_v535 i σ⟩ (held c B (S14 i σ)) :=
  run_part14 c B i (S13 i σ) (x_v472 i σ) (x_v480 i σ) (x_v500 i σ)

set_option maxHeartbeats 1000000 in
/-- The body runs so. -/
theorem run_body : Runs (F := F) c (held c B σ) (cc0_mix_in (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26 B.a27 B.h27 B.a28 B.h28) ⟨⟩ (held c B (step i σ)) := by
  rw [cc0_mix_in_eq_skeleton]
  unfold cc0_mix_in_skel
  refine Runs.bind (run_x1 c B i σ) ?_
  dsimp only
  refine Runs.bind (run_x2 c B i σ) ?_
  dsimp only
  refine Runs.bind (run_x3 c B i σ) ?_
  dsimp only
  refine Runs.bind (run_x4 c B i σ) ?_
  dsimp only
  refine Runs.bind (run_x5 c B i σ) ?_
  dsimp only
  refine Runs.bind (run_x6 c B i σ) ?_
  dsimp only
  refine Runs.bind (run_x7 c B i σ) ?_
  refine Runs.bind (run_x8 c B i σ) ?_
  dsimp only
  refine Runs.bind (run_x9 c B i σ) ?_
  refine Runs.bind (run_x10 c B i σ) ?_
  dsimp only
  refine Runs.bind (run_x11 c B i σ) ?_
  dsimp only
  refine Runs.bind (run_x12 c B i σ) ?_
  refine Runs.bind (run_x13 c B i σ) ?_
  dsimp only
  refine Runs.bind (run_x14 c B i σ) ?_
  dsimp only
  refine Runs.bind (ld24 c B (S14 i σ) _ _) ?_
  refine Runs.bind (Q := held c B (S15 i σ)) (st24 c B (S14 i σ) _ _ _ _) ?_
  refine Runs.bind (ld26 c B (S15 i σ) _ _) ?_
  refine Runs.bind (Q := held c B (S16 i σ)) (st26 c B (S15 i σ) _ _ _ _) ?_
  refine Runs.bind (ldS c B (S16 i σ) _ _ _ _) ?_
  refine Runs.bind (Q := held c B (S17 i σ)) (stS c B (S16 i σ) _ _ _ _ _ _) ?_
  refine Runs.bind (ld27 c B (S17 i σ) _ _) ?_
  refine Runs.bind (ld27 c B (S17 i σ) _ _) ?_
  refine Runs.bind (ld27 c B (S17 i σ) _ _) ?_
  refine Runs.bind (Q := held c B (S18 i σ)) (st27 c B (S17 i σ) _ _ _ _) ?_
  exact Runs.pure _ _

end Cert.Mix
-- ==== Proof.MixSem.lean ====
/-
  What one grid point of the mixers' input call computes and leaves, as formulas of the contents it starts from; and that
  it leaves the same contents whatever its outputs and the parts of its scratch it does not read held before.
-/
module

public import proofs.«01_k».proof.Proof.MixStep
public import Idealize.ShloMosaic.Lib.Pipeline.ValueKit

@[expose] public section

noncomputable section

namespace Cert.Mix

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]

/-- A store over a whole buffer leaves what it stored. -/
theorem put_whole {S : Shape} {V : Type} (off : Fin S.rank → ℕ) (h : off = fun _ => 0) (inb : ∀ a, off a + S.size a ≤ S.size a)
    (w X : S.Idx → V) : put (Rect.unit (s := S) off S.size inb).emb w X = w := by
  subst h
  funext y
  have e : (Rect.unit (s := S) (fun _ => 0) S.size inb).emb y = y := by
    funext a; apply Fin.ext; rw [ValueKit.rect_emb_unit_val]; exact Nat.zero_add _
  have h2 := (Rect.unit (s := S) (fun _ => 0) S.size inb).emb.injective.extend_apply w X y
  rw [e] at h2; exact h2

/-- A store read where it stored. -/
theorem put_hit {ι κ V : Type} (g : ι ↪ κ) (w : ι → V) (X : κ → V) (y : ι) : put g w X (g y) = w y :=
  g.injective.extend_apply w X y

/-- A store read elsewhere. -/
theorem put_miss {ι κ V : Type} (g : ι → κ) (w : ι → V) (X : κ → V) {j : κ} (h : ¬ ∃ y, g y = j) : put g w X j = X j :=
  Function.extend_apply' w X j h

/-- Two contents stored into at the same place agree where they agreed or were stored into. -/
theorem put_at {ι κ V : Type} (g : ι → κ) (w : ι → V) {X Y : κ → V} {j : κ} (h : (¬ ∃ y, g y = j) → X j = Y j) :
    put g w X j = put g w Y j := by
  rcases Classical.em (∃ y, g y = j) with hy | hy
  · unfold put Function.extend; rw [dif_pos hy, dif_pos hy]
  · rw [put_miss g w X hy, put_miss g w Y hy]; exact h hy

/-- An index within a box is a place of it. -/
theorem unit_hit {S : Shape} (off size : Fin S.rank → ℕ) (inb : ∀ a, off a + size a ≤ S.size a) (j : S.Idx)
    (h : ∀ a, off a ≤ (j a).val ∧ (j a).val < off a + size a) : ∃ y, (Rect.unit (s := S) off size inb).emb y = j := by
  refine ⟨fun a => ⟨(j a).val - off a, ?_⟩, ?_⟩
  · have := h a; show (j a).val - off a < size a; omega
  · funext a; apply Fin.ext; rw [ValueKit.rect_emb_unit_val]; have := h a
    show off a + ((j a).val - off a) = (j a).val; omega

/-- The bounds of an index of a box of three axes, one by one. -/
theorem box3 {a b c o0 o1 o2 s0 s1 s2 : ℕ} (j : (⟨3, ![a, b, c]⟩ : Shape).Idx)
    (h : (o0 ≤ (j 0).val ∧ (j 0).val < o0 + s0) ∧ (o1 ≤ (j 1).val ∧ (j 1).val < o1 + s1) ∧ (o2 ≤ (j 2).val ∧ (j 2).val < o2 + s2)) :
    ∀ x : Fin 3, (![o0, o1, o2] : Fin 3 → ℕ) x ≤ (j x).val ∧ (j x).val < (![o0, o1, o2] : Fin 3 → ℕ) x + (![s0, s1, s2] : Fin 3 → ℕ) x := by
  intro x
  match x with
  | ⟨0, _⟩ => exact h.1
  | ⟨1, _⟩ => exact h.2.1
  | ⟨2, _⟩ => exact h.2.2

/-- Contents are their buffers'. -/
theorem St.eq_of {x y : St F} (h1 : x.a1 = y.a1) (h2 : x.a2 = y.a2) (h3 : x.a3 = y.a3) (h4 : x.a4 = y.a4) (h5 : x.a5 = y.a5) (h6 : x.a6 = y.a6) (h7 : x.a7 = y.a7) (h8 : x.a8 = y.a8) (h9 : x.a9 = y.a9) (h10 : x.a10 = y.a10) (h11 : x.a11 = y.a11) (h12 : x.a12 = y.a12) (h13 : x.a13 = y.a13) (h14 : x.a14 = y.a14) (h15 : x.a15 = y.a15) (h16 : x.a16 = y.a16) (h17 : x.a17 = y.a17) (h18 : x.a18 = y.a18) (h19 : x.a19 = y.a19) (h20 : x.a20 = y.a20) (h21 : x.a21 = y.a21) (h22 : x.a22 = y.a22) (h23 : x.a23 = y.a23) (h24 : x.a24 = y.a24) (h25 : x.a25 = y.a25) (h26 : x.a26 = y.a26) (h27 : x.a27 = y.a27) (h28 : x.a28 = y.a28) : x = y := by
  cases x; cases y
  cases h1; cases h2; cases h3; cases h4; cases h5; cases h6; cases h7; cases h8; cases h9; cases h10; cases h11; cases h12; cases h13; cases h14; cases h15; cases h16; cases h17; cases h18; cases h19; cases h20; cases h21; cases h22; cases h23; cases h24; cases h25; cases h26; cases h27; cases h28
  rfl

/-- The columns scratch after the tile's columns are stored below the rows kept of the tile before. -/
def E1 (i : grid0.Coords) (σ : St F) : Vec F S208x2432 .f32 := (put (Rect.unit (s := S208x2432) ![16, 0] S192x2432.size inb_S208x2432_S192x2432_16_0).emb (k0_pay57 (ld σ.a1 (Rect.unit (s := S1x192x1024) ![0, 0, 0] S1x192x1024.size inb_S1x192x1024_S1x192x1024_0_0_0)) (ld σ.a2 (Rect.unit (s := S1x1024) ![0, 0] S1x1024.size inb_S1x1024_S1x1024_0_0)) (ld σ.a3 (Rect.unit (s := S1024x2432) ![0, 0] S1024x2432.size inb_S1024x2432_S1024x2432_0_0))) (z27 i σ))

variable (i : grid0.Coords) (σ : St F)

/-! What each part leaves in each buffer it does not store into: what it came with. -/

theorem S1_a1 : (S1 i σ).a1 = σ.a1 := by unfold S1 p1_st; exact rfl
theorem S2_a1 : (S2 i σ).a1 = σ.a1 := by unfold S2 p2_st; exact S1_a1 i σ
theorem S3_a1 : (S3 i σ).a1 = σ.a1 := by unfold S3 p3_st; exact S2_a1 i σ
theorem S4_a1 : (S4 i σ).a1 = σ.a1 := by unfold S4 p4_st; exact S3_a1 i σ
theorem S5_a1 : (S5 i σ).a1 = σ.a1 := by unfold S5 p5_st; exact S4_a1 i σ
theorem S6_a1 : (S6 i σ).a1 = σ.a1 := by unfold S6 p6_st; exact S5_a1 i σ
theorem S7_a1 : (S7 i σ).a1 = σ.a1 := by unfold S7 p7_st; exact S6_a1 i σ
theorem S8_a1 : (S8 i σ).a1 = σ.a1 := by unfold S8 p8_st; exact S7_a1 i σ
theorem S9_a1 : (S9 i σ).a1 = σ.a1 := by unfold S9 p9_st; exact S8_a1 i σ
theorem S10_a1 : (S10 i σ).a1 = σ.a1 := by unfold S10 p10_st; exact S9_a1 i σ
theorem S11_a1 : (S11 i σ).a1 = σ.a1 := by unfold S11 p11_st; exact S10_a1 i σ
theorem S12_a1 : (S12 i σ).a1 = σ.a1 := by unfold S12 p12_st; exact S11_a1 i σ
theorem S13_a1 : (S13 i σ).a1 = σ.a1 := by unfold S13 p13_st; exact S12_a1 i σ
theorem S14_a1 : (S14 i σ).a1 = σ.a1 := by unfold S14 p14_st; exact S13_a1 i σ
theorem S15_a1 : (S15 i σ).a1 = σ.a1 := by unfold S15; exact S14_a1 i σ
theorem S16_a1 : (S16 i σ).a1 = σ.a1 := by unfold S16; exact S15_a1 i σ
theorem S17_a1 : (S17 i σ).a1 = σ.a1 := by unfold S17; exact S16_a1 i σ
theorem S18_a1 : (S18 i σ).a1 = σ.a1 := by unfold S18; exact S17_a1 i σ
theorem S1_a2 : (S1 i σ).a2 = σ.a2 := by unfold S1 p1_st; exact rfl
theorem S2_a2 : (S2 i σ).a2 = σ.a2 := by unfold S2 p2_st; exact S1_a2 i σ
theorem S3_a2 : (S3 i σ).a2 = σ.a2 := by unfold S3 p3_st; exact S2_a2 i σ
theorem S4_a2 : (S4 i σ).a2 = σ.a2 := by unfold S4 p4_st; exact S3_a2 i σ
theorem S5_a2 : (S5 i σ).a2 = σ.a2 := by unfold S5 p5_st; exact S4_a2 i σ
theorem S6_a2 : (S6 i σ).a2 = σ.a2 := by unfold S6 p6_st; exact S5_a2 i σ
theorem S7_a2 : (S7 i σ).a2 = σ.a2 := by unfold S7 p7_st; exact S6_a2 i σ
theorem S8_a2 : (S8 i σ).a2 = σ.a2 := by unfold S8 p8_st; exact S7_a2 i σ
theorem S9_a2 : (S9 i σ).a2 = σ.a2 := by unfold S9 p9_st; exact S8_a2 i σ
theorem S10_a2 : (S10 i σ).a2 = σ.a2 := by unfold S10 p10_st; exact S9_a2 i σ
theorem S11_a2 : (S11 i σ).a2 = σ.a2 := by unfold S11 p11_st; exact S10_a2 i σ
theorem S12_a2 : (S12 i σ).a2 = σ.a2 := by unfold S12 p12_st; exact S11_a2 i σ
theorem S13_a2 : (S13 i σ).a2 = σ.a2 := by unfold S13 p13_st; exact S12_a2 i σ
theorem S14_a2 : (S14 i σ).a2 = σ.a2 := by unfold S14 p14_st; exact S13_a2 i σ
theorem S15_a2 : (S15 i σ).a2 = σ.a2 := by unfold S15; exact S14_a2 i σ
theorem S16_a2 : (S16 i σ).a2 = σ.a2 := by unfold S16; exact S15_a2 i σ
theorem S17_a2 : (S17 i σ).a2 = σ.a2 := by unfold S17; exact S16_a2 i σ
theorem S18_a2 : (S18 i σ).a2 = σ.a2 := by unfold S18; exact S17_a2 i σ
theorem S1_a3 : (S1 i σ).a3 = σ.a3 := by unfold S1 p1_st; exact rfl
theorem S2_a3 : (S2 i σ).a3 = σ.a3 := by unfold S2 p2_st; exact S1_a3 i σ
theorem S3_a3 : (S3 i σ).a3 = σ.a3 := by unfold S3 p3_st; exact S2_a3 i σ
theorem S4_a3 : (S4 i σ).a3 = σ.a3 := by unfold S4 p4_st; exact S3_a3 i σ
theorem S5_a3 : (S5 i σ).a3 = σ.a3 := by unfold S5 p5_st; exact S4_a3 i σ
theorem S6_a3 : (S6 i σ).a3 = σ.a3 := by unfold S6 p6_st; exact S5_a3 i σ
theorem S7_a3 : (S7 i σ).a3 = σ.a3 := by unfold S7 p7_st; exact S6_a3 i σ
theorem S8_a3 : (S8 i σ).a3 = σ.a3 := by unfold S8 p8_st; exact S7_a3 i σ
theorem S9_a3 : (S9 i σ).a3 = σ.a3 := by unfold S9 p9_st; exact S8_a3 i σ
theorem S10_a3 : (S10 i σ).a3 = σ.a3 := by unfold S10 p10_st; exact S9_a3 i σ
theorem S11_a3 : (S11 i σ).a3 = σ.a3 := by unfold S11 p11_st; exact S10_a3 i σ
theorem S12_a3 : (S12 i σ).a3 = σ.a3 := by unfold S12 p12_st; exact S11_a3 i σ
theorem S13_a3 : (S13 i σ).a3 = σ.a3 := by unfold S13 p13_st; exact S12_a3 i σ
theorem S14_a3 : (S14 i σ).a3 = σ.a3 := by unfold S14 p14_st; exact S13_a3 i σ
theorem S15_a3 : (S15 i σ).a3 = σ.a3 := by unfold S15; exact S14_a3 i σ
theorem S16_a3 : (S16 i σ).a3 = σ.a3 := by unfold S16; exact S15_a3 i σ
theorem S17_a3 : (S17 i σ).a3 = σ.a3 := by unfold S17; exact S16_a3 i σ
theorem S18_a3 : (S18 i σ).a3 = σ.a3 := by unfold S18; exact S17_a3 i σ
theorem S1_a4 : (S1 i σ).a4 = σ.a4 := by unfold S1 p1_st; exact rfl
theorem S2_a4 : (S2 i σ).a4 = σ.a4 := by unfold S2 p2_st; exact S1_a4 i σ
theorem S3_a4 : (S3 i σ).a4 = σ.a4 := by unfold S3 p3_st; exact S2_a4 i σ
theorem S4_a4 : (S4 i σ).a4 = σ.a4 := by unfold S4 p4_st; exact S3_a4 i σ
theorem S5_a4 : (S5 i σ).a4 = σ.a4 := by unfold S5 p5_st; exact S4_a4 i σ
theorem S6_a4 : (S6 i σ).a4 = σ.a4 := by unfold S6 p6_st; exact S5_a4 i σ
theorem S7_a4 : (S7 i σ).a4 = σ.a4 := by unfold S7 p7_st; exact S6_a4 i σ
theorem S8_a4 : (S8 i σ).a4 = σ.a4 := by unfold S8 p8_st; exact S7_a4 i σ
theorem S9_a4 : (S9 i σ).a4 = σ.a4 := by unfold S9 p9_st; exact S8_a4 i σ
theorem S10_a4 : (S10 i σ).a4 = σ.a4 := by unfold S10 p10_st; exact S9_a4 i σ
theorem S11_a4 : (S11 i σ).a4 = σ.a4 := by unfold S11 p11_st; exact S10_a4 i σ
theorem S12_a4 : (S12 i σ).a4 = σ.a4 := by unfold S12 p12_st; exact S11_a4 i σ
theorem S13_a4 : (S13 i σ).a4 = σ.a4 := by unfold S13 p13_st; exact S12_a4 i σ
theorem S14_a4 : (S14 i σ).a4 = σ.a4 := by unfold S14 p14_st; exact S13_a4 i σ
theorem S15_a4 : (S15 i σ).a4 = σ.a4 := by unfold S15; exact S14_a4 i σ
theorem S16_a4 : (S16 i σ).a4 = σ.a4 := by unfold S16; exact S15_a4 i σ
theorem S17_a4 : (S17 i σ).a4 = σ.a4 := by unfold S17; exact S16_a4 i σ
theorem S18_a4 : (S18 i σ).a4 = σ.a4 := by unfold S18; exact S17_a4 i σ
theorem S1_a5 : (S1 i σ).a5 = σ.a5 := by unfold S1 p1_st; exact rfl
theorem S2_a5 : (S2 i σ).a5 = σ.a5 := by unfold S2 p2_st; exact S1_a5 i σ
theorem S3_a5 : (S3 i σ).a5 = σ.a5 := by unfold S3 p3_st; exact S2_a5 i σ
theorem S4_a5 : (S4 i σ).a5 = σ.a5 := by unfold S4 p4_st; exact S3_a5 i σ
theorem S5_a5 : (S5 i σ).a5 = σ.a5 := by unfold S5 p5_st; exact S4_a5 i σ
theorem S6_a5 : (S6 i σ).a5 = σ.a5 := by unfold S6 p6_st; exact S5_a5 i σ
theorem S7_a5 : (S7 i σ).a5 = σ.a5 := by unfold S7 p7_st; exact S6_a5 i σ
theorem S8_a5 : (S8 i σ).a5 = σ.a5 := by unfold S8 p8_st; exact S7_a5 i σ
theorem S9_a5 : (S9 i σ).a5 = σ.a5 := by unfold S9 p9_st; exact S8_a5 i σ
theorem S10_a5 : (S10 i σ).a5 = σ.a5 := by unfold S10 p10_st; exact S9_a5 i σ
theorem S11_a5 : (S11 i σ).a5 = σ.a5 := by unfold S11 p11_st; exact S10_a5 i σ
theorem S12_a5 : (S12 i σ).a5 = σ.a5 := by unfold S12 p12_st; exact S11_a5 i σ
theorem S13_a5 : (S13 i σ).a5 = σ.a5 := by unfold S13 p13_st; exact S12_a5 i σ
theorem S14_a5 : (S14 i σ).a5 = σ.a5 := by unfold S14 p14_st; exact S13_a5 i σ
theorem S15_a5 : (S15 i σ).a5 = σ.a5 := by unfold S15; exact S14_a5 i σ
theorem S16_a5 : (S16 i σ).a5 = σ.a5 := by unfold S16; exact S15_a5 i σ
theorem S17_a5 : (S17 i σ).a5 = σ.a5 := by unfold S17; exact S16_a5 i σ
theorem S18_a5 : (S18 i σ).a5 = σ.a5 := by unfold S18; exact S17_a5 i σ
theorem S1_a6 : (S1 i σ).a6 = σ.a6 := by unfold S1 p1_st; exact rfl
theorem S2_a6 : (S2 i σ).a6 = σ.a6 := by unfold S2 p2_st; exact S1_a6 i σ
theorem S3_a6 : (S3 i σ).a6 = σ.a6 := by unfold S3 p3_st; exact S2_a6 i σ
theorem S4_a6 : (S4 i σ).a6 = σ.a6 := by unfold S4 p4_st; exact S3_a6 i σ
theorem S5_a6 : (S5 i σ).a6 = σ.a6 := by unfold S5 p5_st; exact S4_a6 i σ
theorem S6_a6 : (S6 i σ).a6 = σ.a6 := by unfold S6 p6_st; exact S5_a6 i σ
theorem S7_a6 : (S7 i σ).a6 = σ.a6 := by unfold S7 p7_st; exact S6_a6 i σ
theorem S8_a6 : (S8 i σ).a6 = σ.a6 := by unfold S8 p8_st; exact S7_a6 i σ
theorem S9_a6 : (S9 i σ).a6 = σ.a6 := by unfold S9 p9_st; exact S8_a6 i σ
theorem S10_a6 : (S10 i σ).a6 = σ.a6 := by unfold S10 p10_st; exact S9_a6 i σ
theorem S11_a6 : (S11 i σ).a6 = σ.a6 := by unfold S11 p11_st; exact S10_a6 i σ
theorem S12_a6 : (S12 i σ).a6 = σ.a6 := by unfold S12 p12_st; exact S11_a6 i σ
theorem S13_a6 : (S13 i σ).a6 = σ.a6 := by unfold S13 p13_st; exact S12_a6 i σ
theorem S14_a6 : (S14 i σ).a6 = σ.a6 := by unfold S14 p14_st; exact S13_a6 i σ
theorem S15_a6 : (S15 i σ).a6 = σ.a6 := by unfold S15; exact S14_a6 i σ
theorem S16_a6 : (S16 i σ).a6 = σ.a6 := by unfold S16; exact S15_a6 i σ
theorem S17_a6 : (S17 i σ).a6 = σ.a6 := by unfold S17; exact S16_a6 i σ
theorem S18_a6 : (S18 i σ).a6 = σ.a6 := by unfold S18; exact S17_a6 i σ
theorem S1_a7 : (S1 i σ).a7 = σ.a7 := by unfold S1 p1_st; exact rfl
theorem S2_a7 : (S2 i σ).a7 = σ.a7 := by unfold S2 p2_st; exact S1_a7 i σ
theorem S3_a7 : (S3 i σ).a7 = σ.a7 := by unfold S3 p3_st; exact S2_a7 i σ
theorem S4_a7 : (S4 i σ).a7 = σ.a7 := by unfold S4 p4_st; exact S3_a7 i σ
theorem S5_a7 : (S5 i σ).a7 = σ.a7 := by unfold S5 p5_st; exact S4_a7 i σ
theorem S6_a7 : (S6 i σ).a7 = σ.a7 := by unfold S6 p6_st; exact S5_a7 i σ
theorem S7_a7 : (S7 i σ).a7 = σ.a7 := by unfold S7 p7_st; exact S6_a7 i σ
theorem S8_a7 : (S8 i σ).a7 = σ.a7 := by unfold S8 p8_st; exact S7_a7 i σ
theorem S9_a7 : (S9 i σ).a7 = σ.a7 := by unfold S9 p9_st; exact S8_a7 i σ
theorem S10_a7 : (S10 i σ).a7 = σ.a7 := by unfold S10 p10_st; exact S9_a7 i σ
theorem S11_a7 : (S11 i σ).a7 = σ.a7 := by unfold S11 p11_st; exact S10_a7 i σ
theorem S12_a7 : (S12 i σ).a7 = σ.a7 := by unfold S12 p12_st; exact S11_a7 i σ
theorem S13_a7 : (S13 i σ).a7 = σ.a7 := by unfold S13 p13_st; exact S12_a7 i σ
theorem S14_a7 : (S14 i σ).a7 = σ.a7 := by unfold S14 p14_st; exact S13_a7 i σ
theorem S15_a7 : (S15 i σ).a7 = σ.a7 := by unfold S15; exact S14_a7 i σ
theorem S16_a7 : (S16 i σ).a7 = σ.a7 := by unfold S16; exact S15_a7 i σ
theorem S17_a7 : (S17 i σ).a7 = σ.a7 := by unfold S17; exact S16_a7 i σ
theorem S18_a7 : (S18 i σ).a7 = σ.a7 := by unfold S18; exact S17_a7 i σ
theorem S1_a8 : (S1 i σ).a8 = σ.a8 := by unfold S1 p1_st; exact rfl
theorem S2_a8 : (S2 i σ).a8 = σ.a8 := by unfold S2 p2_st; exact S1_a8 i σ
theorem S3_a8 : (S3 i σ).a8 = σ.a8 := by unfold S3 p3_st; exact S2_a8 i σ
theorem S4_a8 : (S4 i σ).a8 = σ.a8 := by unfold S4 p4_st; exact S3_a8 i σ
theorem S5_a8 : (S5 i σ).a8 = σ.a8 := by unfold S5 p5_st; exact S4_a8 i σ
theorem S6_a8 : (S6 i σ).a8 = σ.a8 := by unfold S6 p6_st; exact S5_a8 i σ
theorem S7_a8 : (S7 i σ).a8 = σ.a8 := by unfold S7 p7_st; exact S6_a8 i σ
theorem S8_a8 : (S8 i σ).a8 = σ.a8 := by unfold S8 p8_st; exact S7_a8 i σ
theorem S9_a8 : (S9 i σ).a8 = σ.a8 := by unfold S9 p9_st; exact S8_a8 i σ
theorem S10_a8 : (S10 i σ).a8 = σ.a8 := by unfold S10 p10_st; exact S9_a8 i σ
theorem S11_a8 : (S11 i σ).a8 = σ.a8 := by unfold S11 p11_st; exact S10_a8 i σ
theorem S12_a8 : (S12 i σ).a8 = σ.a8 := by unfold S12 p12_st; exact S11_a8 i σ
theorem S13_a8 : (S13 i σ).a8 = σ.a8 := by unfold S13 p13_st; exact S12_a8 i σ
theorem S14_a8 : (S14 i σ).a8 = σ.a8 := by unfold S14 p14_st; exact S13_a8 i σ
theorem S15_a8 : (S15 i σ).a8 = σ.a8 := by unfold S15; exact S14_a8 i σ
theorem S16_a8 : (S16 i σ).a8 = σ.a8 := by unfold S16; exact S15_a8 i σ
theorem S17_a8 : (S17 i σ).a8 = σ.a8 := by unfold S17; exact S16_a8 i σ
theorem S18_a8 : (S18 i σ).a8 = σ.a8 := by unfold S18; exact S17_a8 i σ
theorem S1_a9 : (S1 i σ).a9 = σ.a9 := by unfold S1 p1_st; exact rfl
theorem S2_a9 : (S2 i σ).a9 = σ.a9 := by unfold S2 p2_st; exact S1_a9 i σ
theorem S3_a9 : (S3 i σ).a9 = σ.a9 := by unfold S3 p3_st; exact S2_a9 i σ
theorem S4_a9 : (S4 i σ).a9 = σ.a9 := by unfold S4 p4_st; exact S3_a9 i σ
theorem S5_a9 : (S5 i σ).a9 = σ.a9 := by unfold S5 p5_st; exact S4_a9 i σ
theorem S6_a9 : (S6 i σ).a9 = σ.a9 := by unfold S6 p6_st; exact S5_a9 i σ
theorem S7_a9 : (S7 i σ).a9 = σ.a9 := by unfold S7 p7_st; exact S6_a9 i σ
theorem S8_a9 : (S8 i σ).a9 = σ.a9 := by unfold S8 p8_st; exact S7_a9 i σ
theorem S9_a9 : (S9 i σ).a9 = σ.a9 := by unfold S9 p9_st; exact S8_a9 i σ
theorem S10_a9 : (S10 i σ).a9 = σ.a9 := by unfold S10 p10_st; exact S9_a9 i σ
theorem S11_a9 : (S11 i σ).a9 = σ.a9 := by unfold S11 p11_st; exact S10_a9 i σ
theorem S12_a9 : (S12 i σ).a9 = σ.a9 := by unfold S12 p12_st; exact S11_a9 i σ
theorem S13_a9 : (S13 i σ).a9 = σ.a9 := by unfold S13 p13_st; exact S12_a9 i σ
theorem S14_a9 : (S14 i σ).a9 = σ.a9 := by unfold S14 p14_st; exact S13_a9 i σ
theorem S15_a9 : (S15 i σ).a9 = σ.a9 := by unfold S15; exact S14_a9 i σ
theorem S16_a9 : (S16 i σ).a9 = σ.a9 := by unfold S16; exact S15_a9 i σ
theorem S17_a9 : (S17 i σ).a9 = σ.a9 := by unfold S17; exact S16_a9 i σ
theorem S18_a9 : (S18 i σ).a9 = σ.a9 := by unfold S18; exact S17_a9 i σ
theorem S1_a10 : (S1 i σ).a10 = σ.a10 := by unfold S1 p1_st; exact rfl
theorem S2_a10 : (S2 i σ).a10 = σ.a10 := by unfold S2 p2_st; exact S1_a10 i σ
theorem S3_a10 : (S3 i σ).a10 = σ.a10 := by unfold S3 p3_st; exact S2_a10 i σ
theorem S4_a10 : (S4 i σ).a10 = σ.a10 := by unfold S4 p4_st; exact S3_a10 i σ
theorem S5_a10 : (S5 i σ).a10 = σ.a10 := by unfold S5 p5_st; exact S4_a10 i σ
theorem S6_a10 : (S6 i σ).a10 = σ.a10 := by unfold S6 p6_st; exact S5_a10 i σ
theorem S7_a10 : (S7 i σ).a10 = σ.a10 := by unfold S7 p7_st; exact S6_a10 i σ
theorem S8_a10 : (S8 i σ).a10 = σ.a10 := by unfold S8 p8_st; exact S7_a10 i σ
theorem S9_a10 : (S9 i σ).a10 = σ.a10 := by unfold S9 p9_st; exact S8_a10 i σ
theorem S10_a10 : (S10 i σ).a10 = σ.a10 := by unfold S10 p10_st; exact S9_a10 i σ
theorem S11_a10 : (S11 i σ).a10 = σ.a10 := by unfold S11 p11_st; exact S10_a10 i σ
theorem S12_a10 : (S12 i σ).a10 = σ.a10 := by unfold S12 p12_st; exact S11_a10 i σ
theorem S13_a10 : (S13 i σ).a10 = σ.a10 := by unfold S13 p13_st; exact S12_a10 i σ
theorem S14_a10 : (S14 i σ).a10 = σ.a10 := by unfold S14 p14_st; exact S13_a10 i σ
theorem S15_a10 : (S15 i σ).a10 = σ.a10 := by unfold S15; exact S14_a10 i σ
theorem S16_a10 : (S16 i σ).a10 = σ.a10 := by unfold S16; exact S15_a10 i σ
theorem S17_a10 : (S17 i σ).a10 = σ.a10 := by unfold S17; exact S16_a10 i σ
theorem S18_a10 : (S18 i σ).a10 = σ.a10 := by unfold S18; exact S17_a10 i σ
theorem S1_a11 : (S1 i σ).a11 = σ.a11 := by unfold S1 p1_st; exact rfl
theorem S2_a11 : (S2 i σ).a11 = σ.a11 := by unfold S2 p2_st; exact S1_a11 i σ
theorem S3_a11 : (S3 i σ).a11 = σ.a11 := by unfold S3 p3_st; exact S2_a11 i σ
theorem S4_a11 : (S4 i σ).a11 = σ.a11 := by unfold S4 p4_st; exact S3_a11 i σ
theorem S5_a11 : (S5 i σ).a11 = σ.a11 := by unfold S5 p5_st; exact S4_a11 i σ
theorem S6_a11 : (S6 i σ).a11 = σ.a11 := by unfold S6 p6_st; exact S5_a11 i σ
theorem S7_a11 : (S7 i σ).a11 = σ.a11 := by unfold S7 p7_st; exact S6_a11 i σ
theorem S8_a11 : (S8 i σ).a11 = σ.a11 := by unfold S8 p8_st; exact S7_a11 i σ
theorem S9_a11 : (S9 i σ).a11 = σ.a11 := by unfold S9 p9_st; exact S8_a11 i σ
theorem S10_a11 : (S10 i σ).a11 = σ.a11 := by unfold S10 p10_st; exact S9_a11 i σ
theorem S11_a11 : (S11 i σ).a11 = σ.a11 := by unfold S11 p11_st; exact S10_a11 i σ
theorem S12_a11 : (S12 i σ).a11 = σ.a11 := by unfold S12 p12_st; exact S11_a11 i σ
theorem S13_a11 : (S13 i σ).a11 = σ.a11 := by unfold S13 p13_st; exact S12_a11 i σ
theorem S14_a11 : (S14 i σ).a11 = σ.a11 := by unfold S14 p14_st; exact S13_a11 i σ
theorem S15_a11 : (S15 i σ).a11 = σ.a11 := by unfold S15; exact S14_a11 i σ
theorem S16_a11 : (S16 i σ).a11 = σ.a11 := by unfold S16; exact S15_a11 i σ
theorem S17_a11 : (S17 i σ).a11 = σ.a11 := by unfold S17; exact S16_a11 i σ
theorem S18_a11 : (S18 i σ).a11 = σ.a11 := by unfold S18; exact S17_a11 i σ
theorem S1_a12 : (S1 i σ).a12 = σ.a12 := by unfold S1 p1_st; exact rfl
theorem S2_a12 : (S2 i σ).a12 = σ.a12 := by unfold S2 p2_st; exact S1_a12 i σ
theorem S3_a12 : (S3 i σ).a12 = σ.a12 := by unfold S3 p3_st; exact S2_a12 i σ
theorem S4_a12 : (S4 i σ).a12 = σ.a12 := by unfold S4 p4_st; exact S3_a12 i σ
theorem S5_a12 : (S5 i σ).a12 = σ.a12 := by unfold S5 p5_st; exact S4_a12 i σ
theorem S6_a12 : (S6 i σ).a12 = σ.a12 := by unfold S6 p6_st; exact S5_a12 i σ
theorem S7_a12 : (S7 i σ).a12 = σ.a12 := by unfold S7 p7_st; exact S6_a12 i σ
theorem S8_a12 : (S8 i σ).a12 = σ.a12 := by unfold S8 p8_st; exact S7_a12 i σ
theorem S9_a12 : (S9 i σ).a12 = σ.a12 := by unfold S9 p9_st; exact S8_a12 i σ
theorem S10_a12 : (S10 i σ).a12 = σ.a12 := by unfold S10 p10_st; exact S9_a12 i σ
theorem S11_a12 : (S11 i σ).a12 = σ.a12 := by unfold S11 p11_st; exact S10_a12 i σ
theorem S12_a12 : (S12 i σ).a12 = σ.a12 := by unfold S12 p12_st; exact S11_a12 i σ
theorem S13_a12 : (S13 i σ).a12 = σ.a12 := by unfold S13 p13_st; exact S12_a12 i σ
theorem S14_a12 : (S14 i σ).a12 = σ.a12 := by unfold S14 p14_st; exact S13_a12 i σ
theorem S15_a12 : (S15 i σ).a12 = σ.a12 := by unfold S15; exact S14_a12 i σ
theorem S16_a12 : (S16 i σ).a12 = σ.a12 := by unfold S16; exact S15_a12 i σ
theorem S17_a12 : (S17 i σ).a12 = σ.a12 := by unfold S17; exact S16_a12 i σ
theorem S18_a12 : (S18 i σ).a12 = σ.a12 := by unfold S18; exact S17_a12 i σ
theorem S1_a13 : (S1 i σ).a13 = σ.a13 := by unfold S1 p1_st; exact rfl
theorem S2_a13 : (S2 i σ).a13 = σ.a13 := by unfold S2 p2_st; exact S1_a13 i σ
theorem S3_a13 : (S3 i σ).a13 = σ.a13 := by unfold S3 p3_st; exact S2_a13 i σ
theorem S4_a13 : (S4 i σ).a13 = σ.a13 := by unfold S4 p4_st; exact S3_a13 i σ
theorem S5_a13 : (S5 i σ).a13 = σ.a13 := by unfold S5 p5_st; exact S4_a13 i σ
theorem S6_a13 : (S6 i σ).a13 = σ.a13 := by unfold S6 p6_st; exact S5_a13 i σ
theorem S7_a13 : (S7 i σ).a13 = σ.a13 := by unfold S7 p7_st; exact S6_a13 i σ
theorem S8_a13 : (S8 i σ).a13 = σ.a13 := by unfold S8 p8_st; exact S7_a13 i σ
theorem S9_a13 : (S9 i σ).a13 = σ.a13 := by unfold S9 p9_st; exact S8_a13 i σ
theorem S10_a13 : (S10 i σ).a13 = σ.a13 := by unfold S10 p10_st; exact S9_a13 i σ
theorem S11_a13 : (S11 i σ).a13 = σ.a13 := by unfold S11 p11_st; exact S10_a13 i σ
theorem S12_a13 : (S12 i σ).a13 = σ.a13 := by unfold S12 p12_st; exact S11_a13 i σ
theorem S13_a13 : (S13 i σ).a13 = σ.a13 := by unfold S13 p13_st; exact S12_a13 i σ
theorem S14_a13 : (S14 i σ).a13 = σ.a13 := by unfold S14 p14_st; exact S13_a13 i σ
theorem S15_a13 : (S15 i σ).a13 = σ.a13 := by unfold S15; exact S14_a13 i σ
theorem S16_a13 : (S16 i σ).a13 = σ.a13 := by unfold S16; exact S15_a13 i σ
theorem S17_a13 : (S17 i σ).a13 = σ.a13 := by unfold S17; exact S16_a13 i σ
theorem S18_a13 : (S18 i σ).a13 = σ.a13 := by unfold S18; exact S17_a13 i σ
theorem S1_a14 : (S1 i σ).a14 = σ.a14 := by unfold S1 p1_st; exact rfl
theorem S2_a14 : (S2 i σ).a14 = σ.a14 := by unfold S2 p2_st; exact S1_a14 i σ
theorem S3_a14 : (S3 i σ).a14 = σ.a14 := by unfold S3 p3_st; exact S2_a14 i σ
theorem S4_a14 : (S4 i σ).a14 = σ.a14 := by unfold S4 p4_st; exact S3_a14 i σ
theorem S5_a14 : (S5 i σ).a14 = σ.a14 := by unfold S5 p5_st; exact S4_a14 i σ
theorem S6_a14 : (S6 i σ).a14 = σ.a14 := by unfold S6 p6_st; exact S5_a14 i σ
theorem S7_a14 : (S7 i σ).a14 = σ.a14 := by unfold S7 p7_st; exact S6_a14 i σ
theorem S8_a14 : (S8 i σ).a14 = σ.a14 := by unfold S8 p8_st; exact S7_a14 i σ
theorem S9_a14 : (S9 i σ).a14 = σ.a14 := by unfold S9 p9_st; exact S8_a14 i σ
theorem S10_a14 : (S10 i σ).a14 = σ.a14 := by unfold S10 p10_st; exact S9_a14 i σ
theorem S11_a14 : (S11 i σ).a14 = σ.a14 := by unfold S11 p11_st; exact S10_a14 i σ
theorem S12_a14 : (S12 i σ).a14 = σ.a14 := by unfold S12 p12_st; exact S11_a14 i σ
theorem S13_a14 : (S13 i σ).a14 = σ.a14 := by unfold S13 p13_st; exact S12_a14 i σ
theorem S14_a14 : (S14 i σ).a14 = σ.a14 := by unfold S14 p14_st; exact S13_a14 i σ
theorem S15_a14 : (S15 i σ).a14 = σ.a14 := by unfold S15; exact S14_a14 i σ
theorem S16_a14 : (S16 i σ).a14 = σ.a14 := by unfold S16; exact S15_a14 i σ
theorem S17_a14 : (S17 i σ).a14 = σ.a14 := by unfold S17; exact S16_a14 i σ
theorem S18_a14 : (S18 i σ).a14 = σ.a14 := by unfold S18; exact S17_a14 i σ
theorem S1_a15 : (S1 i σ).a15 = σ.a15 := by unfold S1 p1_st; exact rfl
theorem S1_a25 : (S1 i σ).a25 = σ.a25 := by unfold S1 p1_st; exact rfl
theorem S1_a27 : (S1 i σ).a27 = (z27 i σ) := by unfold S1 p1_st; rfl
theorem S1_a28 : (S1 i σ).a28 = (z28 i σ) := by unfold S1 p1_st; rfl
theorem S2_a15 : (S2 i σ).a15 = σ.a15 := by unfold S2 p2_st; exact S1_a15 i σ
theorem S2_a25 : (S2 i σ).a25 = σ.a25 := by unfold S2 p2_st; exact S1_a25 i σ
theorem S2_a27 : (S2 i σ).a27 = (z27 i σ) := by unfold S2 p2_st; exact S1_a27 i σ
theorem S2_a28 : (S2 i σ).a28 = (z28 i σ) := by unfold S2 p2_st; exact S1_a28 i σ
theorem S3_a15 : (S3 i σ).a15 = σ.a15 := by unfold S3 p3_st; exact S2_a15 i σ
theorem S3_a25 : (S3 i σ).a25 = (put (Rect.unit (s := S1x24x512) ![0, 16, 0] S1x8x512.size inb_S1x24x512_S1x8x512_0_16_0).emb (k0_pay24 (x_v53 i σ) (x_v54 i σ) (x_v57 i σ)) (put (Rect.unit (s := S1x24x512) ![0, 8, 0] S1x8x512.size inb_S1x24x512_S1x8x512_0_8_0).emb (k0_pay21 (x_v53 i σ) (x_v54 i σ) (x_v57 i σ)) (put (Rect.unit (s := S1x24x512) ![0, 0, 0] S1x8x512.size inb_S1x24x512_S1x8x512_0_0_0).emb (k0_pay18 (x_v66 i σ)) σ.a25))) := by unfold S3 p3_st; dsimp only; rw [S2_a25]
theorem S3_a27 : (S3 i σ).a27 = (z27 i σ) := by unfold S3 p3_st; exact S2_a27 i σ
theorem S3_a28 : (S3 i σ).a28 = (z28 i σ) := by unfold S3 p3_st; exact S2_a28 i σ
theorem S4_a15 : (S4 i σ).a15 = σ.a15 := by unfold S4 p4_st; exact S3_a15 i σ
theorem S4_a25 : (S4 i σ).a25 = (put (Rect.unit (s := S1x24x512) ![0, 16, 0] S1x8x512.size inb_S1x24x512_S1x8x512_0_16_0).emb (k0_pay24 (x_v53 i σ) (x_v54 i σ) (x_v57 i σ)) (put (Rect.unit (s := S1x24x512) ![0, 8, 0] S1x8x512.size inb_S1x24x512_S1x8x512_0_8_0).emb (k0_pay21 (x_v53 i σ) (x_v54 i σ) (x_v57 i σ)) (put (Rect.unit (s := S1x24x512) ![0, 0, 0] S1x8x512.size inb_S1x24x512_S1x8x512_0_0_0).emb (k0_pay18 (x_v66 i σ)) σ.a25))) := by unfold S4 p4_st; exact S3_a25 i σ
theorem S4_a27 : (S4 i σ).a27 = (z27 i σ) := by unfold S4 p4_st; exact S3_a27 i σ
theorem S4_a28 : (S4 i σ).a28 = (z28 i σ) := by unfold S4 p4_st; exact S3_a28 i σ
theorem S5_a15 : (S5 i σ).a15 = σ.a15 := by unfold S5 p5_st; exact S4_a15 i σ
theorem S5_a17 : (S5 i σ).a17 = (k0_pay45 (x_v31 i σ) (x_v100 i σ)) := by unfold S5 p5_st; exact put_whole _ (by decide) _ _ _
theorem S5_a25 : (S5 i σ).a25 = (put (Rect.unit (s := S1x24x512) ![0, 16, 0] S1x8x512.size inb_S1x24x512_S1x8x512_0_16_0).emb (k0_pay24 (x_v53 i σ) (x_v54 i σ) (x_v57 i σ)) (put (Rect.unit (s := S1x24x512) ![0, 8, 0] S1x8x512.size inb_S1x24x512_S1x8x512_0_8_0).emb (k0_pay21 (x_v53 i σ) (x_v54 i σ) (x_v57 i σ)) (put (Rect.unit (s := S1x24x512) ![0, 0, 0] S1x8x512.size inb_S1x24x512_S1x8x512_0_0_0).emb (k0_pay18 (x_v66 i σ)) σ.a25))) := by unfold S5 p5_st; exact S4_a25 i σ
theorem S5_a27 : (S5 i σ).a27 = (z27 i σ) := by unfold S5 p5_st; exact S4_a27 i σ
theorem S5_a28 : (S5 i σ).a28 = (z28 i σ) := by unfold S5 p5_st; exact S4_a28 i σ
theorem S6_a15 : (S6 i σ).a15 = σ.a15 := by unfold S6 p6_st; exact S5_a15 i σ
theorem S6_a16 : (S6 i σ).a16 = (k0_pay47 (x_v179 i σ) (x_v202 i σ)) := by unfold S6 p6_st; exact put_whole _ (by decide) _ _ _
theorem S6_a17 : (S6 i σ).a17 = (k0_pay45 (x_v31 i σ) (x_v100 i σ)) := by unfold S6 p6_st; exact S5_a17 i σ
theorem S6_a18 : (S6 i σ).a18 = (k0_pay49 (x_v194 i σ)) := by unfold S6 p6_st; exact put_whole _ (by decide) _ _ _
theorem S6_a19 : (S6 i σ).a19 = (k0_pay48 (x_v192 i σ)) := by unfold S6 p6_st; exact put_whole _ (by decide) _ _ _
theorem S6_a20 : (S6 i σ).a20 = (k0_pay51 (x_v101 i σ) (x_v194 i σ)) := by unfold S6 p6_st; exact put_whole _ (by decide) _ _ _
theorem S6_a21 : (S6 i σ).a21 = (k0_pay50 (x_v101 i σ) (x_v192 i σ)) := by unfold S6 p6_st; exact put_whole _ (by decide) _ _ _
theorem S6_a22 : (S6 i σ).a22 = (k0_pay52 (x_v39 i σ)) := by unfold S6 p6_st; exact put_whole _ (by decide) _ _ _
theorem S6_a25 : (S6 i σ).a25 = (put (Rect.unit (s := S1x24x512) ![0, 16, 0] S1x8x512.size inb_S1x24x512_S1x8x512_0_16_0).emb (k0_pay24 (x_v53 i σ) (x_v54 i σ) (x_v57 i σ)) (put (Rect.unit (s := S1x24x512) ![0, 8, 0] S1x8x512.size inb_S1x24x512_S1x8x512_0_8_0).emb (k0_pay21 (x_v53 i σ) (x_v54 i σ) (x_v57 i σ)) (put (Rect.unit (s := S1x24x512) ![0, 0, 0] S1x8x512.size inb_S1x24x512_S1x8x512_0_0_0).emb (k0_pay18 (x_v66 i σ)) σ.a25))) := by unfold S6 p6_st; exact S5_a25 i σ
theorem S6_a27 : (S6 i σ).a27 = (z27 i σ) := by unfold S6 p6_st; exact S5_a27 i σ
theorem S6_a28 : (S6 i σ).a28 = (z28 i σ) := by unfold S6 p6_st; exact S5_a28 i σ
theorem S7_a15 : (S7 i σ).a15 = σ.a15 := by unfold S7 p7_st; exact S6_a15 i σ
theorem S7_a16 : (S7 i σ).a16 = (k0_pay47 (x_v179 i σ) (x_v202 i σ)) := by unfold S7 p7_st; exact S6_a16 i σ
theorem S7_a17 : (S7 i σ).a17 = (k0_pay45 (x_v31 i σ) (x_v100 i σ)) := by unfold S7 p7_st; exact S6_a17 i σ
theorem S7_a18 : (S7 i σ).a18 = (k0_pay49 (x_v194 i σ)) := by unfold S7 p7_st; exact S6_a18 i σ
theorem S7_a19 : (S7 i σ).a19 = (k0_pay48 (x_v192 i σ)) := by unfold S7 p7_st; exact S6_a19 i σ
theorem S7_a20 : (S7 i σ).a20 = (k0_pay51 (x_v101 i σ) (x_v194 i σ)) := by unfold S7 p7_st; exact S6_a20 i σ
theorem S7_a21 : (S7 i σ).a21 = (k0_pay50 (x_v101 i σ) (x_v192 i σ)) := by unfold S7 p7_st; exact S6_a21 i σ
theorem S7_a22 : (S7 i σ).a22 = (k0_pay52 (x_v39 i σ)) := by unfold S7 p7_st; exact S6_a22 i σ
theorem S7_a25 : (S7 i σ).a25 = (put (Rect.unit (s := S1x24x512) ![0, 16, 0] S1x8x512.size inb_S1x24x512_S1x8x512_0_16_0).emb (k0_pay24 (x_v53 i σ) (x_v54 i σ) (x_v57 i σ)) (put (Rect.unit (s := S1x24x512) ![0, 8, 0] S1x8x512.size inb_S1x24x512_S1x8x512_0_8_0).emb (k0_pay21 (x_v53 i σ) (x_v54 i σ) (x_v57 i σ)) (put (Rect.unit (s := S1x24x512) ![0, 0, 0] S1x8x512.size inb_S1x24x512_S1x8x512_0_0_0).emb (k0_pay18 (x_v66 i σ)) σ.a25))) := by unfold S7 p7_st; exact S6_a25 i σ
theorem S7_a27 : (S7 i σ).a27 = (z27 i σ) := by unfold S7 p7_st; exact S6_a27 i σ
theorem S7_a28 : (S7 i σ).a28 = (z28 i σ) := by unfold S7 p7_st; exact S6_a28 i σ
theorem S8_a15 : (S8 i σ).a15 = σ.a15 := by unfold S8 p8_st; exact S7_a15 i σ
theorem S8_a16 : (S8 i σ).a16 = (k0_pay47 (x_v179 i σ) (x_v202 i σ)) := by unfold S8 p8_st; exact S7_a16 i σ
theorem S8_a17 : (S8 i σ).a17 = (k0_pay45 (x_v31 i σ) (x_v100 i σ)) := by unfold S8 p8_st; exact S7_a17 i σ
theorem S8_a18 : (S8 i σ).a18 = (k0_pay49 (x_v194 i σ)) := by unfold S8 p8_st; exact S7_a18 i σ
theorem S8_a19 : (S8 i σ).a19 = (k0_pay48 (x_v192 i σ)) := by unfold S8 p8_st; exact S7_a19 i σ
theorem S8_a20 : (S8 i σ).a20 = (k0_pay51 (x_v101 i σ) (x_v194 i σ)) := by unfold S8 p8_st; exact S7_a20 i σ
theorem S8_a21 : (S8 i σ).a21 = (k0_pay50 (x_v101 i σ) (x_v192 i σ)) := by unfold S8 p8_st; exact S7_a21 i σ
theorem S8_a22 : (S8 i σ).a22 = (k0_pay52 (x_v39 i σ)) := by unfold S8 p8_st; exact S7_a22 i σ
theorem S8_a23 : (S8 i σ).a23 = (k0_pay56 (x_v282 i σ)) := by unfold S8 p8_st; exact put_whole _ (by decide) _ _ _
theorem S8_a25 : (S8 i σ).a25 = (put (Rect.unit (s := S1x24x512) ![0, 16, 0] S1x8x512.size inb_S1x24x512_S1x8x512_0_16_0).emb (k0_pay24 (x_v53 i σ) (x_v54 i σ) (x_v57 i σ)) (put (Rect.unit (s := S1x24x512) ![0, 8, 0] S1x8x512.size inb_S1x24x512_S1x8x512_0_8_0).emb (k0_pay21 (x_v53 i σ) (x_v54 i σ) (x_v57 i σ)) (put (Rect.unit (s := S1x24x512) ![0, 0, 0] S1x8x512.size inb_S1x24x512_S1x8x512_0_0_0).emb (k0_pay18 (x_v66 i σ)) σ.a25))) := by unfold S8 p8_st; exact S7_a25 i σ
theorem S8_a27 : (S8 i σ).a27 = (E1 i σ) := by unfold S8 p8_st; dsimp only [E1]; rw [S7_a1, S7_a2, S7_a3, S7_a27]
theorem S8_a28 : (S8 i σ).a28 = (z28 i σ) := by unfold S8 p8_st; exact S7_a28 i σ
theorem S9_a15 : (S9 i σ).a15 = (put (Rect.unit (s := S1x192x512) ![0, 0, 0] S1x192x128.size inb_S1x192x512_S1x192x128_0_0_0).emb (k0_pay60 (x_v313 i σ) (x_v323 i σ) (ld σ.a5 (Rect.unit (s := S4x128x128) ![0, 0, 0] S1x128x128.size inb_S4x128x128_S1x128x128_0_0_0)) (ld σ.a6 (Rect.unit (s := S1x512) ![0, 0] S1x128.size inb_S1x512_S1x128_0_0))) σ.a15) := by unfold S9 p9_st; dsimp only; rw [S8_a5, S8_a6, S8_a15]
theorem S9_a16 : (S9 i σ).a16 = (k0_pay47 (x_v179 i σ) (x_v202 i σ)) := by unfold S9 p9_st; exact S8_a16 i σ
theorem S9_a17 : (S9 i σ).a17 = (k0_pay45 (x_v31 i σ) (x_v100 i σ)) := by unfold S9 p9_st; exact S8_a17 i σ
theorem S9_a18 : (S9 i σ).a18 = (k0_pay49 (x_v194 i σ)) := by unfold S9 p9_st; exact S8_a18 i σ
theorem S9_a19 : (S9 i σ).a19 = (k0_pay48 (x_v192 i σ)) := by unfold S9 p9_st; exact S8_a19 i σ
theorem S9_a20 : (S9 i σ).a20 = (k0_pay51 (x_v101 i σ) (x_v194 i σ)) := by unfold S9 p9_st; exact S8_a20 i σ
theorem S9_a21 : (S9 i σ).a21 = (k0_pay50 (x_v101 i σ) (x_v192 i σ)) := by unfold S9 p9_st; exact S8_a21 i σ
theorem S9_a22 : (S9 i σ).a22 = (k0_pay52 (x_v39 i σ)) := by unfold S9 p9_st; exact S8_a22 i σ
theorem S9_a23 : (S9 i σ).a23 = (k0_pay56 (x_v282 i σ)) := by unfold S9 p9_st; exact S8_a23 i σ
theorem S9_a25 : (S9 i σ).a25 = (put (Rect.unit (s := S1x24x512) ![0, 16, 0] S1x8x512.size inb_S1x24x512_S1x8x512_0_16_0).emb (k0_pay24 (x_v53 i σ) (x_v54 i σ) (x_v57 i σ)) (put (Rect.unit (s := S1x24x512) ![0, 8, 0] S1x8x512.size inb_S1x24x512_S1x8x512_0_8_0).emb (k0_pay21 (x_v53 i σ) (x_v54 i σ) (x_v57 i σ)) (put (Rect.unit (s := S1x24x512) ![0, 0, 0] S1x8x512.size inb_S1x24x512_S1x8x512_0_0_0).emb (k0_pay18 (x_v66 i σ)) σ.a25))) := by unfold S9 p9_st; exact S8_a25 i σ
theorem S9_a27 : (S9 i σ).a27 = (E1 i σ) := by unfold S9 p9_st; exact S8_a27 i σ
theorem S9_a28 : (S9 i σ).a28 = (z28 i σ) := by unfold S9 p9_st; exact S8_a28 i σ
theorem S10_a15 : (S10 i σ).a15 = (put (Rect.unit (s := S1x192x512) ![0, 0, 256] S1x192x128.size inb_S1x192x512_S1x192x128_0_0_256).emb (k0_pay63 (x_v312 i σ) (ld (E1 i σ) (Rect.unit (s := S208x2432) ![0, 256] S208x128.size inb_S208x2432_S208x128_0_256)) (ld σ.a5 (Rect.unit (s := S4x128x128) ![2, 0, 0] S1x128x128.size inb_S4x128x128_S1x128x128_2_0_0)) (ld σ.a6 (Rect.unit (s := S1x512) ![0, 256] S1x128.size inb_S1x512_S1x128_0_256))) (put (Rect.unit (s := S1x192x512) ![0, 0, 128] S1x192x128.size inb_S1x192x512_S1x192x128_0_0_128).emb (k0_pay62 (x_v359 i σ)) (put (Rect.unit (s := S1x192x512) ![0, 0, 0] S1x192x128.size inb_S1x192x512_S1x192x128_0_0_0).emb (k0_pay60 (x_v313 i σ) (x_v323 i σ) (ld σ.a5 (Rect.unit (s := S4x128x128) ![0, 0, 0] S1x128x128.size inb_S4x128x128_S1x128x128_0_0_0)) (ld σ.a6 (Rect.unit (s := S1x512) ![0, 0] S1x128.size inb_S1x512_S1x128_0_0))) σ.a15))) := by unfold S10 p10_st; dsimp only; rw [S9_a5, S9_a6, S9_a15, S9_a27]
theorem S10_a16 : (S10 i σ).a16 = (k0_pay47 (x_v179 i σ) (x_v202 i σ)) := by unfold S10 p10_st; exact S9_a16 i σ
theorem S10_a17 : (S10 i σ).a17 = (k0_pay45 (x_v31 i σ) (x_v100 i σ)) := by unfold S10 p10_st; exact S9_a17 i σ
theorem S10_a18 : (S10 i σ).a18 = (k0_pay49 (x_v194 i σ)) := by unfold S10 p10_st; exact S9_a18 i σ
theorem S10_a19 : (S10 i σ).a19 = (k0_pay48 (x_v192 i σ)) := by unfold S10 p10_st; exact S9_a19 i σ
theorem S10_a20 : (S10 i σ).a20 = (k0_pay51 (x_v101 i σ) (x_v194 i σ)) := by unfold S10 p10_st; exact S9_a20 i σ
theorem S10_a21 : (S10 i σ).a21 = (k0_pay50 (x_v101 i σ) (x_v192 i σ)) := by unfold S10 p10_st; exact S9_a21 i σ
theorem S10_a22 : (S10 i σ).a22 = (k0_pay52 (x_v39 i σ)) := by unfold S10 p10_st; exact S9_a22 i σ
theorem S10_a23 : (S10 i σ).a23 = (k0_pay56 (x_v282 i σ)) := by unfold S10 p10_st; exact S9_a23 i σ
theorem S10_a25 : (S10 i σ).a25 = (put (Rect.unit (s := S1x24x512) ![0, 16, 0] S1x8x512.size inb_S1x24x512_S1x8x512_0_16_0).emb (k0_pay24 (x_v53 i σ) (x_v54 i σ) (x_v57 i σ)) (put (Rect.unit (s := S1x24x512) ![0, 8, 0] S1x8x512.size inb_S1x24x512_S1x8x512_0_8_0).emb (k0_pay21 (x_v53 i σ) (x_v54 i σ) (x_v57 i σ)) (put (Rect.unit (s := S1x24x512) ![0, 0, 0] S1x8x512.size inb_S1x24x512_S1x8x512_0_0_0).emb (k0_pay18 (x_v66 i σ)) σ.a25))) := by unfold S10 p10_st; exact S9_a25 i σ
theorem S10_a27 : (S10 i σ).a27 = (E1 i σ) := by unfold S10 p10_st; exact S9_a27 i σ
theorem S10_a28 : (S10 i σ).a28 = (z28 i σ) := by unfold S10 p10_st; exact S9_a28 i σ
theorem S11_a15 : (S11 i σ).a15 = (put (Rect.unit (s := S1x192x512) ![0, 0, 384] S1x192x128.size inb_S1x192x512_S1x192x128_0_0_384).emb (k0_pay65 (x_v312 i σ) (x_v391 i σ) (x_v395 i σ) (x_c4_i32_165 i σ) (ld σ.a5 (Rect.unit (s := S4x128x128) ![3, 0, 0] S1x128x128.size inb_S4x128x128_S1x128x128_3_0_0)) (ld σ.a6 (Rect.unit (s := S1x512) ![0, 384] S1x128.size inb_S1x512_S1x128_0_384))) (put (Rect.unit (s := S1x192x512) ![0, 0, 256] S1x192x128.size inb_S1x192x512_S1x192x128_0_0_256).emb (k0_pay63 (x_v312 i σ) (ld (E1 i σ) (Rect.unit (s := S208x2432) ![0, 256] S208x128.size inb_S208x2432_S208x128_0_256)) (ld σ.a5 (Rect.unit (s := S4x128x128) ![2, 0, 0] S1x128x128.size inb_S4x128x128_S1x128x128_2_0_0)) (ld σ.a6 (Rect.unit (s := S1x512) ![0, 256] S1x128.size inb_S1x512_S1x128_0_256))) (put (Rect.unit (s := S1x192x512) ![0, 0, 128] S1x192x128.size inb_S1x192x512_S1x192x128_0_0_128).emb (k0_pay62 (x_v359 i σ)) (put (Rect.unit (s := S1x192x512) ![0, 0, 0] S1x192x128.size inb_S1x192x512_S1x192x128_0_0_0).emb (k0_pay60 (x_v313 i σ) (x_v323 i σ) (ld σ.a5 (Rect.unit (s := S4x128x128) ![0, 0, 0] S1x128x128.size inb_S4x128x128_S1x128x128_0_0_0)) (ld σ.a6 (Rect.unit (s := S1x512) ![0, 0] S1x128.size inb_S1x512_S1x128_0_0))) σ.a15)))) := by unfold S11 p11_st; dsimp only; rw [S10_a5, S10_a6, S10_a15]
theorem S11_a16 : (S11 i σ).a16 = (k0_pay47 (x_v179 i σ) (x_v202 i σ)) := by unfold S11 p11_st; exact S10_a16 i σ
theorem S11_a17 : (S11 i σ).a17 = (k0_pay45 (x_v31 i σ) (x_v100 i σ)) := by unfold S11 p11_st; exact S10_a17 i σ
theorem S11_a18 : (S11 i σ).a18 = (k0_pay49 (x_v194 i σ)) := by unfold S11 p11_st; exact S10_a18 i σ
theorem S11_a19 : (S11 i σ).a19 = (k0_pay48 (x_v192 i σ)) := by unfold S11 p11_st; exact S10_a19 i σ
theorem S11_a20 : (S11 i σ).a20 = (k0_pay51 (x_v101 i σ) (x_v194 i σ)) := by unfold S11 p11_st; exact S10_a20 i σ
theorem S11_a21 : (S11 i σ).a21 = (k0_pay50 (x_v101 i σ) (x_v192 i σ)) := by unfold S11 p11_st; exact S10_a21 i σ
theorem S11_a22 : (S11 i σ).a22 = (k0_pay52 (x_v39 i σ)) := by unfold S11 p11_st; exact S10_a22 i σ
theorem S11_a23 : (S11 i σ).a23 = (k0_pay56 (x_v282 i σ)) := by unfold S11 p11_st; exact S10_a23 i σ
theorem S11_a25 : (S11 i σ).a25 = (put (Rect.unit (s := S1x24x512) ![0, 16, 0] S1x8x512.size inb_S1x24x512_S1x8x512_0_16_0).emb (k0_pay24 (x_v53 i σ) (x_v54 i σ) (x_v57 i σ)) (put (Rect.unit (s := S1x24x512) ![0, 8, 0] S1x8x512.size inb_S1x24x512_S1x8x512_0_8_0).emb (k0_pay21 (x_v53 i σ) (x_v54 i σ) (x_v57 i σ)) (put (Rect.unit (s := S1x24x512) ![0, 0, 0] S1x8x512.size inb_S1x24x512_S1x8x512_0_0_0).emb (k0_pay18 (x_v66 i σ)) σ.a25))) := by unfold S11 p11_st; exact S10_a25 i σ
theorem S11_a27 : (S11 i σ).a27 = (E1 i σ) := by unfold S11 p11_st; exact S10_a27 i σ
theorem S11_a28 : (S11 i σ).a28 = (z28 i σ) := by unfold S11 p11_st; exact S10_a28 i σ
theorem S12_a15 : (S12 i σ).a15 = (put (Rect.unit (s := S1x192x512) ![0, 0, 384] S1x192x128.size inb_S1x192x512_S1x192x128_0_0_384).emb (k0_pay65 (x_v312 i σ) (x_v391 i σ) (x_v395 i σ) (x_c4_i32_165 i σ) (ld σ.a5 (Rect.unit (s := S4x128x128) ![3, 0, 0] S1x128x128.size inb_S4x128x128_S1x128x128_3_0_0)) (ld σ.a6 (Rect.unit (s := S1x512) ![0, 384] S1x128.size inb_S1x512_S1x128_0_384))) (put (Rect.unit (s := S1x192x512) ![0, 0, 256] S1x192x128.size inb_S1x192x512_S1x192x128_0_0_256).emb (k0_pay63 (x_v312 i σ) (ld (E1 i σ) (Rect.unit (s := S208x2432) ![0, 256] S208x128.size inb_S208x2432_S208x128_0_256)) (ld σ.a5 (Rect.unit (s := S4x128x128) ![2, 0, 0] S1x128x128.size inb_S4x128x128_S1x128x128_2_0_0)) (ld σ.a6 (Rect.unit (s := S1x512) ![0, 256] S1x128.size inb_S1x512_S1x128_0_256))) (put (Rect.unit (s := S1x192x512) ![0, 0, 128] S1x192x128.size inb_S1x192x512_S1x192x128_0_0_128).emb (k0_pay62 (x_v359 i σ)) (put (Rect.unit (s := S1x192x512) ![0, 0, 0] S1x192x128.size inb_S1x192x512_S1x192x128_0_0_0).emb (k0_pay60 (x_v313 i σ) (x_v323 i σ) (ld σ.a5 (Rect.unit (s := S4x128x128) ![0, 0, 0] S1x128x128.size inb_S4x128x128_S1x128x128_0_0_0)) (ld σ.a6 (Rect.unit (s := S1x512) ![0, 0] S1x128.size inb_S1x512_S1x128_0_0))) σ.a15)))) := by unfold S12 p12_st; exact S11_a15 i σ
theorem S12_a16 : (S12 i σ).a16 = (k0_pay47 (x_v179 i σ) (x_v202 i σ)) := by unfold S12 p12_st; exact S11_a16 i σ
theorem S12_a17 : (S12 i σ).a17 = (k0_pay45 (x_v31 i σ) (x_v100 i σ)) := by unfold S12 p12_st; exact S11_a17 i σ
theorem S12_a18 : (S12 i σ).a18 = (k0_pay49 (x_v194 i σ)) := by unfold S12 p12_st; exact S11_a18 i σ
theorem S12_a19 : (S12 i σ).a19 = (k0_pay48 (x_v192 i σ)) := by unfold S12 p12_st; exact S11_a19 i σ
theorem S12_a20 : (S12 i σ).a20 = (k0_pay51 (x_v101 i σ) (x_v194 i σ)) := by unfold S12 p12_st; exact S11_a20 i σ
theorem S12_a21 : (S12 i σ).a21 = (k0_pay50 (x_v101 i σ) (x_v192 i σ)) := by unfold S12 p12_st; exact S11_a21 i σ
theorem S12_a22 : (S12 i σ).a22 = (k0_pay52 (x_v39 i σ)) := by unfold S12 p12_st; exact S11_a22 i σ
theorem S12_a23 : (S12 i σ).a23 = (k0_pay56 (x_v282 i σ)) := by unfold S12 p12_st; exact S11_a23 i σ
theorem S12_a25 : (S12 i σ).a25 = (put (Rect.unit (s := S1x24x512) ![0, 16, 0] S1x8x512.size inb_S1x24x512_S1x8x512_0_16_0).emb (k0_pay24 (x_v53 i σ) (x_v54 i σ) (x_v57 i σ)) (put (Rect.unit (s := S1x24x512) ![0, 8, 0] S1x8x512.size inb_S1x24x512_S1x8x512_0_8_0).emb (k0_pay21 (x_v53 i σ) (x_v54 i σ) (x_v57 i σ)) (put (Rect.unit (s := S1x24x512) ![0, 0, 0] S1x8x512.size inb_S1x24x512_S1x8x512_0_0_0).emb (k0_pay18 (x_v66 i σ)) σ.a25))) := by unfold S12 p12_st; exact S11_a25 i σ
theorem S12_a27 : (S12 i σ).a27 = (E1 i σ) := by unfold S12 p12_st; exact S11_a27 i σ
theorem S12_a28 : (S12 i σ).a28 = (put (slotEmb (k0_off2 i) (k0_off2_inb i) (Rect.unit (s := S5x192x512) ![1, 0, 0] S1x192x512.size inb_S5x192x512_S1x192x512_1_0_0)) (k0_pay67 (ld (E1 i σ) (Rect.unit (s := S208x2432) ![16, 1024] S192x512.size inb_S208x2432_S192x512_16_1024)) (ld (E1 i σ) (Rect.unit (s := S208x2432) ![15, 1024] S192x512.size inb_S208x2432_S192x512_15_1024)) (ld σ.a4 (Rect.unit (s := S1x2432) ![0, 1024] S1x512.size inb_S1x2432_S1x512_0_1024))) (put (slotEmb (k0_off2 i) (k0_off2_inb i) (Rect.unit (s := S5x192x512) ![0, 0, 0] S1x192x512.size inb_S5x192x512_S1x192x512_0_0_0)) (k0_pay66 (x_v431 i σ) (x_v432 i σ) (ld σ.a4 (Rect.unit (s := S1x2432) ![0, 512] S1x512.size inb_S1x2432_S1x512_0_512))) (z28 i σ))) := by unfold S12 p12_st; dsimp only; rw [S11_a4, S11_a27, S11_a28]
theorem S13_a15 : (S13 i σ).a15 = (put (Rect.unit (s := S1x192x512) ![0, 0, 384] S1x192x128.size inb_S1x192x512_S1x192x128_0_0_384).emb (k0_pay65 (x_v312 i σ) (x_v391 i σ) (x_v395 i σ) (x_c4_i32_165 i σ) (ld σ.a5 (Rect.unit (s := S4x128x128) ![3, 0, 0] S1x128x128.size inb_S4x128x128_S1x128x128_3_0_0)) (ld σ.a6 (Rect.unit (s := S1x512) ![0, 384] S1x128.size inb_S1x512_S1x128_0_384))) (put (Rect.unit (s := S1x192x512) ![0, 0, 256] S1x192x128.size inb_S1x192x512_S1x192x128_0_0_256).emb (k0_pay63 (x_v312 i σ) (ld (E1 i σ) (Rect.unit (s := S208x2432) ![0, 256] S208x128.size inb_S208x2432_S208x128_0_256)) (ld σ.a5 (Rect.unit (s := S4x128x128) ![2, 0, 0] S1x128x128.size inb_S4x128x128_S1x128x128_2_0_0)) (ld σ.a6 (Rect.unit (s := S1x512) ![0, 256] S1x128.size inb_S1x512_S1x128_0_256))) (put (Rect.unit (s := S1x192x512) ![0, 0, 128] S1x192x128.size inb_S1x192x512_S1x192x128_0_0_128).emb (k0_pay62 (x_v359 i σ)) (put (Rect.unit (s := S1x192x512) ![0, 0, 0] S1x192x128.size inb_S1x192x512_S1x192x128_0_0_0).emb (k0_pay60 (x_v313 i σ) (x_v323 i σ) (ld σ.a5 (Rect.unit (s := S4x128x128) ![0, 0, 0] S1x128x128.size inb_S4x128x128_S1x128x128_0_0_0)) (ld σ.a6 (Rect.unit (s := S1x512) ![0, 0] S1x128.size inb_S1x512_S1x128_0_0))) σ.a15)))) := by unfold S13 p13_st; exact S12_a15 i σ
theorem S13_a16 : (S13 i σ).a16 = (k0_pay47 (x_v179 i σ) (x_v202 i σ)) := by unfold S13 p13_st; exact S12_a16 i σ
theorem S13_a17 : (S13 i σ).a17 = (k0_pay45 (x_v31 i σ) (x_v100 i σ)) := by unfold S13 p13_st; exact S12_a17 i σ
theorem S13_a18 : (S13 i σ).a18 = (k0_pay49 (x_v194 i σ)) := by unfold S13 p13_st; exact S12_a18 i σ
theorem S13_a19 : (S13 i σ).a19 = (k0_pay48 (x_v192 i σ)) := by unfold S13 p13_st; exact S12_a19 i σ
theorem S13_a20 : (S13 i σ).a20 = (k0_pay51 (x_v101 i σ) (x_v194 i σ)) := by unfold S13 p13_st; exact S12_a20 i σ
theorem S13_a21 : (S13 i σ).a21 = (k0_pay50 (x_v101 i σ) (x_v192 i σ)) := by unfold S13 p13_st; exact S12_a21 i σ
theorem S13_a22 : (S13 i σ).a22 = (k0_pay52 (x_v39 i σ)) := by unfold S13 p13_st; exact S12_a22 i σ
theorem S13_a23 : (S13 i σ).a23 = (k0_pay56 (x_v282 i σ)) := by unfold S13 p13_st; exact S12_a23 i σ
theorem S13_a25 : (S13 i σ).a25 = (put (Rect.unit (s := S1x24x512) ![0, 16, 0] S1x8x512.size inb_S1x24x512_S1x8x512_0_16_0).emb (k0_pay24 (x_v53 i σ) (x_v54 i σ) (x_v57 i σ)) (put (Rect.unit (s := S1x24x512) ![0, 8, 0] S1x8x512.size inb_S1x24x512_S1x8x512_0_8_0).emb (k0_pay21 (x_v53 i σ) (x_v54 i σ) (x_v57 i σ)) (put (Rect.unit (s := S1x24x512) ![0, 0, 0] S1x8x512.size inb_S1x24x512_S1x8x512_0_0_0).emb (k0_pay18 (x_v66 i σ)) σ.a25))) := by unfold S13 p13_st; exact S12_a25 i σ
theorem S13_a27 : (S13 i σ).a27 = (E1 i σ) := by unfold S13 p13_st; exact S12_a27 i σ
theorem S13_a28 : (S13 i σ).a28 = (put (slotEmb (k0_off2 i) (k0_off2_inb i) (Rect.unit (s := S5x192x512) ![1, 0, 0] S1x192x512.size inb_S5x192x512_S1x192x512_1_0_0)) (k0_pay67 (ld (E1 i σ) (Rect.unit (s := S208x2432) ![16, 1024] S192x512.size inb_S208x2432_S192x512_16_1024)) (ld (E1 i σ) (Rect.unit (s := S208x2432) ![15, 1024] S192x512.size inb_S208x2432_S192x512_15_1024)) (ld σ.a4 (Rect.unit (s := S1x2432) ![0, 1024] S1x512.size inb_S1x2432_S1x512_0_1024))) (put (slotEmb (k0_off2 i) (k0_off2_inb i) (Rect.unit (s := S5x192x512) ![0, 0, 0] S1x192x512.size inb_S5x192x512_S1x192x512_0_0_0)) (k0_pay66 (x_v431 i σ) (x_v432 i σ) (ld σ.a4 (Rect.unit (s := S1x2432) ![0, 512] S1x512.size inb_S1x2432_S1x512_0_512))) (z28 i σ))) := by unfold S13 p13_st; exact S12_a28 i σ
theorem S14_a15 : (S14 i σ).a15 = (put (Rect.unit (s := S1x192x512) ![0, 0, 384] S1x192x128.size inb_S1x192x512_S1x192x128_0_0_384).emb (k0_pay65 (x_v312 i σ) (x_v391 i σ) (x_v395 i σ) (x_c4_i32_165 i σ) (ld σ.a5 (Rect.unit (s := S4x128x128) ![3, 0, 0] S1x128x128.size inb_S4x128x128_S1x128x128_3_0_0)) (ld σ.a6 (Rect.unit (s := S1x512) ![0, 384] S1x128.size inb_S1x512_S1x128_0_384))) (put (Rect.unit (s := S1x192x512) ![0, 0, 256] S1x192x128.size inb_S1x192x512_S1x192x128_0_0_256).emb (k0_pay63 (x_v312 i σ) (ld (E1 i σ) (Rect.unit (s := S208x2432) ![0, 256] S208x128.size inb_S208x2432_S208x128_0_256)) (ld σ.a5 (Rect.unit (s := S4x128x128) ![2, 0, 0] S1x128x128.size inb_S4x128x128_S1x128x128_2_0_0)) (ld σ.a6 (Rect.unit (s := S1x512) ![0, 256] S1x128.size inb_S1x512_S1x128_0_256))) (put (Rect.unit (s := S1x192x512) ![0, 0, 128] S1x192x128.size inb_S1x192x512_S1x192x128_0_0_128).emb (k0_pay62 (x_v359 i σ)) (put (Rect.unit (s := S1x192x512) ![0, 0, 0] S1x192x128.size inb_S1x192x512_S1x192x128_0_0_0).emb (k0_pay60 (x_v313 i σ) (x_v323 i σ) (ld σ.a5 (Rect.unit (s := S4x128x128) ![0, 0, 0] S1x128x128.size inb_S4x128x128_S1x128x128_0_0_0)) (ld σ.a6 (Rect.unit (s := S1x512) ![0, 0] S1x128.size inb_S1x512_S1x128_0_0))) σ.a15)))) := by unfold S14 p14_st; exact S13_a15 i σ
theorem S14_a16 : (S14 i σ).a16 = (k0_pay47 (x_v179 i σ) (x_v202 i σ)) := by unfold S14 p14_st; exact S13_a16 i σ
theorem S14_a17 : (S14 i σ).a17 = (k0_pay45 (x_v31 i σ) (x_v100 i σ)) := by unfold S14 p14_st; exact S13_a17 i σ
theorem S14_a18 : (S14 i σ).a18 = (k0_pay49 (x_v194 i σ)) := by unfold S14 p14_st; exact S13_a18 i σ
theorem S14_a19 : (S14 i σ).a19 = (k0_pay48 (x_v192 i σ)) := by unfold S14 p14_st; exact S13_a19 i σ
theorem S14_a20 : (S14 i σ).a20 = (k0_pay51 (x_v101 i σ) (x_v194 i σ)) := by unfold S14 p14_st; exact S13_a20 i σ
theorem S14_a21 : (S14 i σ).a21 = (k0_pay50 (x_v101 i σ) (x_v192 i σ)) := by unfold S14 p14_st; exact S13_a21 i σ
theorem S14_a22 : (S14 i σ).a22 = (k0_pay52 (x_v39 i σ)) := by unfold S14 p14_st; exact S13_a22 i σ
theorem S14_a23 : (S14 i σ).a23 = (k0_pay56 (x_v282 i σ)) := by unfold S14 p14_st; exact S13_a23 i σ
theorem S14_a25 : (S14 i σ).a25 = (put (Rect.unit (s := S1x24x512) ![0, 16, 0] S1x8x512.size inb_S1x24x512_S1x8x512_0_16_0).emb (k0_pay24 (x_v53 i σ) (x_v54 i σ) (x_v57 i σ)) (put (Rect.unit (s := S1x24x512) ![0, 8, 0] S1x8x512.size inb_S1x24x512_S1x8x512_0_8_0).emb (k0_pay21 (x_v53 i σ) (x_v54 i σ) (x_v57 i σ)) (put (Rect.unit (s := S1x24x512) ![0, 0, 0] S1x8x512.size inb_S1x24x512_S1x8x512_0_0_0).emb (k0_pay18 (x_v66 i σ)) σ.a25))) := by unfold S14 p14_st; exact S13_a25 i σ
theorem S14_a27 : (S14 i σ).a27 = (E1 i σ) := by unfold S14 p14_st; exact S13_a27 i σ
theorem S14_a28 : (S14 i σ).a28 = (put (slotEmb (k0_off2 i) (k0_off2_inb i) (Rect.unit (s := S5x192x512) ![4, 0, 0] S1x192x512.size inb_S5x192x512_S1x192x512_4_0_0)) (k0_pay73 (x_v472 i σ) (ld σ.a9 (Rect.unit (s := S1x512) ![0, 0] S1x512.size inb_S1x512_S1x512_0_0)) (ld σ.a10 (Rect.unit (s := S128x512) ![0, 0] S128x512.size inb_S128x512_S128x512_0_0))) (put (slotEmb (k0_off2 i) (k0_off2_inb i) (Rect.unit (s := S5x192x512) ![3, 0, 0] S1x192x512.size inb_S5x192x512_S1x192x512_3_0_0)) (k0_pay72 (x_v500 i σ)) (put (slotEmb (k0_off2 i) (k0_off2_inb i) (Rect.unit (s := S5x192x512) ![1, 0, 0] S1x192x512.size inb_S5x192x512_S1x192x512_1_0_0)) (k0_pay67 (ld (E1 i σ) (Rect.unit (s := S208x2432) ![16, 1024] S192x512.size inb_S208x2432_S192x512_16_1024)) (ld (E1 i σ) (Rect.unit (s := S208x2432) ![15, 1024] S192x512.size inb_S208x2432_S192x512_15_1024)) (ld σ.a4 (Rect.unit (s := S1x2432) ![0, 1024] S1x512.size inb_S1x2432_S1x512_0_1024))) (put (slotEmb (k0_off2 i) (k0_off2_inb i) (Rect.unit (s := S5x192x512) ![0, 0, 0] S1x192x512.size inb_S5x192x512_S1x192x512_0_0_0)) (k0_pay66 (x_v431 i σ) (x_v432 i σ) (ld σ.a4 (Rect.unit (s := S1x2432) ![0, 512] S1x512.size inb_S1x2432_S1x512_0_512))) (z28 i σ))))) := by unfold S14 p14_st; dsimp only; rw [S13_a9, S13_a10, S13_a28]
theorem S15_a15 : (S15 i σ).a15 = (put (Rect.unit (s := S1x192x512) ![0, 0, 384] S1x192x128.size inb_S1x192x512_S1x192x128_0_0_384).emb (k0_pay65 (x_v312 i σ) (x_v391 i σ) (x_v395 i σ) (x_c4_i32_165 i σ) (ld σ.a5 (Rect.unit (s := S4x128x128) ![3, 0, 0] S1x128x128.size inb_S4x128x128_S1x128x128_3_0_0)) (ld σ.a6 (Rect.unit (s := S1x512) ![0, 384] S1x128.size inb_S1x512_S1x128_0_384))) (put (Rect.unit (s := S1x192x512) ![0, 0, 256] S1x192x128.size inb_S1x192x512_S1x192x128_0_0_256).emb (k0_pay63 (x_v312 i σ) (ld (E1 i σ) (Rect.unit (s := S208x2432) ![0, 256] S208x128.size inb_S208x2432_S208x128_0_256)) (ld σ.a5 (Rect.unit (s := S4x128x128) ![2, 0, 0] S1x128x128.size inb_S4x128x128_S1x128x128_2_0_0)) (ld σ.a6 (Rect.unit (s := S1x512) ![0, 256] S1x128.size inb_S1x512_S1x128_0_256))) (put (Rect.unit (s := S1x192x512) ![0, 0, 128] S1x192x128.size inb_S1x192x512_S1x192x128_0_0_128).emb (k0_pay62 (x_v359 i σ)) (put (Rect.unit (s := S1x192x512) ![0, 0, 0] S1x192x128.size inb_S1x192x512_S1x192x128_0_0_0).emb (k0_pay60 (x_v313 i σ) (x_v323 i σ) (ld σ.a5 (Rect.unit (s := S4x128x128) ![0, 0, 0] S1x128x128.size inb_S4x128x128_S1x128x128_0_0_0)) (ld σ.a6 (Rect.unit (s := S1x512) ![0, 0] S1x128.size inb_S1x512_S1x128_0_0))) σ.a15)))) := by unfold S15; exact S14_a15 i σ
theorem S15_a16 : (S15 i σ).a16 = (k0_pay47 (x_v179 i σ) (x_v202 i σ)) := by unfold S15; exact S14_a16 i σ
theorem S15_a17 : (S15 i σ).a17 = (k0_pay45 (x_v31 i σ) (x_v100 i σ)) := by unfold S15; exact S14_a17 i σ
theorem S15_a18 : (S15 i σ).a18 = (k0_pay49 (x_v194 i σ)) := by unfold S15; exact S14_a18 i σ
theorem S15_a19 : (S15 i σ).a19 = (k0_pay48 (x_v192 i σ)) := by unfold S15; exact S14_a19 i σ
theorem S15_a20 : (S15 i σ).a20 = (k0_pay51 (x_v101 i σ) (x_v194 i σ)) := by unfold S15; exact S14_a20 i σ
theorem S15_a21 : (S15 i σ).a21 = (k0_pay50 (x_v101 i σ) (x_v192 i σ)) := by unfold S15; exact S14_a21 i σ
theorem S15_a22 : (S15 i σ).a22 = (k0_pay52 (x_v39 i σ)) := by unfold S15; exact S14_a22 i σ
theorem S15_a23 : (S15 i σ).a23 = (k0_pay56 (x_v282 i σ)) := by unfold S15; exact S14_a23 i σ
theorem S15_a24 : (S15 i σ).a24 = (k0_pay1 (x_v533 i σ) (x_v535 i σ)) := by unfold S15; exact put_whole _ (by decide) _ _ _
theorem S15_a25 : (S15 i σ).a25 = (put (Rect.unit (s := S1x24x512) ![0, 16, 0] S1x8x512.size inb_S1x24x512_S1x8x512_0_16_0).emb (k0_pay24 (x_v53 i σ) (x_v54 i σ) (x_v57 i σ)) (put (Rect.unit (s := S1x24x512) ![0, 8, 0] S1x8x512.size inb_S1x24x512_S1x8x512_0_8_0).emb (k0_pay21 (x_v53 i σ) (x_v54 i σ) (x_v57 i σ)) (put (Rect.unit (s := S1x24x512) ![0, 0, 0] S1x8x512.size inb_S1x24x512_S1x8x512_0_0_0).emb (k0_pay18 (x_v66 i σ)) σ.a25))) := by unfold S15; exact S14_a25 i σ
theorem S15_a27 : (S15 i σ).a27 = (E1 i σ) := by unfold S15; exact S14_a27 i σ
theorem S15_a28 : (S15 i σ).a28 = (put (slotEmb (k0_off2 i) (k0_off2_inb i) (Rect.unit (s := S5x192x512) ![4, 0, 0] S1x192x512.size inb_S5x192x512_S1x192x512_4_0_0)) (k0_pay73 (x_v472 i σ) (ld σ.a9 (Rect.unit (s := S1x512) ![0, 0] S1x512.size inb_S1x512_S1x512_0_0)) (ld σ.a10 (Rect.unit (s := S128x512) ![0, 0] S128x512.size inb_S128x512_S128x512_0_0))) (put (slotEmb (k0_off2 i) (k0_off2_inb i) (Rect.unit (s := S5x192x512) ![3, 0, 0] S1x192x512.size inb_S5x192x512_S1x192x512_3_0_0)) (k0_pay72 (x_v500 i σ)) (put (slotEmb (k0_off2 i) (k0_off2_inb i) (Rect.unit (s := S5x192x512) ![1, 0, 0] S1x192x512.size inb_S5x192x512_S1x192x512_1_0_0)) (k0_pay67 (ld (E1 i σ) (Rect.unit (s := S208x2432) ![16, 1024] S192x512.size inb_S208x2432_S192x512_16_1024)) (ld (E1 i σ) (Rect.unit (s := S208x2432) ![15, 1024] S192x512.size inb_S208x2432_S192x512_15_1024)) (ld σ.a4 (Rect.unit (s := S1x2432) ![0, 1024] S1x512.size inb_S1x2432_S1x512_0_1024))) (put (slotEmb (k0_off2 i) (k0_off2_inb i) (Rect.unit (s := S5x192x512) ![0, 0, 0] S1x192x512.size inb_S5x192x512_S1x192x512_0_0_0)) (k0_pay66 (x_v431 i σ) (x_v432 i σ) (ld σ.a4 (Rect.unit (s := S1x2432) ![0, 512] S1x512.size inb_S1x2432_S1x512_0_512))) (z28 i σ))))) := by unfold S15; exact S14_a28 i σ
theorem S16_a15 : (S16 i σ).a15 = (put (Rect.unit (s := S1x192x512) ![0, 0, 384] S1x192x128.size inb_S1x192x512_S1x192x128_0_0_384).emb (k0_pay65 (x_v312 i σ) (x_v391 i σ) (x_v395 i σ) (x_c4_i32_165 i σ) (ld σ.a5 (Rect.unit (s := S4x128x128) ![3, 0, 0] S1x128x128.size inb_S4x128x128_S1x128x128_3_0_0)) (ld σ.a6 (Rect.unit (s := S1x512) ![0, 384] S1x128.size inb_S1x512_S1x128_0_384))) (put (Rect.unit (s := S1x192x512) ![0, 0, 256] S1x192x128.size inb_S1x192x512_S1x192x128_0_0_256).emb (k0_pay63 (x_v312 i σ) (ld (E1 i σ) (Rect.unit (s := S208x2432) ![0, 256] S208x128.size inb_S208x2432_S208x128_0_256)) (ld σ.a5 (Rect.unit (s := S4x128x128) ![2, 0, 0] S1x128x128.size inb_S4x128x128_S1x128x128_2_0_0)) (ld σ.a6 (Rect.unit (s := S1x512) ![0, 256] S1x128.size inb_S1x512_S1x128_0_256))) (put (Rect.unit (s := S1x192x512) ![0, 0, 128] S1x192x128.size inb_S1x192x512_S1x192x128_0_0_128).emb (k0_pay62 (x_v359 i σ)) (put (Rect.unit (s := S1x192x512) ![0, 0, 0] S1x192x128.size inb_S1x192x512_S1x192x128_0_0_0).emb (k0_pay60 (x_v313 i σ) (x_v323 i σ) (ld σ.a5 (Rect.unit (s := S4x128x128) ![0, 0, 0] S1x128x128.size inb_S4x128x128_S1x128x128_0_0_0)) (ld σ.a6 (Rect.unit (s := S1x512) ![0, 0] S1x128.size inb_S1x512_S1x128_0_0))) σ.a15)))) := by unfold S16; exact S15_a15 i σ
theorem S16_a16 : (S16 i σ).a16 = (k0_pay47 (x_v179 i σ) (x_v202 i σ)) := by unfold S16; exact S15_a16 i σ
theorem S16_a17 : (S16 i σ).a17 = (k0_pay45 (x_v31 i σ) (x_v100 i σ)) := by unfold S16; exact S15_a17 i σ
theorem S16_a18 : (S16 i σ).a18 = (k0_pay49 (x_v194 i σ)) := by unfold S16; exact S15_a18 i σ
theorem S16_a19 : (S16 i σ).a19 = (k0_pay48 (x_v192 i σ)) := by unfold S16; exact S15_a19 i σ
theorem S16_a20 : (S16 i σ).a20 = (k0_pay51 (x_v101 i σ) (x_v194 i σ)) := by unfold S16; exact S15_a20 i σ
theorem S16_a21 : (S16 i σ).a21 = (k0_pay50 (x_v101 i σ) (x_v192 i σ)) := by unfold S16; exact S15_a21 i σ
theorem S16_a22 : (S16 i σ).a22 = (k0_pay52 (x_v39 i σ)) := by unfold S16; exact S15_a22 i σ
theorem S16_a23 : (S16 i σ).a23 = (k0_pay56 (x_v282 i σ)) := by unfold S16; exact S15_a23 i σ
theorem S16_a24 : (S16 i σ).a24 = (k0_pay1 (x_v533 i σ) (x_v535 i σ)) := by unfold S16; exact S15_a24 i σ
theorem S16_a25 : (S16 i σ).a25 = (put (Rect.unit (s := S1x24x512) ![0, 16, 0] S1x8x512.size inb_S1x24x512_S1x8x512_0_16_0).emb (k0_pay24 (x_v53 i σ) (x_v54 i σ) (x_v57 i σ)) (put (Rect.unit (s := S1x24x512) ![0, 8, 0] S1x8x512.size inb_S1x24x512_S1x8x512_0_8_0).emb (k0_pay21 (x_v53 i σ) (x_v54 i σ) (x_v57 i σ)) (put (Rect.unit (s := S1x24x512) ![0, 0, 0] S1x8x512.size inb_S1x24x512_S1x8x512_0_0_0).emb (k0_pay18 (x_v66 i σ)) σ.a25))) := by unfold S16; exact S15_a25 i σ
theorem S16_a26 : (S16 i σ).a26 = (k0_pay2 (x_v464 i σ)) := by unfold S16; exact put_whole _ (by decide) _ _ _
theorem S16_a27 : (S16 i σ).a27 = (E1 i σ) := by unfold S16; exact S15_a27 i σ
theorem S16_a28 : (S16 i σ).a28 = (put (slotEmb (k0_off2 i) (k0_off2_inb i) (Rect.unit (s := S5x192x512) ![4, 0, 0] S1x192x512.size inb_S5x192x512_S1x192x512_4_0_0)) (k0_pay73 (x_v472 i σ) (ld σ.a9 (Rect.unit (s := S1x512) ![0, 0] S1x512.size inb_S1x512_S1x512_0_0)) (ld σ.a10 (Rect.unit (s := S128x512) ![0, 0] S128x512.size inb_S128x512_S128x512_0_0))) (put (slotEmb (k0_off2 i) (k0_off2_inb i) (Rect.unit (s := S5x192x512) ![3, 0, 0] S1x192x512.size inb_S5x192x512_S1x192x512_3_0_0)) (k0_pay72 (x_v500 i σ)) (put (slotEmb (k0_off2 i) (k0_off2_inb i) (Rect.unit (s := S5x192x512) ![1, 0, 0] S1x192x512.size inb_S5x192x512_S1x192x512_1_0_0)) (k0_pay67 (ld (E1 i σ) (Rect.unit (s := S208x2432) ![16, 1024] S192x512.size inb_S208x2432_S192x512_16_1024)) (ld (E1 i σ) (Rect.unit (s := S208x2432) ![15, 1024] S192x512.size inb_S208x2432_S192x512_15_1024)) (ld σ.a4 (Rect.unit (s := S1x2432) ![0, 1024] S1x512.size inb_S1x2432_S1x512_0_1024))) (put (slotEmb (k0_off2 i) (k0_off2_inb i) (Rect.unit (s := S5x192x512) ![0, 0, 0] S1x192x512.size inb_S5x192x512_S1x192x512_0_0_0)) (k0_pay66 (x_v431 i σ) (x_v432 i σ) (ld σ.a4 (Rect.unit (s := S1x2432) ![0, 512] S1x512.size inb_S1x2432_S1x512_0_512))) (z28 i σ))))) := by unfold S16; exact S15_a28 i σ
theorem S17_a15 : (S17 i σ).a15 = (put (Rect.unit (s := S1x192x512) ![0, 0, 384] S1x192x128.size inb_S1x192x512_S1x192x128_0_0_384).emb (k0_pay65 (x_v312 i σ) (x_v391 i σ) (x_v395 i σ) (x_c4_i32_165 i σ) (ld σ.a5 (Rect.unit (s := S4x128x128) ![3, 0, 0] S1x128x128.size inb_S4x128x128_S1x128x128_3_0_0)) (ld σ.a6 (Rect.unit (s := S1x512) ![0, 384] S1x128.size inb_S1x512_S1x128_0_384))) (put (Rect.unit (s := S1x192x512) ![0, 0, 256] S1x192x128.size inb_S1x192x512_S1x192x128_0_0_256).emb (k0_pay63 (x_v312 i σ) (ld (E1 i σ) (Rect.unit (s := S208x2432) ![0, 256] S208x128.size inb_S208x2432_S208x128_0_256)) (ld σ.a5 (Rect.unit (s := S4x128x128) ![2, 0, 0] S1x128x128.size inb_S4x128x128_S1x128x128_2_0_0)) (ld σ.a6 (Rect.unit (s := S1x512) ![0, 256] S1x128.size inb_S1x512_S1x128_0_256))) (put (Rect.unit (s := S1x192x512) ![0, 0, 128] S1x192x128.size inb_S1x192x512_S1x192x128_0_0_128).emb (k0_pay62 (x_v359 i σ)) (put (Rect.unit (s := S1x192x512) ![0, 0, 0] S1x192x128.size inb_S1x192x512_S1x192x128_0_0_0).emb (k0_pay60 (x_v313 i σ) (x_v323 i σ) (ld σ.a5 (Rect.unit (s := S4x128x128) ![0, 0, 0] S1x128x128.size inb_S4x128x128_S1x128x128_0_0_0)) (ld σ.a6 (Rect.unit (s := S1x512) ![0, 0] S1x128.size inb_S1x512_S1x128_0_0))) σ.a15)))) := by unfold S17; exact S16_a15 i σ
theorem S17_a16 : (S17 i σ).a16 = (k0_pay47 (x_v179 i σ) (x_v202 i σ)) := by unfold S17; exact S16_a16 i σ
theorem S17_a17 : (S17 i σ).a17 = (k0_pay45 (x_v31 i σ) (x_v100 i σ)) := by unfold S17; exact S16_a17 i σ
theorem S17_a18 : (S17 i σ).a18 = (k0_pay49 (x_v194 i σ)) := by unfold S17; exact S16_a18 i σ
theorem S17_a19 : (S17 i σ).a19 = (k0_pay48 (x_v192 i σ)) := by unfold S17; exact S16_a19 i σ
theorem S17_a20 : (S17 i σ).a20 = (k0_pay51 (x_v101 i σ) (x_v194 i σ)) := by unfold S17; exact S16_a20 i σ
theorem S17_a21 : (S17 i σ).a21 = (k0_pay50 (x_v101 i σ) (x_v192 i σ)) := by unfold S17; exact S16_a21 i σ
theorem S17_a22 : (S17 i σ).a22 = (k0_pay52 (x_v39 i σ)) := by unfold S17; exact S16_a22 i σ
theorem S17_a23 : (S17 i σ).a23 = (k0_pay56 (x_v282 i σ)) := by unfold S17; exact S16_a23 i σ
theorem S17_a24 : (S17 i σ).a24 = (k0_pay1 (x_v533 i σ) (x_v535 i σ)) := by unfold S17; exact S16_a24 i σ
theorem S17_a25 : (S17 i σ).a25 = (put (Rect.unit (s := S1x24x512) ![0, 16, 0] S1x8x512.size inb_S1x24x512_S1x8x512_0_16_0).emb (k0_pay24 (x_v53 i σ) (x_v54 i σ) (x_v57 i σ)) (put (Rect.unit (s := S1x24x512) ![0, 8, 0] S1x8x512.size inb_S1x24x512_S1x8x512_0_8_0).emb (k0_pay21 (x_v53 i σ) (x_v54 i σ) (x_v57 i σ)) (put (Rect.unit (s := S1x24x512) ![0, 0, 0] S1x8x512.size inb_S1x24x512_S1x8x512_0_0_0).emb (k0_pay18 (x_v66 i σ)) σ.a25))) := by unfold S17; exact S16_a25 i σ
theorem S17_a26 : (S17 i σ).a26 = (k0_pay2 (x_v464 i σ)) := by unfold S17; exact S16_a26 i σ
theorem S17_a27 : (S17 i σ).a27 = (E1 i σ) := by unfold S17; exact S16_a27 i σ
theorem S17_a28 : (S17 i σ).a28 = put (slotEmb (k0_off2 i) (k0_off2_inb i) (Rect.unit (s := S5x192x512) ![2, 0, 0] S1x192x512.size inb_S5x192x512_S1x192x512_2_0_0)) (k0_pay3 (x_v464 i σ)) (put (slotEmb (k0_off2 i) (k0_off2_inb i) (Rect.unit (s := S5x192x512) ![4, 0, 0] S1x192x512.size inb_S5x192x512_S1x192x512_4_0_0)) (k0_pay73 (x_v472 i σ) (ld σ.a9 (Rect.unit (s := S1x512) ![0, 0] S1x512.size inb_S1x512_S1x512_0_0)) (ld σ.a10 (Rect.unit (s := S128x512) ![0, 0] S128x512.size inb_S128x512_S128x512_0_0))) (put (slotEmb (k0_off2 i) (k0_off2_inb i) (Rect.unit (s := S5x192x512) ![3, 0, 0] S1x192x512.size inb_S5x192x512_S1x192x512_3_0_0)) (k0_pay72 (x_v500 i σ)) (put (slotEmb (k0_off2 i) (k0_off2_inb i) (Rect.unit (s := S5x192x512) ![1, 0, 0] S1x192x512.size inb_S5x192x512_S1x192x512_1_0_0)) (k0_pay67 (ld (E1 i σ) (Rect.unit (s := S208x2432) ![16, 1024] S192x512.size inb_S208x2432_S192x512_16_1024)) (ld (E1 i σ) (Rect.unit (s := S208x2432) ![15, 1024] S192x512.size inb_S208x2432_S192x512_15_1024)) (ld σ.a4 (Rect.unit (s := S1x2432) ![0, 1024] S1x512.size inb_S1x2432_S1x512_0_1024))) (put (slotEmb (k0_off2 i) (k0_off2_inb i) (Rect.unit (s := S5x192x512) ![0, 0, 0] S1x192x512.size inb_S5x192x512_S1x192x512_0_0_0)) (k0_pay66 (x_v431 i σ) (x_v432 i σ) (ld σ.a4 (Rect.unit (s := S1x2432) ![0, 512] S1x512.size inb_S1x2432_S1x512_0_512))) (z28 i σ))))) := by unfold S17; dsimp only; rw [S16_a28]
theorem S18_a15 : (S18 i σ).a15 = (put (Rect.unit (s := S1x192x512) ![0, 0, 384] S1x192x128.size inb_S1x192x512_S1x192x128_0_0_384).emb (k0_pay65 (x_v312 i σ) (x_v391 i σ) (x_v395 i σ) (x_c4_i32_165 i σ) (ld σ.a5 (Rect.unit (s := S4x128x128) ![3, 0, 0] S1x128x128.size inb_S4x128x128_S1x128x128_3_0_0)) (ld σ.a6 (Rect.unit (s := S1x512) ![0, 384] S1x128.size inb_S1x512_S1x128_0_384))) (put (Rect.unit (s := S1x192x512) ![0, 0, 256] S1x192x128.size inb_S1x192x512_S1x192x128_0_0_256).emb (k0_pay63 (x_v312 i σ) (ld (E1 i σ) (Rect.unit (s := S208x2432) ![0, 256] S208x128.size inb_S208x2432_S208x128_0_256)) (ld σ.a5 (Rect.unit (s := S4x128x128) ![2, 0, 0] S1x128x128.size inb_S4x128x128_S1x128x128_2_0_0)) (ld σ.a6 (Rect.unit (s := S1x512) ![0, 256] S1x128.size inb_S1x512_S1x128_0_256))) (put (Rect.unit (s := S1x192x512) ![0, 0, 128] S1x192x128.size inb_S1x192x512_S1x192x128_0_0_128).emb (k0_pay62 (x_v359 i σ)) (put (Rect.unit (s := S1x192x512) ![0, 0, 0] S1x192x128.size inb_S1x192x512_S1x192x128_0_0_0).emb (k0_pay60 (x_v313 i σ) (x_v323 i σ) (ld σ.a5 (Rect.unit (s := S4x128x128) ![0, 0, 0] S1x128x128.size inb_S4x128x128_S1x128x128_0_0_0)) (ld σ.a6 (Rect.unit (s := S1x512) ![0, 0] S1x128.size inb_S1x512_S1x128_0_0))) σ.a15)))) := by unfold S18; exact S17_a15 i σ
theorem S18_a16 : (S18 i σ).a16 = (k0_pay47 (x_v179 i σ) (x_v202 i σ)) := by unfold S18; exact S17_a16 i σ
theorem S18_a17 : (S18 i σ).a17 = (k0_pay45 (x_v31 i σ) (x_v100 i σ)) := by unfold S18; exact S17_a17 i σ
theorem S18_a18 : (S18 i σ).a18 = (k0_pay49 (x_v194 i σ)) := by unfold S18; exact S17_a18 i σ
theorem S18_a19 : (S18 i σ).a19 = (k0_pay48 (x_v192 i σ)) := by unfold S18; exact S17_a19 i σ
theorem S18_a20 : (S18 i σ).a20 = (k0_pay51 (x_v101 i σ) (x_v194 i σ)) := by unfold S18; exact S17_a20 i σ
theorem S18_a21 : (S18 i σ).a21 = (k0_pay50 (x_v101 i σ) (x_v192 i σ)) := by unfold S18; exact S17_a21 i σ
theorem S18_a22 : (S18 i σ).a22 = (k0_pay52 (x_v39 i σ)) := by unfold S18; exact S17_a22 i σ
theorem S18_a23 : (S18 i σ).a23 = (k0_pay56 (x_v282 i σ)) := by unfold S18; exact S17_a23 i σ
theorem S18_a24 : (S18 i σ).a24 = (k0_pay1 (x_v533 i σ) (x_v535 i σ)) := by unfold S18; exact S17_a24 i σ
theorem S18_a25 : (S18 i σ).a25 = (put (Rect.unit (s := S1x24x512) ![0, 16, 0] S1x8x512.size inb_S1x24x512_S1x8x512_0_16_0).emb (k0_pay24 (x_v53 i σ) (x_v54 i σ) (x_v57 i σ)) (put (Rect.unit (s := S1x24x512) ![0, 8, 0] S1x8x512.size inb_S1x24x512_S1x8x512_0_8_0).emb (k0_pay21 (x_v53 i σ) (x_v54 i σ) (x_v57 i σ)) (put (Rect.unit (s := S1x24x512) ![0, 0, 0] S1x8x512.size inb_S1x24x512_S1x8x512_0_0_0).emb (k0_pay18 (x_v66 i σ)) σ.a25))) := by unfold S18; exact S17_a25 i σ
theorem S18_a26 : (S18 i σ).a26 = (k0_pay2 (x_v464 i σ)) := by unfold S18; exact S17_a26 i σ
theorem S18_a27 : (S18 i σ).a27 = put (Rect.unit (s := S208x2432) ![0, 0] S16x2432.size inb_S208x2432_S16x2432_0_0).emb (k0_pay4 (x_arg0 i σ) (ld (E1 i σ) (Rect.unit (s := S208x2432) ![192, 0] S16x2432.size inb_S208x2432_S16x2432_192_0)) (ld (E1 i σ) (Rect.unit (s := S208x2432) ![0, 0] S16x2432.size inb_S208x2432_S16x2432_0_0))) (E1 i σ) := by unfold S18; dsimp only; rw [S17_a27]
theorem S18_a28 : (S18 i σ).a28 = put (slotEmb (k0_off2 i) (k0_off2_inb i) (Rect.unit (s := S5x192x512) ![2, 0, 0] S1x192x512.size inb_S5x192x512_S1x192x512_2_0_0)) (k0_pay3 (x_v464 i σ)) (put (slotEmb (k0_off2 i) (k0_off2_inb i) (Rect.unit (s := S5x192x512) ![4, 0, 0] S1x192x512.size inb_S5x192x512_S1x192x512_4_0_0)) (k0_pay73 (x_v472 i σ) (ld σ.a9 (Rect.unit (s := S1x512) ![0, 0] S1x512.size inb_S1x512_S1x512_0_0)) (ld σ.a10 (Rect.unit (s := S128x512) ![0, 0] S128x512.size inb_S128x512_S128x512_0_0))) (put (slotEmb (k0_off2 i) (k0_off2_inb i) (Rect.unit (s := S5x192x512) ![3, 0, 0] S1x192x512.size inb_S5x192x512_S1x192x512_3_0_0)) (k0_pay72 (x_v500 i σ)) (put (slotEmb (k0_off2 i) (k0_off2_inb i) (Rect.unit (s := S5x192x512) ![1, 0, 0] S1x192x512.size inb_S5x192x512_S1x192x512_1_0_0)) (k0_pay67 (ld (E1 i σ) (Rect.unit (s := S208x2432) ![16, 1024] S192x512.size inb_S208x2432_S192x512_16_1024)) (ld (E1 i σ) (Rect.unit (s := S208x2432) ![15, 1024] S192x512.size inb_S208x2432_S192x512_15_1024)) (ld σ.a4 (Rect.unit (s := S1x2432) ![0, 1024] S1x512.size inb_S1x2432_S1x512_0_1024))) (put (slotEmb (k0_off2 i) (k0_off2_inb i) (Rect.unit (s := S5x192x512) ![0, 0, 0] S1x192x512.size inb_S5x192x512_S1x192x512_0_0_0)) (k0_pay66 (x_v431 i σ) (x_v432 i σ) (ld σ.a4 (Rect.unit (s := S1x2432) ![0, 512] S1x512.size inb_S1x2432_S1x512_0_512))) (z28 i σ))))) := by unfold S18; exact S17_a28 i σ

/-- The value `arg0`, of the contents the point starts from. -/
theorem f_arg0 : x_arg0 i σ = c_arg0 i := rfl

/-- The value `v10`, of the contents the point starts from. -/
theorem f_v10 : x_v10 i σ = c_v10 i := rfl

/-- The value `v31`, of the contents the point starts from. -/
theorem f_v31 : x_v31 i σ = k0_pay7 (ldSlot (k0_off1 i) (k0_off1_inb i) (z28 i σ) (Rect.unit (s := S5x192x512) ![0, 0, 0] S1x192x512.size inb_S5x192x512_S1x192x512_0_0_0)) := rfl

/-- The value `v35`, of the contents the point starts from. -/
theorem f_v35 : x_v35 i σ = k0_pay8 (ldSlot (k0_off1 i) (k0_off1_inb i) (z28 i σ) (Rect.unit (s := S5x192x512) ![1, 0, 0] S1x192x512.size inb_S5x192x512_S1x192x512_1_0_0)) := by
  unfold x_v35 p2_v35; rw [S1_a28]

/-- The value `v39`, of the contents the point starts from. -/
theorem f_v39 : x_v39 i σ = k0_pay9 (ldSlot (k0_off1 i) (k0_off1_inb i) (z28 i σ) (Rect.unit (s := S5x192x512) ![2, 0, 0] S1x192x512.size inb_S5x192x512_S1x192x512_2_0_0)) := by
  unfold x_v39 p2_v39; rw [S1_a28]

/-- The value `v43`, of the contents the point starts from. -/
theorem f_v43 : x_v43 i σ = k0_pay10 (ldSlot (k0_off1 i) (k0_off1_inb i) (z28 i σ) (Rect.unit (s := S5x192x512) ![3, 0, 0] S1x192x512.size inb_S5x192x512_S1x192x512_3_0_0)) := by
  unfold x_v43 p2_v43; rw [S1_a28]

/-- The value `v47`, of the contents the point starts from. -/
theorem f_v47 : x_v47 i σ = k0_pay11 (ldSlot (k0_off1 i) (k0_off1_inb i) (z28 i σ) (Rect.unit (s := S5x192x512) ![4, 0, 0] S1x192x512.size inb_S5x192x512_S1x192x512_4_0_0)) := by
  unfold x_v47 p2_v47; rw [S1_a28]

/-- The value `v53`, of the contents the point starts from. -/
theorem f_v53 : x_v53 i σ = k0_pay12 (F := F) := rfl

/-- The value `v54`, of the contents the point starts from. -/
theorem f_v54 : x_v54 i σ = k0_pay13 (ldSlot (k0_off1 i) (k0_off1_inb i) (z28 i σ) (Rect.unit (s := S5x192x512) ![3, 0, 0] S1x192x512.size inb_S5x192x512_S1x192x512_3_0_0)) := by
  unfold x_v54 p2_v54; rw [S1_a28]

/-- The value `v57`, of the contents the point starts from. -/
theorem f_v57 : x_v57 i σ = k0_pay14 (ldSlot (k0_off1 i) (k0_off1_inb i) (z28 i σ) (Rect.unit (s := S5x192x512) ![3, 0, 0] S1x192x512.size inb_S5x192x512_S1x192x512_3_0_0)) := by
  unfold x_v57 p2_v57; rw [S1_a28]

/-- The value `v62`, of the contents the point starts from. -/
theorem f_v62 : x_v62 i σ = k0_pay15 (ldSlot (k0_off1 i) (k0_off1_inb i) (z28 i σ) (Rect.unit (s := S5x192x512) ![3, 0, 0] S1x192x512.size inb_S5x192x512_S1x192x512_3_0_0)) := by
  unfold x_v62 p2_v62; rw [S1_a28]

/-- The value `v64`, of the contents the point starts from. -/
theorem f_v64 : x_v64 i σ = k0_pay16 (ldSlot (k0_off1 i) (k0_off1_inb i) (z28 i σ) (Rect.unit (s := S5x192x512) ![3, 0, 0] S1x192x512.size inb_S5x192x512_S1x192x512_3_0_0)) := by
  unfold x_v64 p2_v64; rw [S1_a28]

/-- The value `v66`, of the contents the point starts from. -/
theorem f_v66 : x_v66 i σ = k0_pay17 (ldSlot (k0_off1 i) (k0_off1_inb i) (z28 i σ) (Rect.unit (s := S5x192x512) ![3, 0, 0] S1x192x512.size inb_S5x192x512_S1x192x512_3_0_0)) := by
  unfold x_v66 p2_v66; rw [S1_a28]

/-- The value `v100`, of the contents the point starts from. -/
theorem f_v100 : x_v100 i σ = k0_pay25 (x_v53 i σ) (x_v54 i σ) (x_v57 i σ) (x_v62 i σ) := rfl

/-- The value `v101`, of the contents the point starts from. -/
theorem f_v101 : x_v101 i σ = k0_pay26 (x_v53 i σ) (x_v54 i σ) (x_v57 i σ) (x_v64 i σ) := rfl

/-- The value `v104`, of the contents the point starts from. -/
theorem f_v104 : x_v104 i σ = k0_pay27 := rfl

/-- The value `v107`, of the contents the point starts from. -/
theorem f_v107 : x_v107 i σ = k0_pay28 (ld σ.a12 (Rect.unit (s := S1x512) ![0, 0] S1x512.size inb_S1x512_S1x512_0_0)) := by
  unfold x_v107 p3_v107; rw [S2_a12]

/-- The value `v108`, of the contents the point starts from. -/
theorem f_v108 : x_v108 i σ = k0_pay29 (x_v35 i σ) (x_v107 i σ) := rfl

/-- The value `v130`, of the contents the point starts from. -/
theorem f_v130 : x_v130 i σ = k0_pay31 (x_v35 i σ) (x_v107 i σ) := rfl

/-- The value `v133`, of the contents the point starts from. -/
theorem f_v133 : x_v133 i σ = k0_pay32 (x_v35 i σ) (x_v107 i σ) := rfl

/-- The value `v136`, of the contents the point starts from. -/
theorem f_v136 : x_v136 i σ = k0_pay33 (x_v35 i σ) (x_v107 i σ) := rfl

/-- The value `v139`, of the contents the point starts from. -/
theorem f_v139 : x_v139 i σ = k0_pay34 (x_v35 i σ) (x_v107 i σ) := rfl

/-- The value `v142`, of the contents the point starts from. -/
theorem f_v142 : x_v142 i σ = k0_pay35 (x_v35 i σ) (x_v107 i σ) := rfl

/-- The value `v145`, of the contents the point starts from. -/
theorem f_v145 : x_v145 i σ = k0_pay36 (x_v35 i σ) (x_v107 i σ) := rfl

/-- The value `v148`, of the contents the point starts from. -/
theorem f_v148 : x_v148 i σ = k0_pay37 (x_v35 i σ) (x_v107 i σ) := rfl

/-- The value `v151`, of the contents the point starts from. -/
theorem f_v151 : x_v151 i σ = k0_pay38 (x_v35 i σ) (x_v107 i σ) := rfl

/-- The value `v152`, of the contents the point starts from. -/
theorem f_v152 : x_v152 i σ = k0_pay39 (F := F) := rfl

/-- The value `v179`, of the contents the point starts from. -/
theorem f_v179 : x_v179 i σ = k0_pay40 (x_v104 i σ) (x_v108 i σ) (x_v130 i σ) (x_v133 i σ) (x_v136 i σ) (x_v139 i σ) (x_v142 i σ) (x_v145 i σ) (x_v148 i σ) (x_v151 i σ) (x_v152 i σ) := rfl

/-- The value `v188`, of the contents the point starts from. -/
theorem f_v188 : x_v188 i σ = k0_pay41 (x_v35 i σ) (x_v47 i σ) (ld σ.a13 (Rect.unit (s := S1x512) ![0, 0] S1x512.size inb_S1x512_S1x512_0_0)) := by
  unfold x_v188 p5_v188; rw [S4_a13]

/-- The value `v192`, of the contents the point starts from. -/
theorem f_v192 : x_v192 i σ = k0_pay43 (x_v35 i σ) (x_v47 i σ) (x_v100 i σ) (ld σ.a13 (Rect.unit (s := S1x512) ![0, 0] S1x512.size inb_S1x512_S1x512_0_0)) := by
  unfold x_v192 p5_v192; rw [S4_a13]

/-- The value `v194`, of the contents the point starts from. -/
theorem f_v194 : x_v194 i σ = k0_pay44 (x_v47 i σ) (x_v100 i σ) (x_v104 i σ) (x_v108 i σ) (x_v130 i σ) (x_v133 i σ) (x_v136 i σ) (x_v139 i σ) (x_v142 i σ) (x_v145 i σ) (x_v148 i σ) (x_v151 i σ) (x_v152 i σ) := rfl

/-- The value `v202`, of the contents the point starts from. -/
theorem f_v202 : x_v202 i σ = k0_pay46 (x_v43 i σ) (x_v100 i σ) := rfl

/-- The value `v232`, of the contents the point starts from. -/
theorem f_v232 : x_v232 i σ = k0_pay53 (x_v31 i σ) (x_v188 i σ) := rfl

/-- The value `v235`, of the contents the point starts from. -/
theorem f_v235 : x_v235 i σ = k0_pay54 (ld σ.a14 (Rect.unit (s := S1x512) ![0, 0] S1x512.size inb_S1x512_S1x512_0_0)) := by
  unfold x_v235 p6_v235; rw [S5_a14]

/-- The value `v282`, of the contents the point starts from. -/
theorem f_v282 : x_v282 i σ = (k0_pay55 (x_v39 i σ) (x_v104 i σ) (x_v232 i σ) (x_v235 i σ)) := rfl

/-- The value `v312`, of the contents the point starts from. -/
theorem f_v312 : x_v312 i σ = k0_pay58 (x_v10 i σ) := rfl

/-- The value `v313`, of the contents the point starts from. -/
theorem f_v313 : x_v313 i σ = (ld (E1 i σ) (Rect.unit (s := S208x2432) ![0, 0] S208x128.size inb_S208x2432_S208x128_0_0)) := by
  unfold x_v313 p8_v313 E1; rw [S7_a1, S7_a2, S7_a3, S7_a27]

/-- The value `v323`, of the contents the point starts from. -/
theorem f_v323 : x_v323 i σ = k0_pay59 (x_v10 i σ) (ld (E1 i σ) (Rect.unit (s := S208x2432) ![0, 0] S208x128.size inb_S208x2432_S208x128_0_0)) := by
  unfold x_v323 p8_v323 E1; rw [S7_a1, S7_a2, S7_a3, S7_a27]

/-- The value `v359`, of the contents the point starts from. -/
theorem f_v359 : x_v359 i σ = (k0_pay61 (x_v312 i σ) (ld (E1 i σ) (Rect.unit (s := S208x2432) ![0, 128] S208x128.size inb_S208x2432_S208x128_0_128)) (ld σ.a5 (Rect.unit (s := S4x128x128) ![1, 0, 0] S1x128x128.size inb_S4x128x128_S1x128x128_1_0_0)) (ld σ.a6 (Rect.unit (s := S1x512) ![0, 128] S1x128.size inb_S1x512_S1x128_0_128))) := by
  unfold x_v359 p9_v359; rw [S8_a5, S8_a6, S8_a27]

/-- The value `v391`, of the contents the point starts from. -/
theorem f_v391 : x_v391 i σ = (ld (E1 i σ) (Rect.unit (s := S208x2432) ![0, 384] S208x128.size inb_S208x2432_S208x128_0_384)) := by
  unfold x_v391 p10_v391; rw [S9_a27]

/-- The value `v395`, of the contents the point starts from. -/
theorem f_v395 : x_v395 i σ = k0_pay64 (ld (E1 i σ) (Rect.unit (s := S208x2432) ![0, 384] S208x128.size inb_S208x2432_S208x128_0_384)) := by
  unfold x_v395 p10_v395; rw [S9_a27]

/-- The value `c4_i32_165`, of the contents the point starts from. -/
theorem f_c4_i32_165 : x_c4_i32_165 i σ = 4#32 := rfl

/-- The value `v431`, of the contents the point starts from. -/
theorem f_v431 : x_v431 i σ = (ld (E1 i σ) (Rect.unit (s := S208x2432) ![16, 512] S192x512.size inb_S208x2432_S192x512_16_512)) := by
  unfold x_v431 p11_v431; rw [S10_a27]

/-- The value `v432`, of the contents the point starts from. -/
theorem f_v432 : x_v432 i σ = (ld (E1 i σ) (Rect.unit (s := S208x2432) ![15, 512] S192x512.size inb_S208x2432_S192x512_15_512)) := by
  unfold x_v432 p11_v432; rw [S10_a27]

/-- The value `v464`, of the contents the point starts from. -/
theorem f_v464 : x_v464 i σ = (k0_pay68 (ld (E1 i σ) (Rect.unit (s := S208x2432) ![16, 1536] S192x512.size inb_S208x2432_S192x512_16_1536)) (ld (E1 i σ) (Rect.unit (s := S208x2432) ![15, 1536] S192x512.size inb_S208x2432_S192x512_15_1536)) (ld σ.a4 (Rect.unit (s := S1x2432) ![0, 1536] S1x512.size inb_S1x2432_S1x512_0_1536))) := by
  unfold x_v464 p12_v464; rw [S11_a4, S11_a27]

/-- The value `v472`, of the contents the point starts from. -/
theorem f_v472 : x_v472 i σ = k0_pay69 (ld (E1 i σ) (Rect.unit (s := S208x2432) ![16, 2048] S192x128.size inb_S208x2432_S192x128_16_2048)) (ld (E1 i σ) (Rect.unit (s := S208x2432) ![15, 2048] S192x128.size inb_S208x2432_S192x128_15_2048)) (ld σ.a4 (Rect.unit (s := S1x2432) ![0, 2048] S1x128.size inb_S1x2432_S1x128_0_2048)) := by
  unfold x_v472 p13_v472; rw [S12_a4, S12_a27]

/-- The value `v480`, of the contents the point starts from. -/
theorem f_v480 : x_v480 i σ = k0_pay70 (ld (E1 i σ) (Rect.unit (s := S208x2432) ![16, 2176] S192x256.size inb_S208x2432_S192x256_16_2176)) (ld (E1 i σ) (Rect.unit (s := S208x2432) ![15, 2176] S192x256.size inb_S208x2432_S192x256_15_2176)) (ld σ.a4 (Rect.unit (s := S1x2432) ![0, 2176] S1x256.size inb_S1x2432_S1x256_0_2176)) := by
  unfold x_v480 p13_v480; rw [S12_a4, S12_a27]

/-- The value `v500`, of the contents the point starts from. -/
theorem f_v500 : x_v500 i σ = k0_pay71 (ld (E1 i σ) (Rect.unit (s := S208x2432) ![16, 2048] S192x128.size inb_S208x2432_S192x128_16_2048)) (ld (E1 i σ) (Rect.unit (s := S208x2432) ![15, 2048] S192x128.size inb_S208x2432_S192x128_15_2048)) (ld σ.a4 (Rect.unit (s := S1x2432) ![0, 2048] S1x128.size inb_S1x2432_S1x128_0_2048)) (ld σ.a7 (Rect.unit (s := S1x512) ![0, 0] S1x512.size inb_S1x512_S1x512_0_0)) (ld σ.a8 (Rect.unit (s := S128x512) ![0, 0] S128x512.size inb_S128x512_S128x512_0_0)) := by
  unfold x_v500 p13_v500; rw [S12_a4, S12_a7, S12_a8, S12_a27]

/-- The value `v533`, of the contents the point starts from. -/
theorem f_v533 : x_v533 i σ = k0_pay74 (x_v480 i σ) := rfl

/-- The value `v535`, of the contents the point starts from. -/
theorem f_v535 : x_v535 i σ = k0_pay75 (ld σ.a11 (Rect.unit (s := S256x512) ![0, 0] S256x512.size inb_S256x512_S256x512_0_0)) := by
  unfold x_v535 p14_v535; rw [S13_a11]

/-- Two contents that agree wherever the body reads. -/
structure Same (i : grid0.Coords) (σ σ' : St F) : Prop where
  e1 : σ.a1 = σ'.a1
  e2 : σ.a2 = σ'.a2
  e3 : σ.a3 = σ'.a3
  e4 : σ.a4 = σ'.a4
  e5 : σ.a5 = σ'.a5
  e6 : σ.a6 = σ'.a6
  e7 : σ.a7 = σ'.a7
  e8 : σ.a8 = σ'.a8
  e9 : σ.a9 = σ'.a9
  e10 : σ.a10 = σ'.a10
  e11 : σ.a11 = σ'.a11
  e12 : σ.a12 = σ'.a12
  e13 : σ.a13 = σ'.a13
  e14 : σ.a14 = σ'.a14
  z : z28 i σ = z28 i σ'
  E : E1 i σ = E1 i σ'

variable {i σ} {σ' : St F} (H : Same i σ σ')
include H

/-- The value `arg0` does not see the unread contents. -/
theorem xe_arg0 : x_arg0 i σ = x_arg0 i σ' := by
  rw [f_arg0, f_arg0]

/-- The value `v10` does not see the unread contents. -/
theorem xe_v10 : x_v10 i σ = x_v10 i σ' := by
  rw [f_v10, f_v10]

/-- The value `v31` does not see the unread contents. -/
theorem xe_v31 : x_v31 i σ = x_v31 i σ' := by
  rw [f_v31, f_v31, H.z]

/-- The value `v35` does not see the unread contents. -/
theorem xe_v35 : x_v35 i σ = x_v35 i σ' := by
  rw [f_v35, f_v35, H.z]

/-- The value `v39` does not see the unread contents. -/
theorem xe_v39 : x_v39 i σ = x_v39 i σ' := by
  rw [f_v39, f_v39, H.z]

/-- The value `v43` does not see the unread contents. -/
theorem xe_v43 : x_v43 i σ = x_v43 i σ' := by
  rw [f_v43, f_v43, H.z]

/-- The value `v47` does not see the unread contents. -/
theorem xe_v47 : x_v47 i σ = x_v47 i σ' := by
  rw [f_v47, f_v47, H.z]

/-- The value `v53` does not see the unread contents. -/
theorem xe_v53 : x_v53 i σ = x_v53 i σ' := by
  rw [f_v53, f_v53]

/-- The value `v54` does not see the unread contents. -/
theorem xe_v54 : x_v54 i σ = x_v54 i σ' := by
  rw [f_v54, f_v54, H.z]

/-- The value `v57` does not see the unread contents. -/
theorem xe_v57 : x_v57 i σ = x_v57 i σ' := by
  rw [f_v57, f_v57, H.z]

/-- The value `v62` does not see the unread contents. -/
theorem xe_v62 : x_v62 i σ = x_v62 i σ' := by
  rw [f_v62, f_v62, H.z]

/-- The value `v64` does not see the unread contents. -/
theorem xe_v64 : x_v64 i σ = x_v64 i σ' := by
  rw [f_v64, f_v64, H.z]

/-- The value `v66` does not see the unread contents. -/
theorem xe_v66 : x_v66 i σ = x_v66 i σ' := by
  rw [f_v66, f_v66, H.z]

/-- The value `v100` does not see the unread contents. -/
theorem xe_v100 : x_v100 i σ = x_v100 i σ' := by
  rw [f_v100, f_v100, xe_v53 H, xe_v54 H, xe_v57 H, xe_v62 H]

/-- The value `v101` does not see the unread contents. -/
theorem xe_v101 : x_v101 i σ = x_v101 i σ' := by
  rw [f_v101, f_v101, xe_v53 H, xe_v54 H, xe_v57 H, xe_v64 H]

/-- The value `v104` does not see the unread contents. -/
theorem xe_v104 : x_v104 i σ = x_v104 i σ' := by
  rw [f_v104, f_v104]

/-- The value `v107` does not see the unread contents. -/
theorem xe_v107 : x_v107 i σ = x_v107 i σ' := by
  rw [f_v107, f_v107, H.e12]

/-- The value `v108` does not see the unread contents. -/
theorem xe_v108 : x_v108 i σ = x_v108 i σ' := by
  rw [f_v108, f_v108, xe_v35 H, xe_v107 H]

/-- The value `v130` does not see the unread contents. -/
theorem xe_v130 : x_v130 i σ = x_v130 i σ' := by
  rw [f_v130, f_v130, xe_v35 H, xe_v107 H]

/-- The value `v133` does not see the unread contents. -/
theorem xe_v133 : x_v133 i σ = x_v133 i σ' := by
  rw [f_v133, f_v133, xe_v35 H, xe_v107 H]

/-- The value `v136` does not see the unread contents. -/
theorem xe_v136 : x_v136 i σ = x_v136 i σ' := by
  rw [f_v136, f_v136, xe_v35 H, xe_v107 H]

/-- The value `v139` does not see the unread contents. -/
theorem xe_v139 : x_v139 i σ = x_v139 i σ' := by
  rw [f_v139, f_v139, xe_v35 H, xe_v107 H]

/-- The value `v142` does not see the unread contents. -/
theorem xe_v142 : x_v142 i σ = x_v142 i σ' := by
  rw [f_v142, f_v142, xe_v35 H, xe_v107 H]

/-- The value `v145` does not see the unread contents. -/
theorem xe_v145 : x_v145 i σ = x_v145 i σ' := by
  rw [f_v145, f_v145, xe_v35 H, xe_v107 H]

/-- The value `v148` does not see the unread contents. -/
theorem xe_v148 : x_v148 i σ = x_v148 i σ' := by
  rw [f_v148, f_v148, xe_v35 H, xe_v107 H]

/-- The value `v151` does not see the unread contents. -/
theorem xe_v151 : x_v151 i σ = x_v151 i σ' := by
  rw [f_v151, f_v151, xe_v35 H, xe_v107 H]

/-- The value `v152` does not see the unread contents. -/
theorem xe_v152 : x_v152 i σ = x_v152 i σ' := by
  rw [f_v152, f_v152]

/-- The value `v179` does not see the unread contents. -/
theorem xe_v179 : x_v179 i σ = x_v179 i σ' := by
  rw [f_v179, f_v179, xe_v104 H, xe_v108 H, xe_v130 H, xe_v133 H, xe_v136 H, xe_v139 H, xe_v142 H, xe_v145 H, xe_v148 H, xe_v151 H, xe_v152 H]

/-- The value `v188` does not see the unread contents. -/
theorem xe_v188 : x_v188 i σ = x_v188 i σ' := by
  rw [f_v188, f_v188, xe_v35 H, xe_v47 H, H.e13]

/-- The value `v192` does not see the unread contents. -/
theorem xe_v192 : x_v192 i σ = x_v192 i σ' := by
  rw [f_v192, f_v192, xe_v35 H, xe_v47 H, xe_v100 H, H.e13]

/-- The value `v194` does not see the unread contents. -/
theorem xe_v194 : x_v194 i σ = x_v194 i σ' := by
  rw [f_v194, f_v194, xe_v47 H, xe_v100 H, xe_v104 H, xe_v108 H, xe_v130 H, xe_v133 H, xe_v136 H, xe_v139 H, xe_v142 H, xe_v145 H, xe_v148 H, xe_v151 H, xe_v152 H]

/-- The value `v202` does not see the unread contents. -/
theorem xe_v202 : x_v202 i σ = x_v202 i σ' := by
  rw [f_v202, f_v202, xe_v43 H, xe_v100 H]

/-- The value `v232` does not see the unread contents. -/
theorem xe_v232 : x_v232 i σ = x_v232 i σ' := by
  rw [f_v232, f_v232, xe_v31 H, xe_v188 H]

/-- The value `v235` does not see the unread contents. -/
theorem xe_v235 : x_v235 i σ = x_v235 i σ' := by
  rw [f_v235, f_v235, H.e14]

/-- The value `v282` does not see the unread contents. -/
theorem xe_v282 : x_v282 i σ = x_v282 i σ' := by
  rw [f_v282, f_v282, xe_v39 H, xe_v104 H, xe_v232 H, xe_v235 H]

/-- The value `v312` does not see the unread contents. -/
theorem xe_v312 : x_v312 i σ = x_v312 i σ' := by
  rw [f_v312, f_v312, xe_v10 H]

/-- The value `v313` does not see the unread contents. -/
theorem xe_v313 : x_v313 i σ = x_v313 i σ' := by
  rw [f_v313, f_v313, H.E]

/-- The value `v323` does not see the unread contents. -/
theorem xe_v323 : x_v323 i σ = x_v323 i σ' := by
  rw [f_v323, f_v323, xe_v10 H, H.E]

/-- The value `v359` does not see the unread contents. -/
theorem xe_v359 : x_v359 i σ = x_v359 i σ' := by
  rw [f_v359, f_v359, xe_v312 H, H.e5, H.e6, H.E]

/-- The value `v391` does not see the unread contents. -/
theorem xe_v391 : x_v391 i σ = x_v391 i σ' := by
  rw [f_v391, f_v391, H.E]

/-- The value `v395` does not see the unread contents. -/
theorem xe_v395 : x_v395 i σ = x_v395 i σ' := by
  rw [f_v395, f_v395, H.E]

/-- The value `c4_i32_165` does not see the unread contents. -/
theorem xe_c4_i32_165 : x_c4_i32_165 i σ = x_c4_i32_165 i σ' := by
  rw [f_c4_i32_165, f_c4_i32_165]

/-- The value `v431` does not see the unread contents. -/
theorem xe_v431 : x_v431 i σ = x_v431 i σ' := by
  rw [f_v431, f_v431, H.E]

/-- The value `v432` does not see the unread contents. -/
theorem xe_v432 : x_v432 i σ = x_v432 i σ' := by
  rw [f_v432, f_v432, H.E]

/-- The value `v464` does not see the unread contents. -/
theorem xe_v464 : x_v464 i σ = x_v464 i σ' := by
  rw [f_v464, f_v464, H.e4, H.E]

/-- The value `v472` does not see the unread contents. -/
theorem xe_v472 : x_v472 i σ = x_v472 i σ' := by
  rw [f_v472, f_v472, H.e4, H.E]

/-- The value `v480` does not see the unread contents. -/
theorem xe_v480 : x_v480 i σ = x_v480 i σ' := by
  rw [f_v480, f_v480, H.e4, H.E]

/-- The value `v500` does not see the unread contents. -/
theorem xe_v500 : x_v500 i σ = x_v500 i σ' := by
  rw [f_v500, f_v500, H.e4, H.e7, H.e8, H.E]

/-- The value `v533` does not see the unread contents. -/
theorem xe_v533 : x_v533 i σ = x_v533 i σ' := by
  rw [f_v533, f_v533, xe_v480 H]

/-- The value `v535` does not see the unread contents. -/
theorem xe_v535 : x_v535 i σ = x_v535 i σ' := by
  rw [f_v535, f_v535, H.e11]

/-- Buffer 15 ends the same. -/
theorem same_a15 : (S18 i σ).a15 = (S18 i σ').a15 := by
  rw [S18_a15, S18_a15, xe_v312 H, xe_v391 H, xe_v395 H, xe_c4_i32_165 H, xe_v359 H, xe_v313 H, xe_v323 H, H.e5, H.e6, H.E]
  funext j
  have b0 : (j 0).val < 1 := (j 0).isLt
  have b1 : (j 1).val < 192 := (j 1).isLt
  have b2 : (j 2).val < 512 := (j 2).isLt
  refine put_at _ _ fun h4 => put_at _ _ fun h3 => put_at _ _ fun h2 => put_at _ _ fun h1 => ?_
  have k4 : ¬ (384 ≤ (j 2).val) := fun hc => h4 (unit_hit _ _ _ _ (box3 j (by omega)))
  have k3 : ¬ (256 ≤ (j 2).val) := fun hc => h3 (unit_hit _ _ _ _ (box3 j (by omega)))
  have k2 : ¬ (128 ≤ (j 2).val) := fun hc => h2 (unit_hit _ _ _ _ (box3 j (by omega)))
  exact absurd (unit_hit _ _ _ _ (box3 j (by omega))) h1

/-- Buffer 16 ends the same. -/
theorem same_a16 : (S18 i σ).a16 = (S18 i σ').a16 := by
  rw [S18_a16, S18_a16, xe_v179 H, xe_v202 H]

/-- Buffer 17 ends the same. -/
theorem same_a17 : (S18 i σ).a17 = (S18 i σ').a17 := by
  rw [S18_a17, S18_a17, xe_v31 H, xe_v100 H]

/-- Buffer 18 ends the same. -/
theorem same_a18 : (S18 i σ).a18 = (S18 i σ').a18 := by
  rw [S18_a18, S18_a18, xe_v194 H]

/-- Buffer 19 ends the same. -/
theorem same_a19 : (S18 i σ).a19 = (S18 i σ').a19 := by
  rw [S18_a19, S18_a19, xe_v192 H]

/-- Buffer 20 ends the same. -/
theorem same_a20 : (S18 i σ).a20 = (S18 i σ').a20 := by
  rw [S18_a20, S18_a20, xe_v101 H, xe_v194 H]

/-- Buffer 21 ends the same. -/
theorem same_a21 : (S18 i σ).a21 = (S18 i σ').a21 := by
  rw [S18_a21, S18_a21, xe_v101 H, xe_v192 H]

/-- Buffer 22 ends the same. -/
theorem same_a22 : (S18 i σ).a22 = (S18 i σ').a22 := by
  rw [S18_a22, S18_a22, xe_v39 H]

/-- Buffer 23 ends the same. -/
theorem same_a23 : (S18 i σ).a23 = (S18 i σ').a23 := by
  rw [S18_a23, S18_a23, xe_v282 H]

/-- Buffer 24 ends the same. -/
theorem same_a24 : (S18 i σ).a24 = (S18 i σ').a24 := by
  rw [S18_a24, S18_a24, xe_v533 H, xe_v535 H]

/-- Buffer 25 ends the same. -/
theorem same_a25 : (S18 i σ).a25 = (S18 i σ').a25 := by
  rw [S18_a25, S18_a25, xe_v53 H, xe_v54 H, xe_v57 H, xe_v66 H]
  funext j
  have b0 : (j 0).val < 1 := (j 0).isLt
  have b1 : (j 1).val < 24 := (j 1).isLt
  have b2 : (j 2).val < 512 := (j 2).isLt
  refine put_at _ _ fun h3 => put_at _ _ fun h2 => put_at _ _ fun h1 => ?_
  have k3 : ¬ (16 ≤ (j 1).val) := fun hc => h3 (unit_hit _ _ _ _ (box3 j (by omega)))
  have k2 : ¬ (8 ≤ (j 1).val) := fun hc => h2 (unit_hit _ _ _ _ (box3 j (by omega)))
  exact absurd (unit_hit _ _ _ _ (box3 j (by omega))) h1

/-- Buffer 26 ends the same. -/
theorem same_a26 : (S18 i σ).a26 = (S18 i σ').a26 := by
  rw [S18_a26, S18_a26, xe_v464 H]

/-- Buffer 27 ends the same. -/
theorem same_a27 : (S18 i σ).a27 = (S18 i σ').a27 := by
  rw [S18_a27, S18_a27, xe_arg0 H, H.E]

/-- Buffer 28 ends the same. -/
theorem same_a28 : (S18 i σ).a28 = (S18 i σ').a28 := by
  rw [S18_a28, S18_a28, xe_v464 H, xe_v472 H, xe_v500 H, xe_v431 H, xe_v432 H, H.e4, H.e9, H.e10, H.z, H.E]

/-- A point leaves the same contents from contents that agree on what it reads. -/
theorem step_same : step i σ = step i σ' := by
  unfold step
  exact St.eq_of ((S18_a1 i σ).trans (H.e1.trans (S18_a1 i σ').symm)) ((S18_a2 i σ).trans (H.e2.trans (S18_a2 i σ').symm)) ((S18_a3 i σ).trans (H.e3.trans (S18_a3 i σ').symm)) ((S18_a4 i σ).trans (H.e4.trans (S18_a4 i σ').symm)) ((S18_a5 i σ).trans (H.e5.trans (S18_a5 i σ').symm)) ((S18_a6 i σ).trans (H.e6.trans (S18_a6 i σ').symm)) ((S18_a7 i σ).trans (H.e7.trans (S18_a7 i σ').symm)) ((S18_a8 i σ).trans (H.e8.trans (S18_a8 i σ').symm)) ((S18_a9 i σ).trans (H.e9.trans (S18_a9 i σ').symm)) ((S18_a10 i σ).trans (H.e10.trans (S18_a10 i σ').symm)) ((S18_a11 i σ).trans (H.e11.trans (S18_a11 i σ').symm)) ((S18_a12 i σ).trans (H.e12.trans (S18_a12 i σ').symm)) ((S18_a13 i σ).trans (H.e13.trans (S18_a13 i σ').symm)) ((S18_a14 i σ).trans (H.e14.trans (S18_a14 i σ').symm)) (same_a15 H) (same_a16 H) (same_a17 H) (same_a18 H) (same_a19 H) (same_a20 H) (same_a21 H) (same_a22 H) (same_a23 H) (same_a24 H) (same_a25 H) (same_a26 H) (same_a27 H) (same_a28 H)

end Cert.Mix
-- ==== Proof.MixOuts.lean ====
/-
  The mixers' input call, point by point: what its buffers hold.
-/
module

public import proofs.«01_k».proof.Proof.MixSem
public import proofs.«01_k».proof.Proof.Gen.Kernel3Ideal.Frame
public import Idealize.ShloMosaic.Lib.Claim

@[expose] public section

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel3Ideal Cert.Kernel3Ideal.Gen

set_option maxRecDepth 16384

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two scratch buffers. -/
abbrev sc0 : Memref sig .tc .vmem S208x2432 .f32 := Memref.whole cc0_scratch0
abbrev sc1 : Memref sig .tc .vmem S2x5x192x512 .f32 := Memref.whole cc0_scratch1

/-- The invariant the launch hands over, with the scratch buffers named. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; rfl

/-- The buffers held, one by one. -/
theorem held_eq (c : Dev nD) (B : Bufs) (σ : St F) : (held c B σ : sProp 𝕄) = iprop(owns (c : Thread nD τ) B.a1 fullShare σ.a1 ∗ owns (c : Thread nD τ) B.a2 fullShare σ.a2 ∗ owns (c : Thread nD τ) B.a3 fullShare σ.a3 ∗ owns (c : Thread nD τ) B.a4 fullShare σ.a4 ∗ owns (c : Thread nD τ) B.a5 fullShare σ.a5 ∗ owns (c : Thread nD τ) B.a6 fullShare σ.a6 ∗ owns (c : Thread nD τ) B.a7 fullShare σ.a7 ∗ owns (c : Thread nD τ) B.a8 fullShare σ.a8 ∗ owns (c : Thread nD τ) B.a9 fullShare σ.a9 ∗ owns (c : Thread nD τ) B.a10 fullShare σ.a10 ∗ owns (c : Thread nD τ) B.a11 fullShare σ.a11 ∗ owns (c : Thread nD τ) B.a12 fullShare σ.a12 ∗ owns (c : Thread nD τ) B.a13 fullShare σ.a13 ∗ owns (c : Thread nD τ) B.a14 fullShare σ.a14 ∗ owns (c : Thread nD τ) B.a15 fullShare σ.a15 ∗ owns (c : Thread nD τ) B.a16 fullShare σ.a16 ∗ owns (c : Thread nD τ) B.a17 fullShare σ.a17 ∗ owns (c : Thread nD τ) B.a18 fullShare σ.a18 ∗ owns (c : Thread nD τ) B.a19 fullShare σ.a19 ∗ owns (c : Thread nD τ) B.a20 fullShare σ.a20 ∗ owns (c : Thread nD τ) B.a21 fullShare σ.a21 ∗ owns (c : Thread nD τ) B.a22 fullShare σ.a22 ∗ owns (c : Thread nD τ) B.a23 fullShare σ.a23 ∗ owns (c : Thread nD τ) B.a24 fullShare σ.a24 ∗ owns (c : Thread nD τ) B.a25 fullShare σ.a25 ∗ owns (c : Thread nD τ) B.a26 fullShare σ.a26 ∗ owns (c : Thread nD τ) B.a27 fullShare σ.a27 ∗ owns (c : Thread nD τ) B.a28 fullShare σ.a28) :=
  (bigSep_univ_eq_bigSepL ([.b1, .b2, .b3, .b4, .b5, .b6, .b7, .b8, .b9, .b10, .b11, .b12, .b13, .b14, .b15, .b16, .b17, .b18, .b19, .b20, .b21, .b22, .b23, .b24, .b25, .b26, .b27, .b28] : List Bn) (by decide) (by decide) fun k => owns (c : Thread nD τ) (B.fam k) fullShare (σ.fam k)).trans rfl

/-- The buffers of the point `t`. -/
noncomputable def bufs (t : Fin cfg0.N) : Bufs where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := win0_11.stage (cfg0.slots t 11)
  h12 := hstage0_11 ((cfg0.slots t 11).cast nbuf0_11)
  a13 := win0_12.stage (cfg0.slots t 12)
  h13 := hstage0_12 ((cfg0.slots t 12).cast nbuf0_12)
  a14 := win0_13.stage (cfg0.slots t 13)
  h14 := hstage0_13 ((cfg0.slots t 13).cast nbuf0_13)
  a15 := win0_14.stage (cfg0.slots t 14)
  h15 := hstage0_14 ((cfg0.slots t 14).cast nbuf0_14)
  a16 := win0_15.stage (cfg0.slots t 15)
  h16 := hstage0_15 ((cfg0.slots t 15).cast nbuf0_15)
  a17 := win0_16.stage (cfg0.slots t 16)
  h17 := hstage0_16 ((cfg0.slots t 16).cast nbuf0_16)
  a18 := win0_17.stage (cfg0.slots t 17)
  h18 := hstage0_17 ((cfg0.slots t 17).cast nbuf0_17)
  a19 := win0_18.stage (cfg0.slots t 18)
  h19 := hstage0_18 ((cfg0.slots t 18).cast nbuf0_18)
  a20 := win0_19.stage (cfg0.slots t 19)
  h20 := hstage0_19 ((cfg0.slots t 19).cast nbuf0_19)
  a21 := win0_20.stage (cfg0.slots t 20)
  h21 := hstage0_20 ((cfg0.slots t 20).cast nbuf0_20)
  a22 := win0_21.stage (cfg0.slots t 21)
  h22 := hstage0_21 ((cfg0.slots t 21).cast nbuf0_21)
  a23 := win0_22.stage (cfg0.slots t 22)
  h23 := hstage0_22 ((cfg0.slots t 22).cast nbuf0_22)
  a24 := win0_23.stage (cfg0.slots t 23)
  h24 := hstage0_23 ((cfg0.slots t 23).cast nbuf0_23)
  a25 := win0_24.stage (cfg0.slots t 24)
  h25 := hstage0_24 ((cfg0.slots t 24).cast nbuf0_24)
  a26 := win0_25.stage (cfg0.slots t 25)
  h26 := hstage0_25 ((cfg0.slots t 25).cast nbuf0_25)
  a27 := sc0
  h27 := Memref.isWhole_whole _
  a28 := sc1
  h28 := Memref.isWhole_whole _

/-- The contents `σ` with the inputs at the blocks of the point `t`. -/
noncomputable def inp (c : Dev nD) (t : Fin cfg0.N) (σ : St F) : St F :=
  { σ with a1 := iblk m c 0 t, a2 := iblk m c 1 t, a3 := iblk m c 2 t, a4 := iblk m c 3 t, a5 := iblk m c 4 t, a6 := iblk m c 5 t, a7 := iblk m c 6 t, a8 := iblk m c 7 t, a9 := iblk m c 8 t, a10 := iblk m c 9 t, a11 := iblk m c 10 t, a12 := iblk m c 11 t, a13 := iblk m c 12 t, a14 := iblk m c 13 t }

/-- Zero, of each element type. -/
noncomputable def zf : Elt F .f32 := k0_pay6 (F := F) (fun a => ⟨0, by revert a; decide⟩)
/-- The zero of the narrower format. -/
noncomputable def zb : Elt F .bf16 := k0_pay52 (F := F) (fun _ => zf) (fun a => ⟨0, by revert a; decide⟩)

/-- Some contents. -/
noncomputable def st0 : St F := ⟨fun _ => zf, fun _ => zf, fun _ => zb, fun _ => zf, fun _ => zb, fun _ => zf, fun _ => zf, fun _ => zb, fun _ => zf, fun _ => zb, fun _ => zb, fun _ => zf, fun _ => zf, fun _ => zf, fun _ => zf, fun _ => zb, fun _ => zb, fun _ => zb, fun _ => zb, fun _ => zb, fun _ => zb, fun _ => zb, fun _ => zf, fun _ => zf, fun _ => zf, fun _ => zf, fun _ => zf, fun _ => zf⟩

/-- What the buffers hold after the point `n`. -/
noncomputable def outs (c : Dev nD) : (n : ℕ) → n < cfg0.N → St F
  | 0, h => step (grid0.coords ⟨0, h⟩) (inp m c ⟨0, h⟩ st0)
  | n + 1, h => step (grid0.coords ⟨n + 1, h⟩) (inp m c ⟨n + 1, h⟩ (outs c n (Nat.lt_of_succ_lt h)))

/-- After the first point. -/
theorem outs_zero (c : Dev nD) (h : 0 < cfg0.N) : outs m c 0 h = step (grid0.coords ⟨0, h⟩) (inp m c ⟨0, h⟩ st0) := rfl

/-- After a later point. -/
theorem outs_succ (c : Dev nD) (n : ℕ) (h : n + 1 < cfg0.N) : outs m c (n + 1) h = step (grid0.coords ⟨n + 1, h⟩) (inp m c ⟨n + 1, h⟩ (outs m c n (Nat.lt_of_succ_lt h))) := rfl

/-- Buffer 1 of what a point starts from. -/
theorem inp_a1 (c : Dev nD) (t : Fin cfg0.N) (σ : St F) : (inp m c t σ).a1 = iblk m c 0 t := by dsimp only [inp]
/-- Buffer 2 of what a point starts from. -/
theorem inp_a2 (c : Dev nD) (t : Fin cfg0.N) (σ : St F) : (inp m c t σ).a2 = iblk m c 1 t := by dsimp only [inp]
/-- Buffer 3 of what a point starts from. -/
theorem inp_a3 (c : Dev nD) (t : Fin cfg0.N) (σ : St F) : (inp m c t σ).a3 = iblk m c 2 t := by dsimp only [inp]
/-- Buffer 4 of what a point starts from. -/
theorem inp_a4 (c : Dev nD) (t : Fin cfg0.N) (σ : St F) : (inp m c t σ).a4 = iblk m c 3 t := by dsimp only [inp]
/-- Buffer 5 of what a point starts from. -/
theorem inp_a5 (c : Dev nD) (t : Fin cfg0.N) (σ : St F) : (inp m c t σ).a5 = iblk m c 4 t := by dsimp only [inp]
/-- Buffer 6 of what a point starts from. -/
theorem inp_a6 (c : Dev nD) (t : Fin cfg0.N) (σ : St F) : (inp m c t σ).a6 = iblk m c 5 t := by dsimp only [inp]
/-- Buffer 7 of what a point starts from. -/
theorem inp_a7 (c : Dev nD) (t : Fin cfg0.N) (σ : St F) : (inp m c t σ).a7 = iblk m c 6 t := by dsimp only [inp]
/-- Buffer 8 of what a point starts from. -/
theorem inp_a8 (c : Dev nD) (t : Fin cfg0.N) (σ : St F) : (inp m c t σ).a8 = iblk m c 7 t := by dsimp only [inp]
/-- Buffer 9 of what a point starts from. -/
theorem inp_a9 (c : Dev nD) (t : Fin cfg0.N) (σ : St F) : (inp m c t σ).a9 = iblk m c 8 t := by dsimp only [inp]
/-- Buffer 10 of what a point starts from. -/
theorem inp_a10 (c : Dev nD) (t : Fin cfg0.N) (σ : St F) : (inp m c t σ).a10 = iblk m c 9 t := by dsimp only [inp]
/-- Buffer 11 of what a point starts from. -/
theorem inp_a11 (c : Dev nD) (t : Fin cfg0.N) (σ : St F) : (inp m c t σ).a11 = iblk m c 10 t := by dsimp only [inp]
/-- Buffer 12 of what a point starts from. -/
theorem inp_a12 (c : Dev nD) (t : Fin cfg0.N) (σ : St F) : (inp m c t σ).a12 = iblk m c 11 t := by dsimp only [inp]
/-- Buffer 13 of what a point starts from. -/
theorem inp_a13 (c : Dev nD) (t : Fin cfg0.N) (σ : St F) : (inp m c t σ).a13 = iblk m c 12 t := by dsimp only [inp]
/-- Buffer 14 of what a point starts from. -/
theorem inp_a14 (c : Dev nD) (t : Fin cfg0.N) (σ : St F) : (inp m c t σ).a14 = iblk m c 13 t := by dsimp only [inp]
/-- Buffer 27 of what a point starts from. -/
theorem inp_a27 (c : Dev nD) (t : Fin cfg0.N) (σ : St F) : (inp m c t σ).a27 = σ.a27 := by dsimp only [inp]
/-- Buffer 28 of what a point starts from. -/
theorem inp_a28 (c : Dev nD) (t : Fin cfg0.N) (σ : St F) : (inp m c t σ).a28 = σ.a28 := by dsimp only [inp]

/-- Buffer 1 after a step. -/
theorem step_a1 (i : grid0.Coords) (σ : St F) : (step i σ).a1 = σ.a1 := by unfold step; exact S18_a1 i σ
/-- Buffer 2 after a step. -/
theorem step_a2 (i : grid0.Coords) (σ : St F) : (step i σ).a2 = σ.a2 := by unfold step; exact S18_a2 i σ
/-- Buffer 3 after a step. -/
theorem step_a3 (i : grid0.Coords) (σ : St F) : (step i σ).a3 = σ.a3 := by unfold step; exact S18_a3 i σ
/-- Buffer 4 after a step. -/
theorem step_a4 (i : grid0.Coords) (σ : St F) : (step i σ).a4 = σ.a4 := by unfold step; exact S18_a4 i σ
/-- Buffer 5 after a step. -/
theorem step_a5 (i : grid0.Coords) (σ : St F) : (step i σ).a5 = σ.a5 := by unfold step; exact S18_a5 i σ
/-- Buffer 6 after a step. -/
theorem step_a6 (i : grid0.Coords) (σ : St F) : (step i σ).a6 = σ.a6 := by unfold step; exact S18_a6 i σ
/-- Buffer 7 after a step. -/
theorem step_a7 (i : grid0.Coords) (σ : St F) : (step i σ).a7 = σ.a7 := by unfold step; exact S18_a7 i σ
/-- Buffer 8 after a step. -/
theorem step_a8 (i : grid0.Coords) (σ : St F) : (step i σ).a8 = σ.a8 := by unfold step; exact S18_a8 i σ
/-- Buffer 9 after a step. -/
theorem step_a9 (i : grid0.Coords) (σ : St F) : (step i σ).a9 = σ.a9 := by unfold step; exact S18_a9 i σ
/-- Buffer 10 after a step. -/
theorem step_a10 (i : grid0.Coords) (σ : St F) : (step i σ).a10 = σ.a10 := by unfold step; exact S18_a10 i σ
/-- Buffer 11 after a step. -/
theorem step_a11 (i : grid0.Coords) (σ : St F) : (step i σ).a11 = σ.a11 := by unfold step; exact S18_a11 i σ
/-- Buffer 12 after a step. -/
theorem step_a12 (i : grid0.Coords) (σ : St F) : (step i σ).a12 = σ.a12 := by unfold step; exact S18_a12 i σ
/-- Buffer 13 after a step. -/
theorem step_a13 (i : grid0.Coords) (σ : St F) : (step i σ).a13 = σ.a13 := by unfold step; exact S18_a13 i σ
/-- Buffer 14 after a step. -/
theorem step_a14 (i : grid0.Coords) (σ : St F) : (step i σ).a14 = σ.a14 := by unfold step; exact S18_a14 i σ
/-- Buffer 1 of what a point leaves. -/
theorem outs_a1 (c : Dev nD) (n : ℕ) (h : n < cfg0.N) : (outs m c n h).a1 = iblk m c 0 ⟨n, h⟩ := by
  cases n with
  | zero => rw [outs_zero]; exact (step_a1 _ _).trans (inp_a1 m c _ _)
  | succ n => rw [outs_succ]; exact (step_a1 _ _).trans (inp_a1 m c _ _)
/-- Buffer 2 of what a point leaves. -/
theorem outs_a2 (c : Dev nD) (n : ℕ) (h : n < cfg0.N) : (outs m c n h).a2 = iblk m c 1 ⟨n, h⟩ := by
  cases n with
  | zero => rw [outs_zero]; exact (step_a2 _ _).trans (inp_a2 m c _ _)
  | succ n => rw [outs_succ]; exact (step_a2 _ _).trans (inp_a2 m c _ _)
/-- Buffer 3 of what a point leaves. -/
theorem outs_a3 (c : Dev nD) (n : ℕ) (h : n < cfg0.N) : (outs m c n h).a3 = iblk m c 2 ⟨n, h⟩ := by
  cases n with
  | zero => rw [outs_zero]; exact (step_a3 _ _).trans (inp_a3 m c _ _)
  | succ n => rw [outs_succ]; exact (step_a3 _ _).trans (inp_a3 m c _ _)
/-- Buffer 4 of what a point leaves. -/
theorem outs_a4 (c : Dev nD) (n : ℕ) (h : n < cfg0.N) : (outs m c n h).a4 = iblk m c 3 ⟨n, h⟩ := by
  cases n with
  | zero => rw [outs_zero]; exact (step_a4 _ _).trans (inp_a4 m c _ _)
  | succ n => rw [outs_succ]; exact (step_a4 _ _).trans (inp_a4 m c _ _)
/-- Buffer 5 of what a point leaves. -/
theorem outs_a5 (c : Dev nD) (n : ℕ) (h : n < cfg0.N) : (outs m c n h).a5 = iblk m c 4 ⟨n, h⟩ := by
  cases n with
  | zero => rw [outs_zero]; exact (step_a5 _ _).trans (inp_a5 m c _ _)
  | succ n => rw [outs_succ]; exact (step_a5 _ _).trans (inp_a5 m c _ _)
/-- Buffer 6 of what a point leaves. -/
theorem outs_a6 (c : Dev nD) (n : ℕ) (h : n < cfg0.N) : (outs m c n h).a6 = iblk m c 5 ⟨n, h⟩ := by
  cases n with
  | zero => rw [outs_zero]; exact (step_a6 _ _).trans (inp_a6 m c _ _)
  | succ n => rw [outs_succ]; exact (step_a6 _ _).trans (inp_a6 m c _ _)
/-- Buffer 7 of what a point leaves. -/
theorem outs_a7 (c : Dev nD) (n : ℕ) (h : n < cfg0.N) : (outs m c n h).a7 = iblk m c 6 ⟨n, h⟩ := by
  cases n with
  | zero => rw [outs_zero]; exact (step_a7 _ _).trans (inp_a7 m c _ _)
  | succ n => rw [outs_succ]; exact (step_a7 _ _).trans (inp_a7 m c _ _)
/-- Buffer 8 of what a point leaves. -/
theorem outs_a8 (c : Dev nD) (n : ℕ) (h : n < cfg0.N) : (outs m c n h).a8 = iblk m c 7 ⟨n, h⟩ := by
  cases n with
  | zero => rw [outs_zero]; exact (step_a8 _ _).trans (inp_a8 m c _ _)
  | succ n => rw [outs_succ]; exact (step_a8 _ _).trans (inp_a8 m c _ _)
/-- Buffer 9 of what a point leaves. -/
theorem outs_a9 (c : Dev nD) (n : ℕ) (h : n < cfg0.N) : (outs m c n h).a9 = iblk m c 8 ⟨n, h⟩ := by
  cases n with
  | zero => rw [outs_zero]; exact (step_a9 _ _).trans (inp_a9 m c _ _)
  | succ n => rw [outs_succ]; exact (step_a9 _ _).trans (inp_a9 m c _ _)
/-- Buffer 10 of what a point leaves. -/
theorem outs_a10 (c : Dev nD) (n : ℕ) (h : n < cfg0.N) : (outs m c n h).a10 = iblk m c 9 ⟨n, h⟩ := by
  cases n with
  | zero => rw [outs_zero]; exact (step_a10 _ _).trans (inp_a10 m c _ _)
  | succ n => rw [outs_succ]; exact (step_a10 _ _).trans (inp_a10 m c _ _)
/-- Buffer 11 of what a point leaves. -/
theorem outs_a11 (c : Dev nD) (n : ℕ) (h : n < cfg0.N) : (outs m c n h).a11 = iblk m c 10 ⟨n, h⟩ := by
  cases n with
  | zero => rw [outs_zero]; exact (step_a11 _ _).trans (inp_a11 m c _ _)
  | succ n => rw [outs_succ]; exact (step_a11 _ _).trans (inp_a11 m c _ _)
/-- Buffer 12 of what a point leaves. -/
theorem outs_a12 (c : Dev nD) (n : ℕ) (h : n < cfg0.N) : (outs m c n h).a12 = iblk m c 11 ⟨n, h⟩ := by
  cases n with
  | zero => rw [outs_zero]; exact (step_a12 _ _).trans (inp_a12 m c _ _)
  | succ n => rw [outs_succ]; exact (step_a12 _ _).trans (inp_a12 m c _ _)
/-- Buffer 13 of what a point leaves. -/
theorem outs_a13 (c : Dev nD) (n : ℕ) (h : n < cfg0.N) : (outs m c n h).a13 = iblk m c 12 ⟨n, h⟩ := by
  cases n with
  | zero => rw [outs_zero]; exact (step_a13 _ _).trans (inp_a13 m c _ _)
  | succ n => rw [outs_succ]; exact (step_a13 _ _).trans (inp_a13 m c _ _)
/-- Buffer 14 of what a point leaves. -/
theorem outs_a14 (c : Dev nD) (n : ℕ) (h : n < cfg0.N) : (outs m c n h).a14 = iblk m c 13 ⟨n, h⟩ := by
  cases n with
  | zero => rw [outs_zero]; exact (step_a14 _ _).trans (inp_a14 m c _ _)
  | succ n => rw [outs_succ]; exact (step_a14 _ _).trans (inp_a14 m c _ _)

/-- The invariant between points. -/
noncomputable def PhiS (c : Dev nD) : (n : ℕ) → n ≤ cfg0.N → sProp 𝕄
  | 0, _ => Pipeline.ΦA spec0 c
  | n + 1, hn => iprop(iprop(owns (c : Thread nD τ) sc0 fullShare (outs m c n hn).a27 ∗ owns (c : Thread nD τ) sc1 fullShare (outs m c n hn).a28) ∗ (∃ r, prngReg c r))

/-- Before the first point it is what the launch hands over. -/
theorem PhiS_zero (c : Dev nD) (n : ℕ) (h : n ≤ cfg0.N) (hz : n = 0) : PhiS m c n h = Pipeline.ΦA spec0 c := by
  subst hz; rfl

/-- After a point the scratch is at what that point left. -/
theorem PhiS_succ (c : Dev nD) (n : ℕ) (hn : n < cfg0.N) :
    PhiS m c (n + 1) hn = iprop(iprop(owns (c : Thread nD τ) sc0 fullShare (outs m c n hn).a27 ∗ owns (c : Thread nD τ) sc1 fullShare (outs m c n hn).a28) ∗ (∃ r, prngReg c r)) := rfl

/-- Before a later point the scratch is at what the point before left. -/
theorem PhiS_pos (c : Dev nD) (n : ℕ) (h : n ≤ cfg0.N) (hz : n ≠ 0) :
    PhiS m c n h = iprop(iprop(owns (c : Thread nD τ) sc0 fullShare (outs m c (n - 1) (by omega)).a27 ∗ owns (c : Thread nD τ) sc1 fullShare (outs m c (n - 1) (by omega)).a28) ∗ (∃ r, prngReg c r)) := by
  cases n with
  | zero => exact absurd rfl hz
  | succ n => rfl

/-- The pipeline's data: the arrays as the call finds them, the inputs' buffers at their blocks, the outputs' at what the
    point leaves. -/
noncomputable def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outs m c t.val t.isLt).a15
    | ⟨15, _⟩ => (outs m c t.val t.isLt).a16
    | ⟨16, _⟩ => (outs m c t.val t.isLt).a17
    | ⟨17, _⟩ => (outs m c t.val t.isLt).a18
    | ⟨18, _⟩ => (outs m c t.val t.isLt).a19
    | ⟨19, _⟩ => (outs m c t.val t.isLt).a20
    | ⟨20, _⟩ => (outs m c t.val t.isLt).a21
    | ⟨21, _⟩ => (outs m c t.val t.isLt).a22
    | ⟨22, _⟩ => (outs m c t.val t.isLt).a23
    | ⟨23, _⟩ => (outs m c t.val t.isLt).a24
    | ⟨24, _⟩ => (outs m c t.val t.isLt).a25
    | ⟨25, _⟩ => (outs m c t.val t.isLt).a26
    | ⟨_ + 26, h⟩ => absurd h (Nat.not_lt.2 (Nat.le_add_left _ _))
  Φ t := PhiS m c t.val (Nat.le_of_lt_succ t.isLt)
  q _ := fullShare
  owed _ := 0

/-- The arrays are those the call finds. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What window 0 holds after a point. -/
theorem after0_0 (c : Dev nD) (t : Fin cfg0.N) : (dats m 0 c).after 0 t = iblk m c 0 t := by dsimp only [dats]
/-- What window 1 holds after a point. -/
theorem after0_1 (c : Dev nD) (t : Fin cfg0.N) : (dats m 0 c).after 1 t = iblk m c 1 t := by dsimp only [dats]
/-- What window 2 holds after a point. -/
theorem after0_2 (c : Dev nD) (t : Fin cfg0.N) : (dats m 0 c).after 2 t = iblk m c 2 t := by dsimp only [dats]
/-- What window 3 holds after a point. -/
theorem after0_3 (c : Dev nD) (t : Fin cfg0.N) : (dats m 0 c).after 3 t = iblk m c 3 t := by dsimp only [dats]
/-- What window 4 holds after a point. -/
theorem after0_4 (c : Dev nD) (t : Fin cfg0.N) : (dats m 0 c).after 4 t = iblk m c 4 t := by dsimp only [dats]
/-- What window 5 holds after a point. -/
theorem after0_5 (c : Dev nD) (t : Fin cfg0.N) : (dats m 0 c).after 5 t = iblk m c 5 t := by dsimp only [dats]
/-- What window 6 holds after a point. -/
theorem after0_6 (c : Dev nD) (t : Fin cfg0.N) : (dats m 0 c).after 6 t = iblk m c 6 t := by dsimp only [dats]
/-- What window 7 holds after a point. -/
theorem after0_7 (c : Dev nD) (t : Fin cfg0.N) : (dats m 0 c).after 7 t = iblk m c 7 t := by dsimp only [dats]
/-- What window 8 holds after a point. -/
theorem after0_8 (c : Dev nD) (t : Fin cfg0.N) : (dats m 0 c).after 8 t = iblk m c 8 t := by dsimp only [dats]
/-- What window 9 holds after a point. -/
theorem after0_9 (c : Dev nD) (t : Fin cfg0.N) : (dats m 0 c).after 9 t = iblk m c 9 t := by dsimp only [dats]
/-- What window 10 holds after a point. -/
theorem after0_10 (c : Dev nD) (t : Fin cfg0.N) : (dats m 0 c).after 10 t = iblk m c 10 t := by dsimp only [dats]
/-- What window 11 holds after a point. -/
theorem after0_11 (c : Dev nD) (t : Fin cfg0.N) : (dats m 0 c).after 11 t = iblk m c 11 t := by dsimp only [dats]
/-- What window 12 holds after a point. -/
theorem after0_12 (c : Dev nD) (t : Fin cfg0.N) : (dats m 0 c).after 12 t = iblk m c 12 t := by dsimp only [dats]
/-- What window 13 holds after a point. -/
theorem after0_13 (c : Dev nD) (t : Fin cfg0.N) : (dats m 0 c).after 13 t = iblk m c 13 t := by dsimp only [dats]
/-- What window 14 holds after a point. -/
theorem after0_14 (c : Dev nD) (t : Fin cfg0.N) : (dats m 0 c).after 14 t = (outs m c t.val t.isLt).a15 := by dsimp only [dats]
/-- What window 15 holds after a point. -/
theorem after0_15 (c : Dev nD) (t : Fin cfg0.N) : (dats m 0 c).after 15 t = (outs m c t.val t.isLt).a16 := by dsimp only [dats]
/-- What window 16 holds after a point. -/
theorem after0_16 (c : Dev nD) (t : Fin cfg0.N) : (dats m 0 c).after 16 t = (outs m c t.val t.isLt).a17 := by dsimp only [dats]
/-- What window 17 holds after a point. -/
theorem after0_17 (c : Dev nD) (t : Fin cfg0.N) : (dats m 0 c).after 17 t = (outs m c t.val t.isLt).a18 := by dsimp only [dats]
/-- What window 18 holds after a point. -/
theorem after0_18 (c : Dev nD) (t : Fin cfg0.N) : (dats m 0 c).after 18 t = (outs m c t.val t.isLt).a19 := by dsimp only [dats]
/-- What window 19 holds after a point. -/
theorem after0_19 (c : Dev nD) (t : Fin cfg0.N) : (dats m 0 c).after 19 t = (outs m c t.val t.isLt).a20 := by dsimp only [dats]
/-- What window 20 holds after a point. -/
theorem after0_20 (c : Dev nD) (t : Fin cfg0.N) : (dats m 0 c).after 20 t = (outs m c t.val t.isLt).a21 := by dsimp only [dats]
/-- What window 21 holds after a point. -/
theorem after0_21 (c : Dev nD) (t : Fin cfg0.N) : (dats m 0 c).after 21 t = (outs m c t.val t.isLt).a22 := by dsimp only [dats]
/-- What window 22 holds after a point. -/
theorem after0_22 (c : Dev nD) (t : Fin cfg0.N) : (dats m 0 c).after 22 t = (outs m c t.val t.isLt).a23 := by dsimp only [dats]
/-- What window 23 holds after a point. -/
theorem after0_23 (c : Dev nD) (t : Fin cfg0.N) : (dats m 0 c).after 23 t = (outs m c t.val t.isLt).a24 := by dsimp only [dats]
/-- What window 24 holds after a point. -/
theorem after0_24 (c : Dev nD) (t : Fin cfg0.N) : (dats m 0 c).after 24 t = (outs m c t.val t.isLt).a25 := by dsimp only [dats]
/-- What window 25 holds after a point. -/
theorem after0_25 (c : Dev nD) (t : Fin cfg0.N) : (dats m 0 c).after 25 t = (outs m c t.val t.isLt).a26 := by dsimp only [dats]
/-- What window 0 holds before a point. -/
theorem before0_0 (c : Dev nD) (t : Fin cfg0.N) (d) : (dats m 0 c).before 0 t d = iblk m c 0 t := before0_0_of m (dats m 0 c) (A_eq m c 0) (after0_0 m c) t d
/-- What window 1 holds before a point. -/
theorem before0_1 (c : Dev nD) (t : Fin cfg0.N) (d) : (dats m 0 c).before 1 t d = iblk m c 1 t := before0_1_of m (dats m 0 c) (A_eq m c 1) (after0_1 m c) t d
/-- What window 2 holds before a point. -/
theorem before0_2 (c : Dev nD) (t : Fin cfg0.N) (d) : (dats m 0 c).before 2 t d = iblk m c 2 t := before0_2_of m (dats m 0 c) (A_eq m c 2) (after0_2 m c) t d
/-- What window 3 holds before a point. -/
theorem before0_3 (c : Dev nD) (t : Fin cfg0.N) (d) : (dats m 0 c).before 3 t d = iblk m c 3 t := before0_3_of m (dats m 0 c) (A_eq m c 3) (after0_3 m c) t d
/-- What window 4 holds before a point. -/
theorem before0_4 (c : Dev nD) (t : Fin cfg0.N) (d) : (dats m 0 c).before 4 t d = iblk m c 4 t := before0_4_of m (dats m 0 c) (A_eq m c 4) (after0_4 m c) t d
/-- What window 5 holds before a point. -/
theorem before0_5 (c : Dev nD) (t : Fin cfg0.N) (d) : (dats m 0 c).before 5 t d = iblk m c 5 t := before0_5_of m (dats m 0 c) (A_eq m c 5) (after0_5 m c) t d
/-- What window 6 holds before a point. -/
theorem before0_6 (c : Dev nD) (t : Fin cfg0.N) (d) : (dats m 0 c).before 6 t d = iblk m c 6 t := before0_6_of m (dats m 0 c) (A_eq m c 6) (after0_6 m c) t d
/-- What window 7 holds before a point. -/
theorem before0_7 (c : Dev nD) (t : Fin cfg0.N) (d) : (dats m 0 c).before 7 t d = iblk m c 7 t := before0_7_of m (dats m 0 c) (A_eq m c 7) (after0_7 m c) t d
/-- What window 8 holds before a point. -/
theorem before0_8 (c : Dev nD) (t : Fin cfg0.N) (d) : (dats m 0 c).before 8 t d = iblk m c 8 t := before0_8_of m (dats m 0 c) (A_eq m c 8) (after0_8 m c) t d
/-- What window 9 holds before a point. -/
theorem before0_9 (c : Dev nD) (t : Fin cfg0.N) (d) : (dats m 0 c).before 9 t d = iblk m c 9 t := before0_9_of m (dats m 0 c) (A_eq m c 9) (after0_9 m c) t d
/-- What window 10 holds before a point. -/
theorem before0_10 (c : Dev nD) (t : Fin cfg0.N) (d) : (dats m 0 c).before 10 t d = iblk m c 10 t := before0_10_of m (dats m 0 c) (A_eq m c 10) (after0_10 m c) t d
/-- What window 11 holds before a point. -/
theorem before0_11 (c : Dev nD) (t : Fin cfg0.N) (d) : (dats m 0 c).before 11 t d = iblk m c 11 t := before0_11_of m (dats m 0 c) (A_eq m c 11) (after0_11 m c) t d
/-- What window 12 holds before a point. -/
theorem before0_12 (c : Dev nD) (t : Fin cfg0.N) (d) : (dats m 0 c).before 12 t d = iblk m c 12 t := before0_12_of m (dats m 0 c) (A_eq m c 12) (after0_12 m c) t d
/-- What window 13 holds before a point. -/
theorem before0_13 (c : Dev nD) (t : Fin cfg0.N) (d) : (dats m 0 c).before 13 t d = iblk m c 13 t := before0_13_of m (dats m 0 c) (A_eq m c 13) (after0_13 m c) t d

/-- What the body is called with at the point `t`. -/
noncomputable def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d))
    ∗ (∃ d, owns (c : Thread nD τ) (win0_20.stage (cfg0.slots t 20)) fullShare ((dats m 0 c).before 20 t d))
    ∗ (∃ d, owns (c : Thread nD τ) (win0_21.stage (cfg0.slots t 21)) fullShare ((dats m 0 c).before 21 t d))
    ∗ (∃ d, owns (c : Thread nD τ) (win0_22.stage (cfg0.slots t 22)) fullShare ((dats m 0 c).before 22 t d))
    ∗ (∃ d, owns (c : Thread nD τ) (win0_23.stage (cfg0.slots t 23)) fullShare ((dats m 0 c).before 23 t d))
    ∗ (∃ d, owns (c : Thread nD τ) (win0_24.stage (cfg0.slots t 24)) fullShare ((dats m 0 c).before 24 t d))
    ∗ (∃ d, owns (c : Thread nD τ) (win0_25.stage (cfg0.slots t 25)) fullShare ((dats m 0 c).before 25 t d)))

/-- What it returns. -/
noncomputable def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ owns (c : Thread nD τ) (win0_17.stage (cfg0.slots t 17)) fullShare ((dats m 0 c).after 17 t)
    ∗ owns (c : Thread nD τ) (win0_18.stage (cfg0.slots t 18)) fullShare ((dats m 0 c).after 18 t)
    ∗ owns (c : Thread nD τ) (win0_19.stage (cfg0.slots t 19)) fullShare ((dats m 0 c).after 19 t)
    ∗ owns (c : Thread nD τ) (win0_20.stage (cfg0.slots t 20)) fullShare ((dats m 0 c).after 20 t)
    ∗ owns (c : Thread nD τ) (win0_21.stage (cfg0.slots t 21)) fullShare ((dats m 0 c).after 21 t)
    ∗ owns (c : Thread nD τ) (win0_22.stage (cfg0.slots t 22)) fullShare ((dats m 0 c).after 22 t)
    ∗ owns (c : Thread nD τ) (win0_23.stage (cfg0.slots t 23)) fullShare ((dats m 0 c).after 23 t)
    ∗ owns (c : Thread nD τ) (win0_24.stage (cfg0.slots t 24)) fullShare ((dats m 0 c).after 24 t)
    ∗ owns (c : Thread nD τ) (win0_25.stage (cfg0.slots t 25)) fullShare ((dats m 0 c).after 25 t))

/-- The bounds of an index of a box of two axes, one by one. -/
theorem box2 {a b o0 o1 s0 s1 : ℕ} (j : (⟨2, ![a, b]⟩ : Shape).Idx)
    (h : (o0 ≤ (j 0).val ∧ (j 0).val < o0 + s0) ∧ (o1 ≤ (j 1).val ∧ (j 1).val < o1 + s1)) :
    ∀ x : Fin 2, (![o0, o1] : Fin 2 → ℕ) x ≤ (j x).val ∧ (j x).val < (![o0, o1] : Fin 2 → ℕ) x + (![s0, s1] : Fin 2 → ℕ) x := by
  intro x
  match x with
  | ⟨0, _⟩ => exact h.1
  | ⟨1, _⟩ => exact h.2

/-- At the first point the stash and the rows above the tile are zeroed. -/
theorem first13 (h : 0 < cfg0.N) : c_v13 (grid0.coords ⟨0, h⟩) = 1#1 := by revert h; decide +kernel
/-- The first point starts a sequence. -/
theorem first16 (h : 0 < cfg0.N) : c_v16 (grid0.coords ⟨0, h⟩) = 1#1 := by revert h; decide +kernel

/-- Contents that agree on the inputs, with the stash zeroed and the rows above the tile zeroed, agree on what the point reads. -/
theorem same_first {i : grid0.Coords} {σ σ' : St F} (h13 : c_v13 i = 1#1) (h16 : c_v16 i = 1#1) (e1 : σ.a1 = σ'.a1) (e2 : σ.a2 = σ'.a2) (e3 : σ.a3 = σ'.a3) (e4 : σ.a4 = σ'.a4) (e5 : σ.a5 = σ'.a5) (e6 : σ.a6 = σ'.a6) (e7 : σ.a7 = σ'.a7) (e8 : σ.a8 = σ'.a8) (e9 : σ.a9 = σ'.a9) (e10 : σ.a10 = σ'.a10) (e11 : σ.a11 = σ'.a11) (e12 : σ.a12 = σ'.a12) (e13 : σ.a13 = σ'.a13) (e14 : σ.a14 = σ'.a14) : Same i σ σ' := by
  refine ⟨e1, e2, e3, e4, e5, e6, e7, e8, e9, e10, e11, e12, e13, e14, ?_, ?_⟩
  · unfold z28; rw [if_pos h13, if_pos h13]
    exact (put_whole _ (by decide) _ _ _).trans (put_whole _ (by decide) _ _ _).symm
  · unfold E1 z27; rw [if_pos h16, if_pos h16, e1, e2, e3]
    funext j
    have b0 : (j 0).val < 208 := (j 0).isLt
    have b1 : (j 1).val < 2432 := (j 1).isLt
    refine put_at _ _ fun h2 => put_at _ _ fun h1 => ?_
    rcases Nat.lt_or_ge (j 0).val 16 with hc | hc
    · exact absurd (unit_hit _ _ _ _ (box2 j (by omega))) h1
    · exact absurd (unit_hit _ _ _ _ (box2 j (by omega))) h2

/-- What a point finds in the stash is of what the stash held. -/
theorem z28_of {i : grid0.Coords} {σ σ' : St F} (h : σ.a28 = σ'.a28) : z28 i σ = z28 i σ' := by
  unfold z28; rw [h]

/-- What a point leaves in the mixing input is of what it held and of the inputs. -/
theorem E1_of {i : grid0.Coords} {σ σ' : St F} (e1 : σ.a1 = σ'.a1) (e2 : σ.a2 = σ'.a2) (e3 : σ.a3 = σ'.a3) (h : σ.a27 = σ'.a27) : E1 i σ = E1 i σ' := by
  unfold E1 z27; rw [e1, e2, e3, h]

/-- The contents the body starts from at a point leave what `outs` says. -/
theorem step_first (c : Dev nD) (t : Fin cfg0.N) (h : t.val = 0) (σ : St F) : step (grid0.coords t) (inp m c t σ) = outs m c t.val t.isLt := by
  obtain ⟨n, hn⟩ := t
  subst h
  show _ = outs m c 0 hn
  rw [outs_zero]
  exact step_same (same_first (first13 hn) (first16 hn) ((inp_a1 m c _ _).trans (inp_a1 m c _ _).symm) ((inp_a2 m c _ _).trans (inp_a2 m c _ _).symm) ((inp_a3 m c _ _).trans (inp_a3 m c _ _).symm) ((inp_a4 m c _ _).trans (inp_a4 m c _ _).symm) ((inp_a5 m c _ _).trans (inp_a5 m c _ _).symm) ((inp_a6 m c _ _).trans (inp_a6 m c _ _).symm) ((inp_a7 m c _ _).trans (inp_a7 m c _ _).symm) ((inp_a8 m c _ _).trans (inp_a8 m c _ _).symm) ((inp_a9 m c _ _).trans (inp_a9 m c _ _).symm) ((inp_a10 m c _ _).trans (inp_a10 m c _ _).symm) ((inp_a11 m c _ _).trans (inp_a11 m c _ _).symm) ((inp_a12 m c _ _).trans (inp_a12 m c _ _).symm) ((inp_a13 m c _ _).trans (inp_a13 m c _ _).symm) ((inp_a14 m c _ _).trans (inp_a14 m c _ _).symm))

/-- The same at a later point. -/
theorem step_next (c : Dev nD) (t : Fin cfg0.N) (h : t.val ≠ 0) (σ : St F)
    (e27 : σ.a27 = (outs m c (t.val - 1) (by omega)).a27) (e28 : σ.a28 = (outs m c (t.val - 1) (by omega)).a28) :
    step (grid0.coords t) (inp m c t σ) = outs m c t.val t.isLt := by
  obtain ⟨n, hn⟩ := t
  cases n with
  | zero => exact absurd rfl h
  | succ n =>
    rw [outs_succ]
    refine step_same ⟨(inp_a1 m c _ _).trans (inp_a1 m c _ _).symm, (inp_a2 m c _ _).trans (inp_a2 m c _ _).symm, (inp_a3 m c _ _).trans (inp_a3 m c _ _).symm, (inp_a4 m c _ _).trans (inp_a4 m c _ _).symm, (inp_a5 m c _ _).trans (inp_a5 m c _ _).symm, (inp_a6 m c _ _).trans (inp_a6 m c _ _).symm, (inp_a7 m c _ _).trans (inp_a7 m c _ _).symm, (inp_a8 m c _ _).trans (inp_a8 m c _ _).symm, (inp_a9 m c _ _).trans (inp_a9 m c _ _).symm, (inp_a10 m c _ _).trans (inp_a10 m c _ _).symm, (inp_a11 m c _ _).trans (inp_a11 m c _ _).symm, (inp_a12 m c _ _).trans (inp_a12 m c _ _).symm, (inp_a13 m c _ _).trans (inp_a13 m c _ _).symm, (inp_a14 m c _ _).trans (inp_a14 m c _ _).symm, ?_, ?_⟩
    · exact z28_of ((inp_a28 m c _ _).trans (e28.trans (inp_a28 m c _ _).symm))
    · exact E1_of ((inp_a1 m c _ _).trans (inp_a1 m c _ _).symm) ((inp_a2 m c _ _).trans (inp_a2 m c _ _).symm) ((inp_a3 m c _ _).trans (inp_a3 m c _ _).symm) ((inp_a27 m c _ _).trans (e27.trans (inp_a27 m c _ _).symm))

end Cert.Mix

end
-- ==== Proof.MixBlk.lean ====
module

public import proofs.«01_k».proof.Proof.Gen.Kernel3Ideal.Frame
public import Idealize.ShloMosaic.Lib.Pipeline.ValueKit
public import Idealize.ShloMosaic.Lib.Pointwise
public import Idealize.ShloMosaic.Lib.Claim

/-! What the blocks of the mixers' input call hold of its arguments. -/

@[expose] public section

set_option maxRecDepth 16384

noncomputable section

namespace Cert.Mix

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- The tile a point works on: the last point works on the last tile again. -/
abbrev tl (n : ℕ) : ℕ := min n 175

/-- Where the windows over the tile stand at each point. -/
theorem idx : ∀ t : Fin cfg0.N, win0_0.index t = ![tl t.1 / 11, tl t.1 % 11, 0]
    ∧ win0_23.index t = ![tl t.1 / 11, tl t.1 % 11, 0] ∧ win0_25.index t = ![tl t.1 / 11, tl t.1 % 11, 0]
    ∧ win0_14.index t = ![tl t.1 / 11, tl t.1 % 11, 0] ∧ win0_21.index t = ![(t.1 - 1) / 11, (t.1 - 1) % 11, 0]
    ∧ win0_22.index t = ![(t.1 - 1) / 11, (t.1 - 1) % 11, 0] :=
  (by decide +kernel : ∀ t : Fin grid0.N, _)

/-- The other inputs' windows stand still. -/
theorem idx' : ∀ t : Fin cfg0.N, win0_1.index t = ![0, 0] ∧ win0_2.index t = ![0, 0] ∧ win0_3.index t = ![0, 0]
    ∧ win0_4.index t = ![0, 0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] :=
  (by decide +kernel : ∀ t : Fin grid0.N, _)

/-- The sequence of the tile of the point `n`. -/
abbrev sq (n : ℕ) : Fin 16 := ⟨tl n / 11, by unfold tl; omega⟩
/-- The position there of its row `r`. -/
abbrev ps (n : ℕ) (r : Fin 192) : Fin 2112 := ⟨192 * (tl n % 11) + r.1, by omega⟩

/-- What the host leaves in the operand of number 24. -/
theorem V24 (c : Dev nD) : StableHlo.after ([hostOps0, hostOps0_1, hostOps0_2, hostOps0_3, hostOps0_4, hostOps0_5, hostOps0_6, hostOps0_7, hostOps0_8, hostOps0_9, hostOps0_10] : List (List (HloOp τ sig (Elt Ideal)))).flatten (fun b => m (c, b)) (Proc.devRef .tc main_v24) = (shapeCast S1x1024 (shapeCast S1024 (extractStridedSlice S1x1024 ![0, 0] (m ((c : Thread nD τ).loc main_arg1) : FVec Ideal S4x1024 .f32) slices_S4x1024_S1x1024_0_0) shapeCasts_S1x1024_S1024) shapeCasts_S1024_S1x1024 : FVec Ideal S1x1024 .f32) := by
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results_simp
  rfl

/-- What the host leaves in the operand of number 6. -/
theorem V6 (c : Dev nD) : StableHlo.after ([hostOps0, hostOps0_1, hostOps0_2, hostOps0_3, hostOps0_4, hostOps0_5, hostOps0_6, hostOps0_7, hostOps0_8, hostOps0_9, hostOps0_10] : List (List (HloOp τ sig (Elt Ideal)))).flatten (fun b => m (c, b)) (Proc.devRef .tc main_v6) = (truncf .bf16 (pad S1024x2432 ![0, 0] ![0, 96] ![0, 0] (shapeCast S1024x2336 (extractStridedSlice S1x1024x2336 ![0, 0, 0] (m ((c : Thread nD τ).loc main_arg2) : FVec Ideal S4x1024x2336 .f32) slices_S4x1024x2336_S1x1024x2336_0_0_0) shapeCasts_S1x1024x2336_S1024x2336) (sitofp (F := Ideal) .f32 (constantI S_ 32 0#32)) pads_S1024x2336_S1024x2432_000_0960 h_S_) bitsLt_bf16_f32 : FVec Ideal S1024x2432 .bf16) := by
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results_simp
  rfl

/-- What the host leaves in the operand of number 9. -/
theorem V9 (c : Dev nD) : StableHlo.after ([hostOps0, hostOps0_1, hostOps0_2, hostOps0_3, hostOps0_4, hostOps0_5, hostOps0_6, hostOps0_7, hostOps0_8, hostOps0_9, hostOps0_10] : List (List (HloOp τ sig (Elt Ideal)))).flatten (fun b => m (c, b)) (Proc.devRef .tc main_v9) = (shapeCast S1x2432 (pad S2432 ![0] ![96] ![0] (concatenate S2336 0 [⟨S512, broadcastInDim S512 ![] bcast_S_S512 (constant S_ .f32 0x00000000#32)⟩, ⟨S1824, shapeCast S1824 (extractStridedSlice S1x1824 ![0, 0] (m ((c : Thread nD τ).loc main_arg3) : FVec Ideal S4x1824 .f32) slices_S4x1824_S1x1824_0_0) shapeCasts_S1x1824_S1824⟩] concatenates_S512_S1824_S2336_d0) (sitofp (F := Ideal) .f32 (constantI S_ 32 0#32)) pads_S2336_S2432_0960 h_S_) shapeCasts_S2432_S1x2432 : FVec Ideal S1x2432 .f32) := by
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results_simp
  rfl

/-- What the host leaves in the operand of number 36. -/
theorem V36 (c : Dev nD) : StableHlo.after ([hostOps0, hostOps0_1, hostOps0_2, hostOps0_3, hostOps0_4, hostOps0_5, hostOps0_6, hostOps0_7, hostOps0_8, hostOps0_9, hostOps0_10] : List (List (HloOp τ sig (Elt Ideal)))).flatten (fun b => m (c, b)) (Proc.devRef .tc main_v36) = (shapeCast S1x512 (shapeCast S512 (extractStridedSlice S1x512 ![0, 0] (m ((c : Thread nD τ).loc main_arg8) : FVec Ideal S4x512 .f32) slices_S4x512_S1x512_0_0) shapeCasts_S1x512_S512) shapeCasts_S512_S1x512 : FVec Ideal S1x512 .f32) := by
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results_simp
  rfl

/-- What the host leaves in the operand of number 42. -/
theorem V42 (c : Dev nD) : StableHlo.after ([hostOps0, hostOps0_1, hostOps0_2, hostOps0_3, hostOps0_4, hostOps0_5, hostOps0_6, hostOps0_7, hostOps0_8, hostOps0_9, hostOps0_10] : List (List (HloOp τ sig (Elt Ideal)))).flatten (fun b => m (c, b)) (Proc.devRef .tc main_v42) = (shapeCast S1x512 (shapeCast S512 (extractStridedSlice S1x512 ![0, 0] (m ((c : Thread nD τ).loc main_arg12) : FVec Ideal S4x512 .f32) slices_S4x512_S1x512_0_0) shapeCasts_S1x512_S512) shapeCasts_S512_S1x512 : FVec Ideal S1x512 .f32) := by
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results_simp
  rfl

/-- What the host leaves in the operand of number 45. -/
theorem V45 (c : Dev nD) : StableHlo.after ([hostOps0, hostOps0_1, hostOps0_2, hostOps0_3, hostOps0_4, hostOps0_5, hostOps0_6, hostOps0_7, hostOps0_8, hostOps0_9, hostOps0_10] : List (List (HloOp τ sig (Elt Ideal)))).flatten (fun b => m (c, b)) (Proc.devRef .tc main_v45) = (shapeCast S1x512 (shapeCast S512 (extractStridedSlice S1x512 ![0, 0] (m ((c : Thread nD τ).loc main_arg13) : FVec Ideal S4x512 .f32) slices_S4x512_S1x512_0_0) shapeCasts_S1x512_S512) shapeCasts_S512_S1x512 : FVec Ideal S1x512 .f32) := by
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results_simp
  rfl

/-- What the host leaves in the operand of number 17. -/
theorem V17 (c : Dev nD) : StableHlo.after ([hostOps0, hostOps0_1, hostOps0_2, hostOps0_3, hostOps0_4, hostOps0_5, hostOps0_6, hostOps0_7, hostOps0_8, hostOps0_9, hostOps0_10] : List (List (HloOp τ sig (Elt Ideal)))).flatten (fun b => m (c, b)) (Proc.devRef .tc main_v17) = (truncf .bf16 (pad S128x512 ![64, 0] ![0, 0] ![0, 0] (shapeCast S64x512 (extractStridedSlice S1x64x512 ![0, 0, 0] (m ((c : Thread nD τ).loc main_arg9) : FVec Ideal S4x64x512 .f32) slices_S4x64x512_S1x64x512_0_0_0) shapeCasts_S1x64x512_S64x512) (sitofp (F := Ideal) .f32 (constantI S_ 32 0#32)) pads_S64x512_S128x512_6400_000 h_S_) bitsLt_bf16_f32 : FVec Ideal S128x512 .bf16) := by
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results_simp
  rfl

/-- What the host leaves in the operand of number 21. -/
theorem V21 (c : Dev nD) : StableHlo.after ([hostOps0, hostOps0_1, hostOps0_2, hostOps0_3, hostOps0_4, hostOps0_5, hostOps0_6, hostOps0_7, hostOps0_8, hostOps0_9, hostOps0_10] : List (List (HloOp τ sig (Elt Ideal)))).flatten (fun b => m (c, b)) (Proc.devRef .tc main_v21) = (truncf .bf16 (pad S256x512 ![0, 0] ![96, 0] ![0, 0] (shapeCast S160x512 (extractStridedSlice S1x160x512 ![0, 0, 0] (m ((c : Thread nD τ).loc main_arg10) : FVec Ideal S4x160x512 .f32) slices_S4x160x512_S1x160x512_0_0_0) shapeCasts_S1x160x512_S160x512) (sitofp (F := Ideal) .f32 (constantI S_ 32 0#32)) pads_S160x512_S256x512_0960_000 h_S_) bitsLt_bf16_f32 : FVec Ideal S256x512 .bf16) := by
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results_simp
  rfl

/-- The tile's block. -/
theorem blk0 (c : Dev nD) (t : Fin cfg0.N) (r : Fin 192) (d : Fin 1024) :
    iblk m c 0 t (ix3 0 r d) = m ((c : Thread nD τ).loc main_arg0) (ix3 (sq t.1) (ps t.1 r) d) := by
  unfold iblk
  rw [V_main_arg0]
  blk_ext [idx t]

/-- The norm's gain. -/
theorem blk1 (c : Dev nD) (t : Fin cfg0.N) (d : Fin 1024) :
    iblk m c 1 t (ix2 0 d) = m ((c : Thread nD τ).loc main_arg1) (ix2 0 d) := by
  have e : iblk m c 1 t (ix2 0 d) = V m c main_v24 (ix2 0 d) := by
    blk_simp [iblk]
    blk_ext [idx' t]
  rw [e, V, V24]
  pointwise []

/-- The padding's value. -/
theorem pad0 : FloatOps.sitofp (F := Ideal) (w := 32) FTy.f32 0#32 = (0 : EReal) := by
  show (((0#32 : BitVec 32).toInt : ℝ) : EReal) = 0
  simp

/-- The input weight, its columns padded by zeros. -/
theorem blk2 (c : Dev nD) (t : Fin cfg0.N) (d : Fin 1024) (q : Fin 2432) :
    iblk m c 2 t (ix2 d q) = if h : q.1 < 2336 then m ((c : Thread nD τ).loc main_arg2) (ix3 0 d ⟨q.1, h⟩) else (0 : EReal) := by
  have e : iblk m c 2 t (ix2 d q) = V m c main_v6 (ix2 d q) := by
    blk_simp [iblk]
    blk_ext [idx' t]
  rw [e, V, V6]
  pointwise []
  simp only [pad0]

/-- The shift's share, zero on the pool's columns and on the padded ones. -/
theorem blk3 (c : Dev nD) (t : Fin cfg0.N) (q : Fin 2432) :
    iblk m c 3 t (ix2 0 q) = if h : 512 ≤ q.1 ∧ q.1 < 2336 then m ((c : Thread nD τ).loc main_arg3) (ix2 0 ⟨q.1 - 512, by omega⟩) else (0 : EReal) := by
  have e : iblk m c 3 t (ix2 0 q) = V m c main_v9 (ix2 0 q) := by
    blk_simp [iblk]
    blk_ext [idx' t]
  rw [e, V, V9]
  pointwise []
  simp only [pad0]
  by_cases h1 : q.1 < 2336
  · by_cases h2 : q.1 < 512
    · rw [dif_pos h1, dif_pos h2, dif_neg (by omega)]
    · rw [dif_pos h1, dif_neg h2, dif_pos ⟨by omega, h1⟩]
  · rw [dif_neg h1, dif_neg (by omega)]

/-- The key rate's bias. -/
theorem blk8 (c : Dev nD) (t : Fin cfg0.N) (d : Fin 512) :
    iblk m c 8 t (ix2 0 d) = m ((c : Thread nD τ).loc main_arg8) (ix2 0 d) := by
  have e : iblk m c 8 t (ix2 0 d) = V m c main_v36 (ix2 0 d) := by
    blk_simp [iblk]
    blk_ext [idx' t]
  rw [e, V, V36]
  pointwise []

/-- The key scale. -/
theorem blk12 (c : Dev nD) (t : Fin cfg0.N) (d : Fin 512) :
    iblk m c 12 t (ix2 0 d) = m ((c : Thread nD τ).loc main_arg12) (ix2 0 d) := by
  have e : iblk m c 12 t (ix2 0 d) = V m c main_v42 (ix2 0 d) := by
    blk_simp [iblk]
    blk_ext [idx' t]
  rw [e, V, V42]
  pointwise []

/-- The bonus's weight. -/
theorem blk13 (c : Dev nD) (t : Fin cfg0.N) (d : Fin 512) :
    iblk m c 13 t (ix2 0 d) = m ((c : Thread nD τ).loc main_arg13) (ix2 0 d) := by
  have e : iblk m c 13 t (ix2 0 d) = V m c main_v45 (ix2 0 d) := by
    blk_simp [iblk]
    blk_ext [idx' t]
  rw [e, V, V45]
  pointwise []

/-- The rate's second factor, rows of zeros above it. -/
theorem blk9 (c : Dev nD) (t : Fin cfg0.N) (k : Fin 128) (d : Fin 512) :
    iblk m c 9 t (ix2 k d) = if h : 64 ≤ k.1 then m ((c : Thread nD τ).loc main_arg9) (ix3 0 ⟨k.1 - 64, by omega⟩ d) else (0 : EReal) := by
  have e : iblk m c 9 t (ix2 k d) = V m c main_v17 (ix2 k d) := by
    blk_simp [iblk]
    blk_ext [idx' t]
  rw [e, V, V17]
  pointwise []
  simp only [pad0]
  split_ifs <;> first | rfl | omega

/-- The gate's second factor, rows of zeros below it. -/
theorem blk10 (c : Dev nD) (t : Fin cfg0.N) (k : Fin 256) (d : Fin 512) :
    iblk m c 10 t (ix2 k d) = if h : k.1 < 160 then m ((c : Thread nD τ).loc main_arg10) (ix3 0 ⟨k.1, h⟩ d) else (0 : EReal) := by
  have e : iblk m c 10 t (ix2 k d) = V m c main_v21 (ix2 k d) := by
    blk_simp [iblk]
    blk_ext [idx' t]
  rw [e, V, V21]
  pointwise []
  simp only [pad0]

end Cert.Mix
end
-- ==== Proof.MixVal.lean ====
module

public import proofs.«01_k».proof.Proof.MixOuts
public import proofs.«01_k».proof.Proof.MixBlk
public import proofs.«01_k».proof.Proof.FfnMath
public import Idealize.ShloMosaic.Lib.Pipeline.ValueKit
public import Idealize.ShloMosaic.Lib.Pointwise

/-! What the points of the mixers' input call compute: the projected columns, with the row before each, and the shifted
    columns. -/

@[expose] public section

set_option maxRecDepth 16384

noncomputable section

namespace Cert.Mix

open Idealize.ShloMosaic Idealize.ShloMosaic.TcCoe Idealize.SL.Sem
open Idealize.ShloMosaic.Pipeline (Dat)
open Cert.Kernel3Ideal Cert.Kernel3Ideal.Gen Cert.Ffn

variable (m : (ℓ : Loc nD τ sig) → Buf (Elt Ideal) ℓ)

/-- The projected column `q` at position `t` of sequence `b`; a padded column is zero times the normed row. -/
def pr (c : Dev nD) (b : Fin 16) (t : Fin 2112) (q : Fin 2432) : EReal :=
  ∑ d : Fin 1024, nrm (fun d => m ((c : Thread nD τ).loc main_arg0) (ix3 b t d)) (fun d => m ((c : Thread nD τ).loc main_arg1) (ix2 0 d)) d
    * (if h : q.1 < 2336 then m ((c : Thread nD τ).loc main_arg2) (ix3 0 d ⟨q.1, h⟩) else (0 : EReal))

/-- The column at the position before, zero before the first. -/
def pv (c : Dev nD) (b : Fin 16) (t : Fin 2112) (q : Fin 2432) : EReal :=
  if t.1 = 0 then 0 else pr m c b ⟨t.1 - 1, by omega⟩ q

/-- The state a point starts from. -/
def ein (c : Dev nD) (n : ℕ) (h : n < cfg0.N) : St Ideal :=
  inp m c ⟨n, h⟩ (match n, h with | 0, _ => st0 | k + 1, h => outs m c k (Nat.lt_of_succ_lt h))

/-- What a point leaves is its step from that state. -/
theorem outs_eq (c : Dev nD) (n : ℕ) (h : n < cfg0.N) : outs m c n h = step (grid0.coords ⟨n, h⟩) (ein m c n h) := by
  cases n with
  | zero => exact outs_zero m c h
  | succ k => exact outs_succ m c k h

/-- The row above the tile is zeroed where a sequence starts. -/
theorem cond16 : ∀ t : Fin cfg0.N, (c_v16 (grid0.coords t) = 1#1) ↔ tl t.1 % 11 = 0 :=
  (by decide +kernel : ∀ t : Fin grid0.N, (c_v16 (grid0.coords t) = 1#1) ↔ tl t.1 % 11 = 0)

/-- The last rows are carried over at every point up to the last tile. -/
theorem condLast : ∀ t : Fin cfg0.N, (Scalar.cmpi .slt (c_arg0 (grid0.coords t)) 175#32 = 1#1) ↔ t.1 < 175 :=
  (by decide +kernel : ∀ t : Fin grid0.N, (Scalar.cmpi .slt (c_arg0 (grid0.coords t)) 175#32 = 1#1) ↔ t.1 < 175)

/-- The rows of the scratch that the point projects. -/
theorem pay57_row (X : Vec Ideal S1x192x1024 .f32) (g : Vec Ideal S1x1024 .f32) (W : Vec Ideal S1024x2432 .bf16) (r : Fin 192) (q : Fin 2432) :
    k0_pay57 X g W (ix2 r q) = ∑ d : Fin 1024, nrm (fun d => X (ix3 0 r d)) (fun d => g (ix2 0 d)) d * W (ix2 d q) := by
  pointwise [k0_pay57, nrm]

/-- Row `16 + r` of the scratch, once the point has projected its tile. -/
theorem E1_row (c : Dev nD) (n : ℕ) (h : n < cfg0.N) (r : Fin 192) (q : Fin 2432) :
    E1 (grid0.coords ⟨n, h⟩) (ein m c n h) (ix2 ⟨16 + r.1, by omega⟩ q) = pr m c (sq n) (ps n r) q := by
  have e : (Rect.unit (s := S208x2432) ![16, 0] S192x2432.size inb_S208x2432_S192x2432_16_0).emb (ix2 r q)
      = ix2 ⟨16 + r.1, by omega⟩ q := by
    blk_ext []
  unfold E1
  rw [← e, put_hit, pay57_row]
  unfold ein
  rw [inp_a1, inp_a2, inp_a3]
  have h0 : ∀ X : S1x192x1024.Idx → EReal, ld (F := Ideal) (e := .f32) X (Rect.unit (s := S1x192x1024) ![0, 0, 0] S1x192x1024.size inb_S1x192x1024_S1x192x1024_0_0_0) = X := by
    intro X; funext y; idx_vars y; exact congrArg X (by blk_ext [])
  have h1 : ∀ X : S1x1024.Idx → EReal, ld (F := Ideal) (e := .f32) X (Rect.unit (s := S1x1024) ![0, 0] S1x1024.size inb_S1x1024_S1x1024_0_0) = X := by
    intro X; funext y; idx_vars y; exact congrArg X (by blk_ext [])
  have h2 : ∀ X : S1024x2432.Idx → EReal, ld (F := Ideal) (e := .bf16) X (Rect.unit (s := S1024x2432) ![0, 0] S1024x2432.size inb_S1024x2432_S1024x2432_0_0) = X := by
    intro X; funext y; idx_vars y; exact congrArg X (by blk_ext [])
  rw [h0, h1, h2]
  simp only [blk0, blk1, blk2, pr]

/-- Rows 0..15 of the scratch are as the point found them, or zeroed. -/
theorem E1_up (i : grid0.Coords) (σ : St Ideal) (r : Fin 16) (q : Fin 2432) :
    E1 i σ (ix2 ⟨r.1, by omega⟩ q) = z27 i σ (ix2 ⟨r.1, by omega⟩ q) := by
  unfold E1
  refine put_miss _ _ _ ?_
  rintro ⟨y, hy⟩
  have := congrArg (fun j : S208x2432.Idx => (j 0).val) hy
  simp only [ValueKit.rect_emb_unit_val] at this
  have h2 : 16 + (y 0).val = r.1 := this
  omega

/-- The scratch starts at zero. -/
theorem z27_zero (i : grid0.Coords) (σ : St Ideal) (hc : c_v16 i = 1#1) (r : Fin 16) (q : Fin 2432) :
    z27 i σ (ix2 ⟨r.1, by omega⟩ q) = (0 : EReal) := by
  have e : (Rect.unit (s := S208x2432) ![0, 0] S16x2432.size inb_S208x2432_S16x2432_0_0).emb (ix2 r q)
      = ix2 ⟨r.1, by omega⟩ q := by
    blk_ext []
  unfold z27
  rw [if_pos hc, ← e, put_hit]
  pointwise [k0_pay6]

/-- What a point leaves in row `r` above the next tile. -/
theorem left_row (i : grid0.Coords) (σ : St Ideal) (r : Fin 16) (q : Fin 2432) :
    (step i σ).a27 (ix2 ⟨r.1, by omega⟩ q) = if Scalar.cmpi .slt (c_arg0 i) 175#32 = 1#1
      then E1 i σ (ix2 ⟨192 + r.1, by omega⟩ q) else E1 i σ (ix2 ⟨r.1, by omega⟩ q) := by
  have e : (Rect.unit (s := S208x2432) ![0, 0] S16x2432.size inb_S208x2432_S16x2432_0_0).emb (ix2 r q)
      = ix2 ⟨r.1, by omega⟩ q := by
    blk_ext []
  have e2 : (Rect.unit (s := S208x2432) ![192, 0] S16x2432.size inb_S208x2432_S16x2432_192_0).emb (ix2 r q)
      = ix2 ⟨192 + r.1, by omega⟩ q := by
    blk_ext []
  unfold step
  rw [S18_a27, f_arg0, ← e, put_hit, ← e2]
  unfold k0_pay4
  rw [shapeCast_self]
  unfold Scalar.select
  split_ifs with h1 h2 h2
  · rfl
  · exact (h2 h1).elim
  · exact (h1 h2).elim
  · rfl

/-- The row right above the tile: the position before the tile's first. -/
theorem E1_above (c : Dev nD) : ∀ (n : ℕ) (h : n < cfg0.N) (q : Fin 2432),
    E1 (grid0.coords ⟨n, h⟩) (ein m c n h) (ix2 15 q) = pv m c (sq n) (ps n 0) q := by
  intro n
  induction n with
  | zero =>
    intro h q
    refine (E1_up _ _ 15 q).trans ((z27_zero _ _ ((cond16 ⟨0, h⟩).2 (by show tl 0 % 11 = 0; rfl)) 15 q).trans ?_)
    unfold pv
    rw [if_pos (by decide)]
  | succ n ih =>
    intro h q
    have hN : n + 1 < 177 := h
    refine (E1_up _ _ 15 q).trans ?_
    by_cases hz : tl (n + 1) % 11 = 0
    · refine (z27_zero _ _ ((cond16 ⟨n + 1, h⟩).2 hz) 15 q).trans ?_
      unfold pv
      rw [if_pos (by show 192 * (tl (n + 1) % 11) + 0 = 0; rw [hz])]
    · unfold z27
      rw [if_neg (fun hc => hz ((cond16 ⟨n + 1, h⟩).1 hc))]
      unfold ein
      rw [inp_a27]
      show (outs m c n (Nat.lt_of_succ_lt h)).a27 (ix2 ⟨(15 : Fin 16).1, by decide⟩ q) = _
      rw [outs_eq, left_row]
      by_cases hl : n < 175
      · rw [if_pos ((condLast ⟨n, Nat.lt_of_succ_lt h⟩).2 hl)]
        refine (E1_row m c n (Nat.lt_of_succ_lt h) 191 q).trans ?_
        unfold pv
        have h1 : tl n = n := by unfold tl; omega
        have h2 : tl (n + 1) = n + 1 := by unfold tl; omega
        rw [h2] at hz
        rw [if_neg (by show ¬ 192 * (tl (n + 1) % 11) + 0 = 0; rw [h2]; omega)]
        have eb : sq n = sq (n + 1) := Fin.ext (by show tl n / 11 = tl (n + 1) / 11; rw [h1, h2]; omega)
        rw [eb]
        refine congrArg (fun t => pr m c (sq (n + 1)) t q) (Fin.ext ?_)
        show 192 * (tl n % 11) + 191 = 192 * (tl (n + 1) % 11) + 0 - 1
        rw [h1, h2]; omega
      · rw [if_neg (fun hc => hl ((condLast ⟨n, Nat.lt_of_succ_lt h⟩).1 hc))]
        have hn : n = 175 := by omega
        subst hn
        exact ih (Nat.lt_of_succ_lt h) q

/-- Row `15 + r` of the scratch: the position before row `16 + r`'s. -/
theorem E1_prev (c : Dev nD) (n : ℕ) (h : n < cfg0.N) (r : Fin 192) (q : Fin 2432) :
    E1 (grid0.coords ⟨n, h⟩) (ein m c n h) (ix2 ⟨15 + r.1, by omega⟩ q) = pv m c (sq n) (ps n r) q := by
  by_cases hr : r.1 = 0
  · have : r = 0 := Fin.ext hr
    subst this
    exact E1_above m c n h q
  · have e : (⟨15 + r.1, by omega⟩ : Fin 208) = ⟨16 + (⟨r.1 - 1, by omega⟩ : Fin 192).1, by show 16 + (r.1 - 1) < 208; omega⟩ :=
      Fin.ext (by show 15 + r.1 = 16 + (r.1 - 1); omega)
    rw [e, E1_row]
    unfold pv
    rw [if_neg (by show ¬ 192 * (tl n % 11) + r.1 = 0; omega)]
    refine congrArg (fun t => pr m c (sq n) t q) (Fin.ext ?_)
    show 192 * (tl n % 11) + (r.1 - 1) = 192 * (tl n % 11) + r.1 - 1
    omega

end Cert.Mix
end
-- ==== Proof.MixRes.lean ====
module

public import proofs.«01_k».proof.Proof.MixVal

/-! What the points of the mixers' input call leave in the blocks of its results. -/

@[expose] public section

set_option maxRecDepth 16384

noncomputable section

namespace Cert.Mix

open Idealize.ShloMosaic Idealize.ShloMosaic.TcCoe Idealize.SL.Sem
open Idealize.ShloMosaic.Pipeline (Dat)
open Cert.Kernel3Ideal Cert.Kernel3Ideal.Gen Cert.Ffn

variable (m : (ℓ : Loc nD τ sig) → Buf (Elt Ideal) ℓ)

/-- The shift's share of a column. -/
def mu (c : Dev nD) (q : Fin 2432) : EReal :=
  if h : 512 ≤ q.1 ∧ q.1 < 2336 then m ((c : Thread nD τ).loc main_arg3) (ix2 0 ⟨q.1 - 512, by omega⟩) else 0

/-- The shifted column `q` at position `t` of sequence `b`. -/
def sh (c : Dev nD) (b : Fin 16) (t : Fin 2112) (q : Fin 2432) : EReal :=
  pr m c b t q + (pv m c b t q - pr m c b t q) * mu m c q

/-- The logistic function. -/
def sgm (x : EReal) : EReal := Ideal.div 1 (1 + Ideal.exp (0 - x))

/-- The value at a position. -/
def valV (c : Dev nD) (b : Fin 16) (t : Fin 2112) (d : Fin 512) : EReal := sh m c b t ⟨1536 + d.1, by omega⟩

/-- The gate at a position. -/
def valG (c : Dev nD) (b : Fin 16) (t : Fin 2112) (d : Fin 512) : EReal :=
  ∑ k : Fin 160, sgm (sh m c b t ⟨2176 + k.1, by omega⟩) * m ((c : Thread nD τ).loc main_arg10) (ix3 0 k d)

/-- The key rate's bias. -/
def b8 (c : Dev nD) (d : Fin 512) : EReal := m ((c : Thread nD τ).loc main_arg8) (ix2 0 d)

/-- The key rate at a position. -/
def valA (c : Dev nD) (b : Fin 16) (t : Fin 2112) (d : Fin 512) : EReal :=
  sgm (b8 m c d
    + ∑ k : Fin 64, sh m c b t ⟨2112 + k.1, by omega⟩ * m ((c : Thread nD τ).loc main_arg9) (ix3 0 k d))

/-- The scaled key at a position. -/
def valK (c : Dev nD) (b : Fin 16) (t : Fin 2112) (d : Fin 512) : EReal :=
  sh m c b t ⟨1024 + d.1, by omega⟩
    * (1 + (valA m c b t d - 1) * m ((c : Thread nD τ).loc main_arg12) (ix2 0 d))

/-- One head's bonus factor at a position. -/
def headSum (c : Dev nD) (b : Fin 16) (t : Fin 2112) (u : Fin 8) : EReal :=
  ∑ j : Fin 64, sh m c b t ⟨512 + (64 * u.1 + j.1), by omega⟩ * valK m c b t ⟨64 * u.1 + j.1, by omega⟩
    * m ((c : Thread nD τ).loc main_arg13) (ix2 0 ⟨64 * u.1 + j.1, by omega⟩)

/-- The bonus at a position. -/
def valB (c : Dev nD) (b : Fin 16) (t : Fin 2112) (d : Fin 512) : EReal :=
  headSum m c b t ⟨d.1 / 64, by omega⟩ * valV m c b t d

/-- A sum over 256 whose terms past 160 meet zeros. -/
theorem sum_low (f : Fin 256 → EReal) (g : Fin 160 → EReal) :
    ∑ k : Fin 256, f k * (if h : k.1 < 160 then g ⟨k.1, h⟩ else (0 : EReal)) = ∑ k : Fin 160, f ⟨k.1, by omega⟩ * g k := by
  have h := Fin.sum_univ_add (a := 160) (b := 96) fun k : Fin 256 => f k * (if h : k.1 < 160 then g ⟨k.1, h⟩ else (0 : EReal))
  refine h.trans ?_
  have h2 : ∑ i : Fin 96, f (Fin.natAdd 160 i) * (if h : (Fin.natAdd 160 i).1 < 160 then g ⟨(Fin.natAdd 160 i).1, h⟩ else (0 : EReal)) = 0 :=
    Finset.sum_eq_zero fun i _ => by rw [dif_neg (by rw [Fin.val_natAdd]; omega), mul_zero]
  rw [h2, add_zero]
  refine Finset.sum_congr rfl fun i _ => ?_
  rw [dif_pos (show (Fin.castAdd 96 i).1 < 160 from i.2)]
  rfl

/-- A sum over 128 whose first 64 terms meet zeros. -/
theorem sum_high (f : Fin 128 → EReal) (g : Fin 64 → EReal) :
    ∑ k : Fin 128, f k * (if h : 64 ≤ k.1 then g ⟨k.1 - 64, by omega⟩ else (0 : EReal)) = ∑ k : Fin 64, f ⟨64 + k.1, by omega⟩ * g k := by
  have h := Fin.sum_univ_add (a := 64) (b := 64) fun k : Fin 128 => f k * (if h : 64 ≤ k.1 then g ⟨k.1 - 64, by omega⟩ else (0 : EReal))
  refine h.trans ?_
  have h2 : ∑ i : Fin 64, f (Fin.castAdd 64 i) * (if h : 64 ≤ (Fin.castAdd 64 i).1 then g ⟨(Fin.castAdd 64 i).1 - 64, by omega⟩ else (0 : EReal)) = 0 :=
    Finset.sum_eq_zero fun i _ => by rw [dif_neg (by rw [Fin.val_castAdd]; omega), mul_zero]
  rw [h2, zero_add]
  refine Finset.sum_congr rfl fun i _ => ?_
  rw [dif_pos (show 64 ≤ (Fin.natAdd 64 i).1 by rw [Fin.val_natAdd]; omega)]
  have e : (⟨(Fin.natAdd 64 i).1 - 64, by omega⟩ : Fin 64) = i := Fin.ext (by show (Fin.natAdd 64 i).1 - 64 = i.1; rw [Fin.val_natAdd]; omega)
  rw [e]
  rfl

/-- A whole row read as a box. -/
theorem ld_row {w : ℕ} (X : (⟨2, ![1, w]⟩ : Shape).Idx → EReal) (inb) (d : Fin w) :
    ld (F := Ideal) (e := .f32) X (Rect.unit (s := ⟨2, ![1, w]⟩) ![0, 0] ![1, w] inb) (ix2 0 d) = X (ix2 0 d) := by
  refine congrArg X ?_
  funext a
  apply Fin.ext
  rw [ValueKit.rect_emb_unit_val]
  match a with
  | ⟨0, _⟩ => rfl
  | ⟨1, _⟩ => exact Nat.zero_add _

/-- A store into a box of a slot, read back. -/
theorem slot_hit (o : Fin 4 → ℕ) (ho : ∀ a, o a + S1x5x192x512.size a ≤ S2x5x192x512.size a) (r : Rect S5x192x512)
    (w : r.shape.Idx → EReal) (X : S2x5x192x512.Idx → EReal) (y : r.shape.Idx) :
    put (slotEmb o ho r) w X (slotEmb o ho r y) = w y := by
  refine Function.Injective.extend_apply (f := slotEmb o ho r) ?_ w X y
  intro a b hab
  unfold slotEmb at hab
  exact r.emb.injective ((Shape.reshapeEquiv squeezes_S1x5x192x512_S5x192x512.numel_eq).injective
    ((Rect.unit (s := S2x5x192x512) o S1x5x192x512.size ho).emb.injective hab))

/-- A store into one row of a slot, another row read. -/
theorem slot_miss (o : Fin 4 → ℕ) (ho : ∀ a, o a + S1x5x192x512.size a ≤ S2x5x192x512.size a) (k k' : ℕ) (hk : k ≠ k')
    (inb : ∀ a, (![k, 0, 0] : Fin 3 → ℕ) a + S1x192x512.size a ≤ S5x192x512.size a)
    (inb' : ∀ a, (![k', 0, 0] : Fin 3 → ℕ) a + S1x192x512.size a ≤ S5x192x512.size a)
    (w : S1x192x512.Idx → EReal) (X : S2x5x192x512.Idx → EReal) (y : S1x192x512.Idx) :
    put (slotEmb o ho (Rect.unit (s := S5x192x512) ![k, 0, 0] S1x192x512.size inb)) w X
        (slotEmb o ho (Rect.unit (s := S5x192x512) ![k', 0, 0] S1x192x512.size inb') y)
      = X (slotEmb o ho (Rect.unit (s := S5x192x512) ![k', 0, 0] S1x192x512.size inb') y) := by
  refine put_miss _ _ _ ?_
  rintro ⟨z, hz⟩
  unfold slotEmb at hz
  have h := (Shape.reshapeEquiv squeezes_S1x5x192x512_S5x192x512.numel_eq).injective
    ((Rect.unit (s := S2x5x192x512) o S1x5x192x512.size ho).emb.injective hz)
  have h0 := congrArg (fun j : S5x192x512.Idx => (j 0).val) h
  simp only [ValueKit.rect_emb_unit_val] at h0
  have h1 : k + (z 0).val = k' + (y 0).val := h0
  have hz0 : (z 0).val < 1 := (z 0).isLt
  have hy0 : (y 0).val < 1 := (y 0).isLt
  omega

/-- A slot is read at its offsets. -/
theorem slot_at {o o' : Fin 4 → ℕ} (e : o = o') (ho ho') (r : Rect S5x192x512) (X : S2x5x192x512.Idx → EReal) :
    ldSlot (F := Ideal) o ho X r = fun y => X (slotEmb o' ho' r y) := by
  subst e; rfl

/-- The slot a point reads is the one the point before it stored into. -/
theorem slots : ∀ n : Fin 176, k0_off1 (grid0.coords ⟨n.1 + 1, by have : grid0.N = 177 := N_0; omega⟩)
    = k0_off2 (grid0.coords ⟨n.1, by have : grid0.N = 177 := N_0; omega⟩) := by
  decide +kernel

/-- The stash is zeroed at the first point alone. -/
theorem cond13 : ∀ t : Fin cfg0.N, (c_v13 (grid0.coords t) = 1#1) ↔ t.1 = 0 :=
  (by decide +kernel : ∀ t : Fin grid0.N, (c_v13 (grid0.coords t) = 1#1) ↔ t.1 = 0)

/-- Value 68 at an index. -/
theorem pay68_at (X Y : Vec Ideal S192x512 .f32) (M : Vec Ideal S1x512 .f32) (r : Fin 192) (d : Fin 512) :
    k0_pay68 X Y M (ix2 r d) = X (ix2 r d) + (Y (ix2 r d) - X (ix2 r d)) * M (ix2 0 d) := by
  pointwise [k0_pay68]
/-- Value 66 at an index. -/
theorem pay66_at (X Y : Vec Ideal S192x512 .f32) (M : Vec Ideal S1x512 .f32) (r : Fin 192) (d : Fin 512) :
    k0_pay66 X Y M (ix3 0 r d) = X (ix2 r d) + (Y (ix2 r d) - X (ix2 r d)) * M (ix2 0 d) := by
  pointwise [k0_pay66]
/-- Value 67 at an index. -/
theorem pay67_at (X Y : Vec Ideal S192x512 .f32) (M : Vec Ideal S1x512 .f32) (r : Fin 192) (d : Fin 512) :
    k0_pay67 X Y M (ix3 0 r d) = X (ix2 r d) + (Y (ix2 r d) - X (ix2 r d)) * M (ix2 0 d) := by
  pointwise [k0_pay67]
/-- Value 69 at an index. -/
theorem pay69_at (X Y : Vec Ideal S192x128 .f32) (M : Vec Ideal S1x128 .f32) (r : Fin 192) (d : Fin 128) :
    k0_pay69 X Y M (ix2 r d) = X (ix2 r d) + (Y (ix2 r d) - X (ix2 r d)) * M (ix2 0 d) := by
  pointwise [k0_pay69]
/-- Value 70 at an index. -/
theorem pay70_at (X Y : Vec Ideal S192x256 .f32) (M : Vec Ideal S1x256 .f32) (r : Fin 192) (d : Fin 256) :
    k0_pay70 X Y M (ix2 r d) = X (ix2 r d) + (Y (ix2 r d) - X (ix2 r d)) * M (ix2 0 d) := by
  pointwise [k0_pay70]
/-- Value 74 at an index. -/
theorem pay74_at (X : FVec Ideal S192x256 .f32) (r : Fin 192) (d : Fin 256) :
    k0_pay74 X (ix2 r d) = sgm (X (ix2 r d)) := by
  pointwise [k0_pay74, sgm]
/-- Value 1 at an index. -/
theorem pay1_at (X : FVec Ideal S192x256 .bf16) (W : FVec Ideal S256x512 .bf16) (r : Fin 192) (d : Fin 512) :
    k0_pay1 X W (ix3 0 r d) = ∑ k : Fin 256, X (ix2 r k) * W (ix2 k d) := by
  pointwise [k0_pay1]
/-- Value 2 at an index. -/
theorem pay2_at (X : FVec Ideal S192x512 .f32) (r : Fin 192) (d : Fin 512) : k0_pay2 X (ix3 0 r d) = X (ix2 r d) := by
  pointwise [k0_pay2]
/-- Value 3 at an index. -/
theorem pay3_at (X : FVec Ideal S192x512 .f32) (r : Fin 192) (d : Fin 512) : k0_pay3 X (ix3 0 r d) = X (ix2 r d) := by
  pointwise [k0_pay3]
/-- Value 73 at an index. -/
theorem pay73_at (X : FVec Ideal S192x128 .f32) (a : Vec Ideal S1x512 .f32) (W : Vec Ideal S128x512 .bf16) (r : Fin 192) (d : Fin 512) :
    k0_pay73 X a W (ix3 0 r d) = sgm (a (ix2 0 d) + ∑ k : Fin 128, X (ix2 r k) * W (ix2 k d)) := by
  pointwise [k0_pay73, sgm]
/-- Value 7 at an index. -/
theorem pay7_at (X : Vec Ideal S1x192x512 .f32) (r : Fin 192) (d : Fin 512) : k0_pay7 X (ix2 r d) = X (ix3 0 r d) := by
  pointwise [k0_pay7]
/-- Value 8 at an index. -/
theorem pay8_at (X : Vec Ideal S1x192x512 .f32) (r : Fin 192) (d : Fin 512) : k0_pay8 X (ix2 r d) = X (ix3 0 r d) := by
  pointwise [k0_pay8]
/-- Value 9 at an index. -/
theorem pay9_at (X : Vec Ideal S1x192x512 .f32) (r : Fin 192) (d : Fin 512) : k0_pay9 X (ix2 r d) = X (ix3 0 r d) := by
  pointwise [k0_pay9]
/-- Value 11 at an index. -/
theorem pay11_at (X : Vec Ideal S1x192x512 .f32) (r : Fin 192) (d : Fin 512) : k0_pay11 X (ix2 r d) = X (ix3 0 r d) := by
  pointwise [k0_pay11]
/-- Value 41 at an index. -/
theorem pay41_at (K A : FVec Ideal S192x512 .f32) (w : Vec Ideal S1x512 .f32) (r : Fin 192) (d : Fin 512) :
    k0_pay41 K A w (ix2 r d) = K (ix2 r d) * (1 + (A (ix2 r d) - 1) * w (ix2 0 d)) := by
  pointwise [k0_pay41]
/-- Value 52 at an index. -/
theorem pay52_at (X : FVec Ideal S192x512 .f32) (r : Fin 192) (d : Fin 512) : k0_pay52 X (ix3 0 r d) = X (ix2 r d) := by
  pointwise [k0_pay52]
/-- Value 53 at an index. -/
theorem pay53_at (X Y : FVec Ideal S192x512 .f32) (r : Fin 192) (d : Fin 512) :
    k0_pay53 X Y (ix2 r d) = X (ix2 r d) * Y (ix2 r d) := by
  pointwise [k0_pay53]
/-- Value 54 at an index. -/
theorem pay54_at (w : Vec Ideal S1x512 .f32) (r : Fin 192) (d : Fin 512) : k0_pay54 w (ix2 r d) = w (ix2 0 d) := by
  pointwise [k0_pay54]
/-- The lower half of a group of 128 lanes. -/
theorem lane : ∀ k : Fin 128, (IntOp.cmpi .slt (BitVec.ofNat 32 k.1) 64#32 = 1#1) ↔ k.1 < 64 := by
  decide +kernel
/-- Value 55 at an index. -/
theorem pay55_at (v : FVec Ideal S192x512 .f32) (X Y : FVec Ideal S192x512 .f32) (r : Fin 192) (d : Fin 512) :
    k0_pay55 v k0_pay27 X Y (ix2 r d)
      = (∑ j : Fin 64, X (ix2 r ⟨64 * (d.1 / 64) + j.1, by omega⟩) * Y (ix2 r ⟨64 * (d.1 / 64) + j.1, by omega⟩)) * v (ix2 r d) := by
  pointwise [k0_pay55, k0_pay27]
  have sel : ∀ k : ℕ, k < 128 → ∀ a b : EReal, Scalar.select (IntOp.cmpi .slt (BitVec.ofNat 32 k) 64#32) a b = if k < 64 then a else b := by
    intro k hk a b
    have e := lane ⟨k, hk⟩
    unfold Scalar.select
    by_cases hl : k < 64
    · rw [if_pos hl]; exact if_pos (e.2 hl)
    · rw [if_neg hl]; exact if_neg fun hc => hl (e.1 hc)
  have hd : d.1 < 512 := d.2
  refine congrArg (· * v (ix2 r d)) ?_
  have hu : d.1 / 64 = 0 ∨ d.1 / 64 = 1 ∨ d.1 / 64 = 2 ∨ d.1 / 64 = 3 ∨ d.1 / 64 = 4 ∨ d.1 / 64 = 5 ∨ d.1 / 64 = 6 ∨ d.1 / 64 = 7 := by
    omega
  rcases hu with hu | hu | hu | hu | hu | hu | hu | hu
  · rw [dif_pos (by omega), sel _ (by omega), if_pos (by omega)]
    simp only [hu, Nat.mul_zero, Nat.zero_add]
  · rw [dif_pos (by omega), sel _ (by omega), if_neg (by omega)]
    simp only [hu]
  · rw [dif_neg (by omega), dif_pos (by omega), sel _ (by omega), if_pos (by omega)]
    simp only [hu]
  · rw [dif_neg (by omega), dif_pos (by omega), sel _ (by omega), if_neg (by omega)]
    simp only [hu]
  · rw [dif_neg (by omega), dif_neg (by omega), dif_pos (by omega), sel _ (by omega), if_pos (by omega)]
    simp only [hu]
  · rw [dif_neg (by omega), dif_neg (by omega), dif_pos (by omega), sel _ (by omega), if_neg (by omega)]
    simp only [hu]
  · rw [dif_neg (by omega), dif_neg (by omega), dif_neg (by omega), sel _ (by omega), if_pos (by omega)]
    simp only [hu]
  · rw [dif_neg (by omega), dif_neg (by omega), dif_neg (by omega), sel _ (by omega), if_neg (by omega)]
    simp only [hu]
/-- Value 56 at an index. -/
theorem pay56_at (X : FVec Ideal S192x512 .f32) (r : Fin 192) (d : Fin 512) : k0_pay56 X (ix3 0 r d) = X (ix2 r d) := by
  pointwise [k0_pay56]
/-- A change of shape to the same shape. -/
theorem pay75_eq (X : Vec Ideal S256x512 .bf16) : k0_pay75 X = X := by
  unfold k0_pay75; rw [shapeCast_self]

section
variable (c : Dev nD) (n : ℕ) (h : n < cfg0.N)

/-- The shift rates a point reads. -/
theorem ein_a4 (q : Fin 2432) : (ein m c n h).a4 (ix2 0 q) = mu m c q := by
  unfold ein; rw [inp_a4, blk3]; rfl

/-- The projected columns, read at a box of them. -/
theorem e16 (o w : ℕ) (inb) (r : Fin 192) (k : Fin w) (ho : o + w ≤ 2432) :
    ld (E1 (grid0.coords ⟨n, h⟩) (ein m c n h)) (Rect.unit (s := S208x2432) ![16, o] ![192, w] inb) (ix2 r k)
      = pr m c (sq n) (ps n r) ⟨o + k.1, by omega⟩ := by
  rw [← E1_row m c n h]
  refine congrArg (E1 (grid0.coords ⟨n, h⟩) (ein m c n h)) ?_
  funext a
  apply Fin.ext
  rw [ValueKit.rect_emb_unit_val]
  match a with
  | ⟨0, _⟩ => rfl
  | ⟨1, _⟩ => rfl

/-- The same a row before. -/
theorem e15 (o w : ℕ) (inb) (r : Fin 192) (k : Fin w) (ho : o + w ≤ 2432) :
    ld (E1 (grid0.coords ⟨n, h⟩) (ein m c n h)) (Rect.unit (s := S208x2432) ![15, o] ![192, w] inb) (ix2 r k)
      = pv m c (sq n) (ps n r) ⟨o + k.1, by omega⟩ := by
  rw [← E1_prev m c n h]
  refine congrArg (E1 (grid0.coords ⟨n, h⟩) (ein m c n h)) ?_
  funext a
  apply Fin.ext
  rw [ValueKit.rect_emb_unit_val]
  match a with
  | ⟨0, _⟩ => rfl
  | ⟨1, _⟩ => rfl

/-- The shift's shares, read at a box of them. -/
theorem ldmu (o w : ℕ) (inb) (k : Fin w) (ho : o + w ≤ 2432) :
    ld (F := Ideal) (e := .f32) (ein m c n h).a4 (Rect.unit (s := S1x2432) ![0, o] ![1, w] inb) (ix2 0 k)
      = mu m c ⟨o + k.1, by omega⟩ := by
  rw [← ein_a4 m c n h]
  refine congrArg (ein m c n h).a4 ?_
  funext a
  apply Fin.ext
  rw [ValueKit.rect_emb_unit_val]
  match a with
  | ⟨0, _⟩ => rfl
  | ⟨1, _⟩ => rfl

/-- The shifted columns from their three parts. -/
theorem shift {x y z : EReal} {b : Fin 16} {t : Fin 2112} {q : Fin 2432} (hx : x = pr m c b t q) (hy : y = pv m c b t q)
    (hz : z = mu m c q) : x + (y - x) * z = sh m c b t q := by
  rw [hx, hy, hz]; rfl

/-- The value's columns. -/
theorem x464 (r : Fin 192) (d : Fin 512) :
    x_v464 (grid0.coords ⟨n, h⟩) (ein m c n h) (ix2 r d) = valV m c (sq n) (ps n r) d := by
  rw [f_v464]
  exact (pay68_at _ _ _ r d).trans (shift m c (e16 m c n h 1536 512 _ r d (by omega)) (e15 m c n h 1536 512 _ r d (by omega))
    (ldmu m c n h 1536 512 _ d (by omega)))

/-- The gate's columns. -/
theorem x480 (r : Fin 192) (d : Fin 256) :
    x_v480 (grid0.coords ⟨n, h⟩) (ein m c n h) (ix2 r d) = sh m c (sq n) (ps n r) ⟨2176 + d.1, by omega⟩ := by
  rw [f_v480]
  exact (pay70_at _ _ _ r d).trans (shift m c (e16 m c n h 2176 256 _ r d (by omega)) (e15 m c n h 2176 256 _ r d (by omega))
    (ldmu m c n h 2176 256 _ d (by omega)))

/-- The columns of decay and key rate. -/
theorem x472 (r : Fin 192) (d : Fin 128) :
    x_v472 (grid0.coords ⟨n, h⟩) (ein m c n h) (ix2 r d) = sh m c (sq n) (ps n r) ⟨2048 + d.1, by omega⟩ := by
  rw [f_v472]
  exact (pay69_at _ _ _ r d).trans (shift m c (e16 m c n h 2048 128 _ r d (by omega)) (e15 m c n h 2048 128 _ r d (by omega))
    (ldmu m c n h 2048 128 _ d (by omega)))

/-- The block of the first layer's values. -/
theorem out_v (r : Fin 192) (d : Fin 512) : (outs m c n h).a26 (ix3 0 r d) = valV m c (sq n) (ps n r) d := by
  rw [outs_eq]; unfold step
  rw [S18_a26]
  exact (pay2_at _ r d).trans (x464 m c n h r d)

/-- The gate's weight, as it is read. -/
theorem x535 (k : Fin 256) (d : Fin 512) : x_v535 (grid0.coords ⟨n, h⟩) (ein m c n h) (ix2 k d)
    = if h : k.1 < 160 then m ((c : Thread nD τ).loc main_arg10) (ix3 0 ⟨k.1, h⟩ d) else (0 : EReal) := by
  rw [f_v535, pay75_eq]
  unfold ein
  rw [inp_a11, ← blk10 m c ⟨n, h⟩ k d]
  exact congrArg (iblk m c 10 ⟨n, h⟩) (by blk_ext [])

/-- The block of the gate. -/
theorem out_g (r : Fin 192) (d : Fin 512) : (outs m c n h).a24 (ix3 0 r d) = valG m c (sq n) (ps n r) d := by
  rw [outs_eq]; unfold step
  rw [S18_a24, f_v533]
  refine (pay1_at _ _ r d).trans ?_
  simp only [pay74_at, x480, x535]
  exact sum_low (fun k => sgm (sh m c (sq n) (ps n r) ⟨2176 + k.1, by omega⟩))
    (fun k => m ((c : Thread nD τ).loc main_arg10) (ix3 0 k d))

variable (h1 : n + 1 < cfg0.N)

/-- What a point reads of the stash is what the point before left there. -/
theorem stash (k : ℕ) (inb : ∀ a, (![k, 0, 0] : Fin 3 → ℕ) a + S1x192x512.size a ≤ S5x192x512.size a) :
    ldSlot (k0_off1 (grid0.coords ⟨n + 1, h1⟩)) (k0_off1_inb _) (z28 (grid0.coords ⟨n + 1, h1⟩) (ein m c (n + 1) h1))
        (Rect.unit (s := S5x192x512) ![k, 0, 0] S1x192x512.size inb)
      = fun y => (step (grid0.coords ⟨n, Nat.lt_of_succ_lt h1⟩) (ein m c n (Nat.lt_of_succ_lt h1))).a28
          (slotEmb (k0_off2 (grid0.coords ⟨n, Nat.lt_of_succ_lt h1⟩)) (k0_off2_inb _)
            (Rect.unit (s := S5x192x512) ![k, 0, 0] S1x192x512.size inb) y) := by
  have hN : n + 1 < 177 := h1
  have e : z28 (grid0.coords ⟨n + 1, h1⟩) (ein m c (n + 1) h1)
      = (step (grid0.coords ⟨n, Nat.lt_of_succ_lt h1⟩) (ein m c n (Nat.lt_of_succ_lt h1))).a28 := by
    unfold z28
    rw [if_neg (fun hc => Nat.succ_ne_zero n ((cond13 ⟨n + 1, h1⟩).1 hc)), ← outs_eq]
    show (inp m c ⟨n + 1, h1⟩ (outs m c n (Nat.lt_of_succ_lt h1))).a28 = _
    rw [inp_a28]
  rw [e]
  exact slot_at (slots ⟨n, by omega⟩) _ (k0_off2_inb _) _ _

/-- The stashed receptance. -/
theorem x31 (r : Fin 192) (d : Fin 512) : x_v31 (grid0.coords ⟨n + 1, h1⟩) (ein m c (n + 1) h1) (ix2 r d)
    = sh m c (sq n) (ps n r) ⟨512 + d.1, by omega⟩ := by
  rw [f_v31, pay7_at, stash m c n h1]
  show (step _ _).a28 _ = _
  unfold step
  rw [S18_a28, slot_miss _ _ 2 0 (by decide), slot_miss _ _ 4 0 (by decide), slot_miss _ _ 3 0 (by decide),
    slot_miss _ _ 1 0 (by decide), slot_hit, pay66_at, f_v431, f_v432]
  exact shift m c (e16 m c n (Nat.lt_of_succ_lt h1) 512 512 _ r d (by omega)) (e15 m c n (Nat.lt_of_succ_lt h1) 512 512 _ r d (by omega))
    (ldmu m c n (Nat.lt_of_succ_lt h1) 512 512 _ d (by omega))

/-- The stashed key. -/
theorem x35 (r : Fin 192) (d : Fin 512) : x_v35 (grid0.coords ⟨n + 1, h1⟩) (ein m c (n + 1) h1) (ix2 r d)
    = sh m c (sq n) (ps n r) ⟨1024 + d.1, by omega⟩ := by
  rw [f_v35, pay8_at, stash m c n h1]
  show (step _ _).a28 _ = _
  unfold step
  rw [S18_a28, slot_miss _ _ 2 1 (by decide), slot_miss _ _ 4 1 (by decide), slot_miss _ _ 3 1 (by decide), slot_hit, pay67_at]
  exact shift m c (e16 m c n (Nat.lt_of_succ_lt h1) 1024 512 _ r d (by omega)) (e15 m c n (Nat.lt_of_succ_lt h1) 1024 512 _ r d (by omega))
    (ldmu m c n (Nat.lt_of_succ_lt h1) 1024 512 _ d (by omega))

/-- The stashed value. -/
theorem x39 (r : Fin 192) (d : Fin 512) : x_v39 (grid0.coords ⟨n + 1, h1⟩) (ein m c (n + 1) h1) (ix2 r d)
    = valV m c (sq n) (ps n r) d := by
  rw [f_v39, pay9_at, stash m c n h1]
  show (step _ _).a28 _ = _
  unfold step
  rw [S18_a28, slot_hit, pay3_at]
  exact x464 m c n (Nat.lt_of_succ_lt h1) r d

/-- The stashed key rate. -/
theorem x47 (r : Fin 192) (d : Fin 512) : x_v47 (grid0.coords ⟨n + 1, h1⟩) (ein m c (n + 1) h1) (ix2 r d)
    = valA m c (sq n) (ps n r) d := by
  rw [f_v47, pay11_at, stash m c n h1]
  show (step _ _).a28 _ = _
  unfold step
  rw [S18_a28, slot_miss _ _ 2 4 (by decide), slot_hit, pay73_at]
  unfold valA
  have e9 : ∀ d, ld (F := Ideal) (e := .f32) (ein m c n (Nat.lt_of_succ_lt h1)).a9 (Rect.unit (s := S1x512) ![0, 0] S1x512.size inb_S1x512_S1x512_0_0) (ix2 0 d) = b8 m c d := by
    intro d
    refine (ld_row (w := 512) _ _ d).trans ?_
    unfold ein; rw [inp_a9, blk8]; rfl
  have e10 : ∀ k d, ld (F := Ideal) (e := .bf16) (ein m c n (Nat.lt_of_succ_lt h1)).a10 (Rect.unit (s := S128x512) ![0, 0] S128x512.size inb_S128x512_S128x512_0_0) (ix2 k d)
      = if h : 64 ≤ k.1 then m ((c : Thread nD τ).loc main_arg9) (ix3 0 ⟨k.1 - 64, by omega⟩ d) else (0 : EReal) := by
    intro k d
    unfold ein
    rw [inp_a10, ← blk9 m c ⟨n, Nat.lt_of_succ_lt h1⟩ k d]
    exact congrArg (iblk m c 9 ⟨n, Nat.lt_of_succ_lt h1⟩) (by blk_ext [])
  rw [e9]
  simp only [e10, x472]
  refine congrArg (fun s => sgm (b8 m c d + s)) ?_
  refine (sum_high (fun k => sh m c (sq n) (ps n r) ⟨2048 + k.1, by omega⟩)
    (fun k => m ((c : Thread nD τ).loc main_arg9) (ix3 0 k d))).trans ?_
  refine Finset.sum_congr rfl fun k _ => ?_
  refine congrArg (fun q => sh m c (sq n) (ps n r) q * m ((c : Thread nD τ).loc main_arg9) (ix3 0 k d)) (Fin.ext ?_)
  show 2048 + (64 + k.1) = 2112 + k.1
  omega

/-- The scaled key. -/
theorem x188 (r : Fin 192) (d : Fin 512) : x_v188 (grid0.coords ⟨n + 1, h1⟩) (ein m c (n + 1) h1) (ix2 r d)
    = valK m c (sq n) (ps n r) d := by
  rw [f_v188, pay41_at, x35, x47]
  have e13 : ld (F := Ideal) (e := .f32) (ein m c (n + 1) h1).a13 (Rect.unit (s := S1x512) ![0, 0] S1x512.size inb_S1x512_S1x512_0_0) (ix2 0 d) = m ((c : Thread nD τ).loc main_arg12) (ix2 0 d) := by
    refine (ld_row (w := 512) _ _ d).trans ?_
    unfold ein; rw [inp_a13, blk12]
  rw [e13]
  rfl

/-- The bonus's weight. -/
theorem x235 (r : Fin 192) (d : Fin 512) : x_v235 (grid0.coords ⟨n + 1, h1⟩) (ein m c (n + 1) h1) (ix2 r d)
    = m ((c : Thread nD τ).loc main_arg13) (ix2 0 d) := by
  rw [f_v235, pay54_at]
  refine (ld_row (w := 512) _ _ d).trans ?_
  unfold ein; rw [inp_a14, blk13]

/-- The block of the values, a point late. -/
theorem out_vb (r : Fin 192) (d : Fin 512) : (outs m c (n + 1) h1).a22 (ix3 0 r d) = valV m c (sq n) (ps n r) d := by
  rw [outs_eq]; unfold step
  rw [S18_a22]
  exact (pay52_at _ r d).trans (x39 m c n h1 r d)

/-- The block of the bonus, a point late. -/
theorem out_b (r : Fin 192) (d : Fin 512) : (outs m c (n + 1) h1).a23 (ix3 0 r d) = valB m c (sq n) (ps n r) d := by
  rw [outs_eq]; unfold step
  rw [S18_a23, pay56_at, f_v282, f_v104, pay55_at, x39, f_v232]
  unfold valB headSum
  refine congrArg (· * valV m c (sq n) (ps n r) d) (Finset.sum_congr rfl fun j _ => ?_)
  rw [pay53_at, x31, x188, x235]

end
end Cert.Mix
end
-- ==== Proof.MixFin.lean ====
module

public import proofs.«01_k».proof.Proof.MixRes

/-! The arrays the mixers' input call ends with. -/

@[expose] public section

set_option maxRecDepth 16384

noncomputable section

namespace Cert.Mix

open Idealize.ShloMosaic Idealize.ShloMosaic.TcCoe Idealize.SL.Sem
open Idealize.ShloMosaic.Pipeline (Dat)
open Cert.Kernel3Ideal Cert.Kernel3Ideal.Gen Cert.Ffn

variable (m : (ℓ : Loc nD τ sig) → Buf (Elt Ideal) ℓ)

/-- The values. -/
def resV (c : Dev nD) : S16x2112x512.Idx → EReal := fun i => valV m c (i 0) (i 1) (i 2)
/-- The gate. -/
def resG (c : Dev nD) : S16x2112x512.Idx → EReal := fun i => valG m c (i 0) (i 1) (i 2)
/-- The bonus. -/
def resB (c : Dev nD) : S16x2112x512.Idx → EReal := fun i => valB m c (i 0) (i 1) (i 2)

/-- The array of the first layer's values. -/
theorem final_v (c : Dev nD) : (dats m 0 c).arrAt 25 (cfgs 0).N = resV m c := by
  refine (dats m 0 c).arrAt_eq_of_covers 25 _ (by decide +kernel) fun t _ y => ?_
  blk_simp
  rw [after0_25]
  idx_vars y
  have h0 : y0 = 0 := Subsingleton.elim _ _
  subst h0
  rw [out_v]
  have e : ((View.whole main_v46_11).slice (win0_25.rect t)).emb (ix3 0 y1 y2) = ix3 (sq t.1) (ps t.1 y1) y2 := by
    blk_ext [idx t]
  rw [e]
  rfl

/-- The array of the gate. -/
theorem final_g (c : Dev nD) : (dats m 0 c).arrAt 23 (cfgs 0).N = resG m c := by
  refine (dats m 0 c).arrAt_eq_of_covers 23 _ (by decide +kernel) fun t _ y => ?_
  blk_simp
  rw [after0_23]
  idx_vars y
  have h0 : y0 = 0 := Subsingleton.elim _ _
  subst h0
  rw [out_g]
  have e : ((View.whole main_v46_9).slice (win0_23.rect t)).emb (ix3 0 y1 y2) = ix3 (sq t.1) (ps t.1 y1) y2 := by
    blk_ext [idx t]
  rw [e]
  rfl

/-- The blocks that come a point late are not written back at the first point. -/
theorem late21 : ∀ t : Fin cfg0.N, win0_21.flush t = true → t.1 ≠ 0 :=
  (by decide +kernel : ∀ t : Fin grid0.N, win0_21.flush t = true → t.1 ≠ 0)
/-- Likewise for the bonus. -/
theorem late22 : ∀ t : Fin cfg0.N, win0_22.flush t = true → t.1 ≠ 0 :=
  (by decide +kernel : ∀ t : Fin grid0.N, win0_22.flush t = true → t.1 ≠ 0)

/-- The array of the values for the recurrence. -/
theorem final_vb (c : Dev nD) : (dats m 0 c).arrAt 21 (cfgs 0).N = resV m c := by
  refine (dats m 0 c).arrAt_eq_of_covers 21 _ (by decide +kernel) fun t hf y => ?_
  have ht := late21 t hf
  obtain ⟨n, hn⟩ := t
  obtain _ | n := n
  · exact absurd rfl ht
  blk_simp
  rw [after0_21]
  idx_vars y
  have h0 : y0 = 0 := Subsingleton.elim _ _
  subst h0
  have hN : n + 1 < 177 := hn
  have hl : tl n = n := by unfold tl; omega
  refine (out_vb m c n hn y1 y2).trans ?_
  have e : ((View.whole main_v46_7).slice (win0_21.rect ⟨n + 1, hn⟩)).emb (ix3 0 y1 y2) = ix3 (sq n) (ps n y1) y2 := by
    blk_ext [idx ⟨n + 1, hn⟩, hl]
  rw [e]
  rfl

/-- The array of the bonus. -/
theorem final_b (c : Dev nD) : (dats m 0 c).arrAt 22 (cfgs 0).N = resB m c := by
  refine (dats m 0 c).arrAt_eq_of_covers 22 _ (by decide +kernel) fun t hf y => ?_
  have ht := late22 t hf
  obtain ⟨n, hn⟩ := t
  obtain _ | n := n
  · exact absurd rfl ht
  blk_simp
  rw [after0_22]
  idx_vars y
  have h0 : y0 = 0 := Subsingleton.elim _ _
  subst h0
  have hN : n + 1 < 177 := hn
  have hl : tl n = n := by unfold tl; omega
  refine (out_b m c n hn y1 y2).trans ?_
  have e : ((View.whole main_v46_8).slice (win0_22.rect ⟨n + 1, hn⟩)).emb (ix3 0 y1 y2) = ix3 (sq n) (ps n y1) y2 := by
    blk_ext [idx ⟨n + 1, hn⟩, hl]
  rw [e]
  rfl

end Cert.Mix
end
-- ==== Proof.MixBody.lean ====
/-
  The mixers' input call, at one point: the body run from what the points before left.
-/
module

public import proofs.«01_k».proof.Proof.MixOuts
public import proofs.«01_k».proof.Proof.Gen.Kernel3Ideal.Frame
public import Idealize.ShloMosaic.Lib.Claim

@[expose] public section

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel3Ideal Cert.Kernel3Ideal.Gen

set_option maxRecDepth 16384

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body run at a point, from any contents of its buffers with the inputs at their blocks. -/
theorem run_at (c : Dev nD) (t : Fin cfg0.N) (σ τ' : St F) (K : sProp 𝕄) (h : step (grid0.coords t) σ = τ') :
    iprop(held c (bufs t) σ ∗ (held c (bufs t) τ' -∗ K)) ⊢ wp frame (wpE (defs₀ (F := F)) Variants.none c none) Set.univ (bodyAt0 t) (fun _ => K) := by
  subst h
  exact run_body c (bufs t) (grid0.coords t) σ Set.univ (fun _ => K)

set_option maxHeartbeats 4000000 in
/-- The body at the point `t`, the scratch at some contents from which the point leaves what `outs` says. -/
theorem sound_at (c : Dev nD) (t : Fin cfg0.N) (x27 : Vec F S208x2432 .f32) (x28 : Vec F S2x5x192x512 .f32)
    (hs : ∀ σ : St F, σ.a27 = x27 → σ.a28 = x28 → step (grid0.coords t) (inp m c t σ) = outs m c t.val t.isLt) :
    iprop((iprop(owns (c : Thread nD τ) sc0 fullShare x27 ∗ owns (c : Thread nD τ) sc1 fullShare x28) ∗ (∃ r, prngReg c r)) ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d))
    ∗ (∃ d, owns (c : Thread nD τ) (win0_20.stage (cfg0.slots t 20)) fullShare ((dats m 0 c).before 20 t d))
    ∗ (∃ d, owns (c : Thread nD τ) (win0_21.stage (cfg0.slots t 21)) fullShare ((dats m 0 c).before 21 t d))
    ∗ (∃ d, owns (c : Thread nD τ) (win0_22.stage (cfg0.slots t 22)) fullShare ((dats m 0 c).before 22 t d))
    ∗ (∃ d, owns (c : Thread nD τ) (win0_23.stage (cfg0.slots t 23)) fullShare ((dats m 0 c).before 23 t d))
    ∗ (∃ d, owns (c : Thread nD τ) (win0_24.stage (cfg0.slots t 24)) fullShare ((dats m 0 c).before 24 t d))
    ∗ (∃ d, owns (c : Thread nD τ) (win0_25.stage (cfg0.slots t 25)) fullShare ((dats m 0 c).before 25 t d)))
    ⊢ wp frame (wpE (defs₀ (F := F)) Variants.none c none) Set.univ (bodyAt0 t) (fun _ => bodyPost m c t) := by
  unfold bodyPost
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [show (dats m 0 c).Φ t.succ = PhiS m c (t.val + 1) t.isLt from rfl, PhiS_succ]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  have ho := hs ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, (dats m 0 c).before 14 t d14, (dats m 0 c).before 15 t d15, (dats m 0 c).before 16 t d16, (dats m 0 c).before 17 t d17, (dats m 0 c).before 18 t d18, (dats m 0 c).before 19 t d19, (dats m 0 c).before 20 t d20, (dats m 0 c).before 21 t d21, (dats m 0 c).before 22 t d22, (dats m 0 c).before 23 t d23, (dats m 0 c).before 24 t d24, (dats m 0 c).before 25 t d25, x27, x28⟩ rfl rfl
  iapply (run_at c t _ _ _ ho)
  rw [held_eq, held_eq]
  dsimp only [bufs]
  rw [outs_a1, outs_a2, outs_a3, outs_a4, outs_a5, outs_a6, outs_a7, outs_a8, outs_a9, outs_a10, outs_a11, outs_a12, outs_a13, outs_a14]
  isplitl [H0 H1 H2 H3 H4 H5 H6 H7 H8 H9 H10 H11 H12 H13 H14 H15 H16 H17 H18 H19 H20 H21 H22 H23 H24 H25 HS0 HS1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [HS0]; · iexact HS0
    iexact HS1
  iintro ⟨H0, H1, H2, H3, H4, H5, H6, H7, H8, H9, H10, H11, H12, H13, H14, H15, H16, H17, H18, H19, H20, H21, H22, H23, H24, H25, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

end Cert.Mix

end
-- ==== Proof.MixFrame.lean ====
/-
  The mixers' input call, run: it ends with its argument arrays unchanged
  and its outputs at what the points left.
-/
module

public import proofs.«01_k».proof.Proof.MixBody
public import proofs.«01_k».proof.Proof.Gen.Kernel3Ideal.Frame
public import Idealize.ShloMosaic.Lib.Claim

@[expose] public section

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel3Ideal Cert.Kernel3Ideal.Gen

set_option maxRecDepth 16384

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  rw [PhiS_castSucc m c t]
  by_cases hz : t.val = 0
  · rw [PhiS_zero m c _ _ hz, PhiA_eq]
    iintro ⟨⟨⟨⟨%x27, HS0⟩, ⟨%x28, HS1⟩⟩, Hg⟩, HR⟩
    iapply (sound_at m c t x27 x28 (fun σ _ _ => step_first m c t hz σ))
    isplitl [HS0 HS1 Hg]
    · isplitl [HS0 HS1]
      · isplitl [HS0]; · iexact HS0
        iexact HS1
      iexact Hg
    iexact HR
  · rw [PhiS_pos m c _ _ hz]
    exact sound_at m c t _ _ (fun σ h27 h28 => step_next m c t hz σ h27 h28)

/-- The body table's row at the point `t` is the body. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After any point but the first the invariant gives back what the launch handed over. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 177 := N_0; omega)

-- the launch rule's implicit arguments are found by unifying its conclusion with this one
set_option backward.isDefEq.respectTransparency.types false in
/-- The program terminates with every array at what the pipeline's data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) (run_main m ρ)) ((θ_run defs _ _).mono (fun _ h => h.2) (run_main_quiescent m ρ))

end Cert.Mix
-- ==== Proof.MixRef.lean ====
module

public import proofs.«01_k».proof.Proof.Gen.Reference3Ideal.Read
public import proofs.«01_k».proof.Proof.FfnMath
public import Idealize.ShloMosaic.Lib.Pointwise

/-! What the reference of the mixers' input call holds, element by element. -/

@[expose] public section

set_option maxRecDepth 16384

noncomputable section

namespace Cert.MixRef

open Cert.Reference3Ideal Cert.Reference3Ideal.Read Idealize.ShloMosaic Cert.Ffn

variable (x0 : (⟨S16x2112x1024, .f32⟩ : BufTy).Contents (Elt Ideal))
  (x1 : (⟨S4x1024, .f32⟩ : BufTy).Contents (Elt Ideal))
  (x2 : (⟨S4x1024x2336, .f32⟩ : BufTy).Contents (Elt Ideal))
  (x3 : (⟨S4x1824, .f32⟩ : BufTy).Contents (Elt Ideal))
  (x8 : (⟨S4x512, .f32⟩ : BufTy).Contents (Elt Ideal))
  (x9 : (⟨S4x64x512, .f32⟩ : BufTy).Contents (Elt Ideal))
  (x10 : (⟨S4x160x512, .f32⟩ : BufTy).Contents (Elt Ideal))
  (x12 x13 : (⟨S4x512, .f32⟩ : BufTy).Contents (Elt Ideal))

/-- The norm. -/
theorem v14_row (b : Fin 16) (t : Fin 2112) (d : Fin 1024) :
    val_main_v14 (F := Ideal) x0 x1 (ix3 b t d) = nrm (fun d => x0 (ix3 b t d)) (fun d => x1 (ix2 0 d)) d := by
  pointwise [val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1, nrm]

/-- The projected columns. -/
theorem v17_row (b : Fin 16) (t : Fin 2112) (q : Fin 2336) :
    val_main_v17 (F := Ideal) x0 x1 x2 (ix3 b t q)
      = ∑ d : Fin 1024, val_main_v14 (F := Ideal) x0 x1 (ix3 b t d) * x2 (ix3 0 d q) := by
  pointwise [val_main_v17, val_main_v16, val_main_v15]

/-- The padding's value. -/
theorem pad0 : FloatOps.sitofp (F := Ideal) (w := 32) FTy.f32 0#32 = (0 : EReal) := by
  show (((0#32 : BitVec 32).toInt : ℝ) : EReal) = 0
  simp

/-- The shifted columns. -/
theorem v27_row (b : Fin 16) (t : Fin 2112) (q : Fin 1824) :
    val_main_v27 (F := Ideal) x0 x1 x2 x3 (ix3 b t q)
      = val_main_v17 (F := Ideal) x0 x1 x2 (ix3 b t ⟨512 + q.1, by omega⟩)
        + ((if t.1 = 0 then 0 else val_main_v17 (F := Ideal) x0 x1 x2 (ix3 b ⟨t.1 - 1, by omega⟩ ⟨512 + q.1, by omega⟩))
          - val_main_v17 (F := Ideal) x0 x1 x2 (ix3 b t ⟨512 + q.1, by omega⟩)) * x3 (ix2 0 q) := by
  pointwise [val_main_v27, val_main_v26, val_main_v25, val_main_v24, val_main_v23, val_main_v22, val_main_v21,
    val_main_v20, val_main_v19, val_main_v18, val_main_call0_v0, val_main_c]
  simp only [pad0]
  have ht : t.1 < 2112 := t.2
  by_cases h : t.1 = 0
  · rw [dif_neg (by omega), if_pos h]
  · rw [dif_pos (by omega), if_neg h]

/-- The values. -/
theorem v30_row (b : Fin 16) (t : Fin 2112) (d : Fin 512) :
    val_main_v30 (F := Ideal) x0 x1 x2 x3 (ix3 b t d) = val_main_v27 (F := Ideal) x0 x1 x2 x3 (ix3 b t ⟨1024 + d.1, by omega⟩) := by
  pointwise [val_main_v30]
/-- The same in the narrower format. -/
theorem v82_row (b : Fin 16) (t : Fin 2112) (d : Fin 512) :
    val_main_v82 (F := Ideal) x0 x1 x2 x3 (ix3 b t d) = val_main_v27 (F := Ideal) x0 x1 x2 x3 (ix3 b t ⟨1024 + d.1, by omega⟩) := by
  pointwise [val_main_v82, val_main_v30]

/-- The gate. -/
theorem v56_row (b : Fin 16) (t : Fin 2112) (d : Fin 512) :
    val_main_v56 (F := Ideal) x0 x1 x2 x3 x10 (ix3 b t d)
      = ∑ k : Fin 160, Ideal.div 1 (1 + Ideal.exp (0 - val_main_v27 (F := Ideal) x0 x1 x2 x3 (ix3 b t ⟨1664 + k.1, by omega⟩)))
          * x10 (ix3 0 k d) := by
  pointwise [val_main_v56, val_main_v55, val_main_v54, val_main_v53, val_main_v52, val_main_v51, val_main_v50,
    val_main_v49, val_main_v48, val_main_v33, val_main_cst_4, val_main_cst_5]
  simp only [zero_sub]

/-- The key rate. -/
theorem v47_row (b : Fin 16) (t : Fin 2112) (d : Fin 512) :
    val_main_v47 (F := Ideal) x0 x1 x2 x3 x8 x9 (ix3 b t d)
      = Ideal.div 1 (1 + Ideal.exp (0 - (x8 (ix2 0 d)
          + ∑ k : Fin 64, val_main_v27 (F := Ideal) x0 x1 x2 x3 (ix3 b t ⟨1600 + k.1, by omega⟩) * x9 (ix3 0 k d)))) := by
  pointwise [val_main_v47, val_main_v46, val_main_v45, val_main_v44, val_main_v43, val_main_v42, val_main_v41,
    val_main_v40, val_main_v39, val_main_v38, val_main_v37, val_main_v36, val_main_v35, val_main_v34, val_main_v32,
    val_main_cst_2, val_main_cst_3]
  simp only [zero_sub]

/-- The scaled key. -/
theorem v66_row (b : Fin 16) (t : Fin 2112) (d : Fin 512) :
    val_main_v66 (F := Ideal) x0 x1 x2 x3 x8 x9 x12 (ix3 b t d)
      = val_main_v27 (F := Ideal) x0 x1 x2 x3 (ix3 b t ⟨512 + d.1, by omega⟩)
        * (1 + (val_main_v47 (F := Ideal) x0 x1 x2 x3 x8 x9 (ix3 b t d) - 1) * x12 (ix2 0 d)) := by
  pointwise [val_main_v66, val_main_v65, val_main_v64, val_main_v63, val_main_v62, val_main_v61, val_main_v60,
    val_main_v59, val_main_v58, val_main_v57, val_main_v29, val_main_cst_6, val_main_cst_7]

/-- A head's bonus factor. -/
theorem v77_row (b : Fin 16) (t : Fin 2112) (u : Fin 8) :
    val_main_v77 (F := Ideal) x0 x1 x2 x3 x8 x9 x12 x13 (ix3 b t u)
      = ∑ j : Fin 64, val_main_v27 (F := Ideal) x0 x1 x2 x3 (ix3 b t ⟨64 * u.1 + j.1, by omega⟩)
          * val_main_v66 (F := Ideal) x0 x1 x2 x3 x8 x9 x12 (ix3 b t ⟨64 * u.1 + j.1, by omega⟩)
          * x13 (ix2 0 ⟨64 * u.1 + j.1, by omega⟩) := by
  pointwise [val_main_v77, val_main_v76, val_main_v75, val_main_v74, val_main_v73, val_main_v72, val_main_v71,
    val_main_v70, val_main_v68, val_main_v67, val_main_v28, val_main_cst_8]
  simp only [Nat.mul_comm u.1 64]

/-- The bonus. -/
theorem v81_row (b : Fin 16) (t : Fin 2112) (d : Fin 512) :
    val_main_v81 (F := Ideal) x0 x1 x2 x3 x8 x9 x12 x13 (ix3 b t d)
      = val_main_v77 (F := Ideal) x0 x1 x2 x3 x8 x9 x12 x13 (ix3 b t ⟨d.1 / 64, by omega⟩)
        * val_main_v27 (F := Ideal) x0 x1 x2 x3 (ix3 b t ⟨1024 + d.1, by omega⟩) := by
  pointwise [val_main_v81, val_main_v80, val_main_v79, val_main_v78, val_main_v69, val_main_v30]

end Cert.MixRef
end
-- ==== Proof.MixClaim.lean ====
module

public import proofs.«01_k».proof.Defs
public import proofs.«01_k».proof.Proof.MixFin
public import proofs.«01_k».proof.Proof.MixFrame
public import proofs.«01_k».proof.Proof.MixRef
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import Idealize.ShloMosaic.Lib.Claim
public import Idealize.ShloMosaic.Lib.Quiescent

/-! The claims of the mixers' input call. -/

@[expose] public section

set_option maxRecDepth 16384

noncomputable section

namespace Cert.MixClaim

open Idealize.ShloMosaic Idealize.ShloMosaic.TcCoe Idealize.SL.Sem
open Cert.Mix Cert.MixRef Cert.Reference3Ideal.Read

variable (m : (ℓ : Loc Cert.Kernel3Ideal.nD Cert.Kernel3Ideal.τ Cert.Kernel3Ideal.sig) → Buf (Elt Ideal) ℓ)
  (c : Dev Cert.Kernel3Ideal.nD)

/-- The projected columns are the reference's. -/
theorem same17 (b : Fin 16) (t : Fin 2112) (q : Fin 2336) :
    val_main_v17 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (ix3 b t q) = pr m c b t ⟨q.1, by omega⟩ := by
  rw [v17_row]
  simp only [v14_row]
  unfold pr
  refine Finset.sum_congr rfl fun d _ => ?_
  rw [dif_pos q.2]

/-- The shifted columns are the reference's. -/
theorem same27 (b : Fin 16) (t : Fin 2112) (q : Fin 1824) :
    val_main_v27 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (ix3 b t q) = sh m c b t ⟨512 + q.1, by omega⟩ := by
  rw [v27_row]
  simp only [same17]
  unfold sh pv mu
  rw [dif_pos ⟨by show 512 ≤ 512 + q.1; omega, by show 512 + q.1 < 2336; omega⟩]
  have e : (⟨512 + q.1 - 512, by omega⟩ : Fin 1824) = q := Fin.ext (by show 512 + q.1 - 512 = q.1; omega)
  rw [e]

/-- The column of the reference that is column `k` past the pool's. -/
theorem same27' (b : Fin 16) (t : Fin 2112) (q : Fin 1824) (k : ℕ) (h : k < 2432) (hk : 512 + q.1 = k) :
    val_main_v27 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (ix3 b t q) = sh m c b t ⟨k, h⟩ := by
  subst hk
  exact same27 m c b t q

/-- The values are the reference's. -/
theorem sameV : val_main_v30 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) = resV m c := by
  funext i
  idx_vars i
  exact (v30_row _ _ _ _ _ _ _).trans (same27' m c i0 i1 ⟨1024 + i2.1, by omega⟩ (1536 + i2.1) (by omega)
    (by show 512 + (1024 + i2.1) = 1536 + i2.1; omega))

/-- The values in the kernel's narrower format are the reference's. -/
theorem sameVb : val_main_v82 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) = resV m c := by
  funext i
  idx_vars i
  exact (v82_row _ _ _ _ _ _ _).trans (same27' m c i0 i1 ⟨1024 + i2.1, by omega⟩ (1536 + i2.1) (by omega)
    (by show 512 + (1024 + i2.1) = 1536 + i2.1; omega))

/-- The gate is the reference's. -/
theorem sameG : val_main_v56 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg10)) = resG m c := by
  funext i
  idx_vars i
  refine (v56_row _ _ _ _ _ _ _ _).trans ?_
  show _ = valG m c i0 i1 i2
  unfold valG
  refine Finset.sum_congr rfl fun k _ => ?_
  rw [same27' m c _ _ _ (2176 + k.1) (by omega) (by show 512 + (1664 + k.1) = 2176 + k.1; omega)]
  rfl

/-- The key rate is the reference's. -/
theorem sameA (b : Fin 16) (t : Fin 2112) (d : Fin 512) :
    val_main_v47 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (ix3 b t d) = valA m c b t d := by
  rw [v47_row]
  unfold valA
  refine congrArg (fun s => sgm (b8 m c d + s)) (Finset.sum_congr rfl fun k _ => ?_)
  rw [same27' m c _ _ _ (2112 + k.1) (by omega) (by show 512 + (1600 + k.1) = 2112 + k.1; omega)]

/-- The scaled key is the reference's. -/
theorem sameK (b : Fin 16) (t : Fin 2112) (d : Fin 512) :
    val_main_v66 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg12)) (ix3 b t d) = valK m c b t d := by
  rw [v66_row, sameA, same27' m c _ _ _ (1024 + d.1) (by omega) (by show 512 + (512 + d.1) = 1024 + d.1; omega)]
  rfl

/-- The bonus is the reference's. -/
theorem sameB : val_main_v81 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) = resB m c := by
  funext i
  idx_vars i
  refine (v81_row _ _ _ _ _ _ _ _ _ _ _).trans ?_
  rw [v77_row, same27' m c _ _ _ (1536 + i2.1) (by omega) (by show 512 + (1024 + i2.1) = 1536 + i2.1; omega)]
  simp only [sameK, same27]
  rfl

/-- The kernel's run with every result at what it ends with. -/
theorem run_blocks (ρ : Dev Cert.Kernel3Ideal.nD → PrngReg) :
    θ_run (Cert.Kernel3Ideal.defs (F := Ideal)) (onTc (τ := Cert.Kernel3Ideal.τ) (Cert.Kernel3Ideal.main (F := Ideal))) ⟨m, fun _ => 0, ρ⟩
      (fun r => ∀ c : Dev Cert.Kernel3Ideal.nD,
        r.2.mem ((c.tc : Thread Cert.Kernel3Ideal.nD Cert.Kernel3Ideal.τ).loc Cert.Kernel3Ideal.main_v46_7) = resV m c
        ∧ r.2.mem ((c.tc : Thread Cert.Kernel3Ideal.nD Cert.Kernel3Ideal.τ).loc Cert.Kernel3Ideal.main_v46_8) = resB m c
        ∧ r.2.mem ((c.tc : Thread Cert.Kernel3Ideal.nD Cert.Kernel3Ideal.τ).loc Cert.Kernel3Ideal.main_v46_9) = resG m c
        ∧ r.2.mem ((c.tc : Thread Cert.Kernel3Ideal.nD Cert.Kernel3Ideal.τ).loc Cert.Kernel3Ideal.main_v46_11) = resV m c) :=
  (θ_run _ _ _).mono (fun _ h c => ⟨((h c).1 21).trans (final_vb m c), ((h c).1 22).trans (final_b m c),
    ((h c).1 23).trans (final_g m c), ((h c).1 25).trans (final_v m c)⟩) (run_main (F := Ideal) m ρ)

/-- Kernel and reference end with equal results, over the reals with infinities. -/
theorem algebraic : Cert.algebraic_Kernel3Ideal_Reference3Ideal (hKernel3Ideal := Cert.Kernel3Ideal.Gen.facts)
    (hReference3Ideal := Cert.Reference3Ideal.Gen.facts) := fun m ρ m' ρ' _ hag =>
  ⟨fun c => resV m c, fun c => resB m c, fun c => resG m c, fun c => resV m c,
    (θ_run _ _ _).mono (fun _ h c => ⟨(h.1 c).1, (h.1 c).2.1, (h.1 c).2.2.1, (h.1 c).2.2.2, h.2.1 c⟩)
      (θ_run_and (run_blocks m ρ) (Cert.Mix.frame m ρ)),
    (θ_run _ _ _).mono (fun _ h c => by
      obtain ⟨h0, h1, h2, h3, h4, h5, h6, h7, h8, h9, h10, h11, h12, h13⟩ := hag c
      refine ⟨(h c).1.trans ((val_main_v82_eq m' c).trans ?_), (h c).2.1.trans ((val_main_v81_eq m' c).trans ?_),
        (h c).2.2.1.trans ((val_main_v56_eq m' c).trans ?_), (h c).2.2.2.1.trans ((val_main_v30_eq m' c).trans ?_), (h c).2.2.2.2⟩
      · rw [h0, h1, h2, h3]; exact sameVb m c
      · rw [h0, h1, h2, h3, h8, h9, h12, h13]; exact sameB m c
      · rw [h0, h1, h2, h3, h10]; exact sameG m c
      · rw [h0, h1, h2, h3]; exact sameV m c)
      (Cert.Reference3Ideal.Value.run m' ρ')⟩

/-- The kernel with exact operations leaves its arguments and counters as they were. -/
theorem frame_ideal : Cert.quiescent_Kernel3Ideal (hKernel3Ideal := Cert.Kernel3Ideal.Gen.facts) := fun m ρ _ =>
  Cert.Mix.frame (F := Ideal) m ρ

/-- The reference leaves its arguments as they were; it has no semaphore. -/
theorem frame_ref : Cert.quiescent_Reference3Ideal (hReference3Ideal := Cert.Reference3Ideal.Gen.facts) := fun m ρ _ =>
  (θ_run _ _ _).mono (fun _ h => ⟨fun c => (h c).2.2.2.2, sem_eq_zero_of_no_sems rfl _⟩)
    (Cert.Reference3Ideal.Value.run m ρ)

end Cert.MixClaim
end
-- ==== Proof.lean ====
module

public import proofs.«01_k».proof.Defs
public import proofs.«01_k».proof.Proof.FfnClaim
public import proofs.«01_k».proof.Proof.Ffn2Claim
public import proofs.«01_k».proof.Proof.MixClaim
public import proofs.«01_k».proof.Proof.MixFrameP
public import proofs.«01_k».proof.Proof.Gen.Kernel3.Frame
public import proofs.«01_k».proof.Proof.Gen.Kernel3.Skeleton
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Kernel

/-- Every claim about the program pair. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  fun m ρ _ => Cert.Kernel.Gen.frame m ρ, fun m ρ _ => Cert.KernelIdeal.Gen.frame m ρ, Cert.FfnClaim.frame_ref,
  fun m ρ _ => Cert.Kernel2.Gen.frame m ρ, fun m ρ _ => Cert.Kernel2Ideal.Gen.frame m ρ, Cert.Ffn2Claim.frame_ref,
  fun m ρ _ => Cert.MixP.frame (F := Bits) m ρ, Cert.MixClaim.frame_ideal, Cert.MixClaim.frame_ref,
  trivial, Cert.FfnClaim.algebraic, trivial, Cert.Ffn2Claim.algebraic, trivial, Cert.MixClaim.algebraic⟩

end Cert.Proof

end
